-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_few_candidates [hPre_few_candidates : Cert.Pre_few_candidates.Facts] (m : (ℓ : Loc Cert.KernelIdeal.nD Cert.KernelIdeal.τ Cert.KernelIdeal.sig) → Buf (Elt Ideal) ℓ) : Prop :=
  ∀ c : Dev Cert.KernelIdeal.nD,
    (Cert.Pre_few_candidates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_few_candidates [hPre_few_candidates : Cert.Pre_few_candidates.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_few_candidates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_few_candidates [hKernelIdeal : Cert.KernelIdeal.Facts] [hPre_few_candidates : Cert.Pre_few_candidates.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_few_candidates m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_few_candidates [hReferenceIdeal : Cert.ReferenceIdeal.Facts] [hPre_few_candidates : Cert.Pre_few_candidates.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_few_candidates m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_few_candidates [hKernelIdeal : Cert.KernelIdeal.Facts] [hReferenceIdeal : Cert.ReferenceIdeal.Facts] [hPre_few_candidates : Cert.Pre_few_candidates.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_few_candidates m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_few_candidates : Cert.Pre_few_candidates.Facts),
    quiescent_Kernel (hKernel := hKernel)
    ∧ quiescent_KernelIdeal (hKernelIdeal := hKernelIdeal)
    ∧ quiescent_KernelIdeal_pre_few_candidates (hKernelIdeal := hKernelIdeal) (hPre_few_candidates := hPre_few_candidates)
    ∧ quiescent_ReferenceIdeal (hReferenceIdeal := hReferenceIdeal)
    ∧ quiescent_ReferenceIdeal_pre_few_candidates (hReferenceIdeal := hReferenceIdeal) (hPre_few_candidates := hPre_few_candidates)
    ∧ preserves_Kernel_KernelIdeal
    ∧ algebraic_KernelIdeal_ReferenceIdeal_pre_few_candidates (hKernelIdeal := hKernelIdeal) (hReferenceIdeal := hReferenceIdeal) (hPre_few_candidates := hPre_few_candidates)
-- ==== Pre_few_candidates.lean ====
abbrev S1x2048x768 : Shape := ⟨3, ![1, 2048, 768]⟩
abbrev S12x768x16 : Shape := ⟨3, ![12, 768, 16]⟩
abbrev S12x16x64 : Shape := ⟨3, ![12, 16, 64]⟩
abbrev S12x64x16 : Shape := ⟨3, ![12, 64, 16]⟩
abbrev S12x64 : Shape := ⟨2, ![12, 64]⟩
abbrev S768x768 : Shape := ⟨2, ![768, 768]⟩
abbrev S_ : Shape := ⟨0, ![]⟩
abbrev S2048x768 : Shape := ⟨2, ![2048, 768]⟩
abbrev S12x16x2048 : Shape := ⟨3, ![12, 16, 2048]⟩
abbrev S12x2048x64 : Shape := ⟨3, ![12, 2048, 64]⟩
abbrev S12x2048x2048 : Shape := ⟨3, ![12, 2048, 2048]⟩
abbrev S12x2048 : Shape := ⟨2, ![12, 2048]⟩
abbrev S12x2048x1 : Shape := ⟨3, ![12, 2048, 1]⟩
abbrev S12x1x2048 : Shape := ⟨3, ![12, 1, 2048]⟩
abbrev S12x2048x8 : Shape := ⟨3, ![12, 2048, 8]⟩
abbrev S2048 : Shape := ⟨1, ![2048]⟩
abbrev S2048x1 : Shape := ⟨2, ![2048, 1]⟩
abbrev S2048x2 : Shape := ⟨2, ![2048, 2]⟩

class Facts : Prop where
  bcast_S_S1x2048x768 : S_.BroadcastsInDim S1x2048x768 (![] : Fin 0 → Fin S1x2048x768.rank)
  reducesTo_S1x2048x768_S_d0_1_2 : S1x2048x768.ReducesTo [0, 1, 2] S_
  h_S_ : 0 < S_.numel
  bcast_S_S12x768x16 : S_.BroadcastsInDim S12x768x16 (![] : Fin 0 → Fin S12x768x16.rank)
  reducesTo_S12x768x16_S_d0_1_2 : S12x768x16.ReducesTo [0, 1, 2] S_
  bcast_S_S12x16x64 : S_.BroadcastsInDim S12x16x64 (![] : Fin 0 → Fin S12x16x64.rank)
  reducesTo_S12x16x64_S_d0_1_2 : S12x16x64.ReducesTo [0, 1, 2] S_
  bcast_S_S12x64x16 : S_.BroadcastsInDim S12x64x16 (![] : Fin 0 → Fin S12x64x16.rank)
  reducesTo_S12x64x16_S_d0_1_2 : S12x64x16.ReducesTo [0, 1, 2] S_
  bcast_S_S12x64 : S_.BroadcastsInDim S12x64 (![] : Fin 0 → Fin S12x64.rank)
  reducesTo_S12x64_S_d0_1 : S12x64.ReducesTo [0, 1] S_
  shapeCasts_S1x2048x768_S2048x768 : S1x2048x768.ShapeCasts S2048x768
  bcast_S_S12x2048 : S_.BroadcastsInDim S12x2048 (![] : Fin 0 → Fin S12x2048.rank)
  bcast_S12x2048_S12x2048x1_0_1 : S12x2048.BroadcastsInDim S12x2048x1 (![0, 1] : Fin 2 → Fin S12x2048x1.rank)
  bcast_S12x2048_S12x1x2048_0_2 : S12x2048.BroadcastsInDim S12x1x2048 (![0, 2] : Fin 2 → Fin S12x1x2048.rank)
  bcast_S12x2048x1_S12x2048x2048_0_1_2 : S12x2048x1.BroadcastsInDim S12x2048x2048 (![0, 1, 2] : Fin 3 → Fin S12x2048x2048.rank)
  bcast_S12x1x2048_S12x2048x2048_0_1_2 : S12x1x2048.BroadcastsInDim S12x2048x2048 (![0, 1, 2] : Fin 3 → Fin S12x2048x2048.rank)
  bcast_S_S12x2048x64 : S_.BroadcastsInDim S12x2048x64 (![] : Fin 0 → Fin S12x2048x64.rank)
  slices_S12x2048x64_S12x2048x8_0_0_0 : S12x2048x64.Slices ![0, 0, 0] S12x2048x8
  bcast_S_S12x2048x2048 : S_.BroadcastsInDim S12x2048x2048 (![] : Fin 0 → Fin S12x2048x2048.rank)
  bcast_S_S2048 : S_.BroadcastsInDim S2048 (![] : Fin 0 → Fin S2048.rank)
  bcast_S2048_S2048x1_0 : S2048.BroadcastsInDim S2048x1 (![0] : Fin 1 → Fin S2048x1.rank)
  concatenates_S2048x1_S2048x1_S2048x2_d1 : Shape.Concatenates [S2048x1, S2048x1] S2048x2 1
  bcast_S_S12x1x2048 : S_.BroadcastsInDim S12x1x2048 (![] : Fin 0 → Fin S12x1x2048.rank)
  reducesTo_S12x2048x2048_S12x2048_d2 : S12x2048x2048.ReducesTo [2] S12x2048
  dot_S12x768x16_S2048x768_S12x16x2048_1_1_02_0_n_n_wf : DotDims.WF S12x768x16 S2048x768 S12x16x2048 [1] [1] [0, 2] [0] [] []
  dot_S12x16x2048_S12x16x64_S12x2048x64_1_1_2_2_0_0_wf : DotDims.WF S12x16x2048 S12x16x64 S12x2048x64 [1] [1] [2] [2] [0] [0]
  dot_S12x64x16_S12x2048x64_S12x16x2048_1_2_2_1_0_0_wf : DotDims.WF S12x64x16 S12x2048x64 S12x16x2048 [1] [2] [2] [1] [0] [0]
  dot_S12x2048x64_S12x2048x64_S12x2048x2048_2_2_1_1_0_0_wf : DotDims.WF S12x2048x64 S12x2048x64 S12x2048x2048 [2] [2] [1] [1] [0] [0]
  dot_S12x2048x64_S12x64_S12x2048_2_1_1_n_0_0_wf : DotDims.WF S12x2048x64 S12x64 S12x2048 [2] [1] [1] [] [0] [0]
  dot_S12x2048x8_S12x2048x8_S12x2048x2048_2_2_1_1_0_0_wf : DotDims.WF S12x2048x8 S12x2048x8 S12x2048x2048 [2] [2] [1] [1] [0] [0]
  gather_S12x2048x2048_S2048x2_S12x2048_0_12_n_n_12_1_1211_wf : GatherDims.WF S12x2048x2048 S2048x2 S12x2048 [0] [1, 2] [] [1, 2] [] 1 ![12, 1, 1]

variable [Facts]

def dot_S12x768x16_S2048x768_S12x16x2048_1_1_02_0_n_n : DotDims S12x768x16 S2048x768 S12x16x2048 where
  lhsContracting := [1]
  rhsContracting := [1]
  lhsNonContracting := [0, 2]
  rhsNonContracting := [0]
  lhsBatch := []
  rhsBatch := []
  wf := dot_S12x768x16_S2048x768_S12x16x2048_1_1_02_0_n_n_wf
def dot_S12x16x2048_S12x16x64_S12x2048x64_1_1_2_2_0_0 : DotDims S12x16x2048 S12x16x64 S12x2048x64 where
  lhsContracting := [1]
  rhsContracting := [1]
  lhsNonContracting := [2]
  rhsNonContracting := [2]
  lhsBatch := [0]
  rhsBatch := [0]
  wf := dot_S12x16x2048_S12x16x64_S12x2048x64_1_1_2_2_0_0_wf
def dot_S12x64x16_S12x2048x64_S12x16x2048_1_2_2_1_0_0 : DotDims S12x64x16 S12x2048x64 S12x16x2048 where
  lhsContracting := [1]
  rhsContracting := [2]
  lhsNonContracting := [2]
  rhsNonContracting := [1]
  lhsBatch := [0]
  rhsBatch := [0]
  wf := dot_S12x64x16_S12x2048x64_S12x16x2048_1_2_2_1_0_0_wf
def dot_S12x2048x64_S12x2048x64_S12x2048x2048_2_2_1_1_0_0 : DotDims S12x2048x64 S12x2048x64 S12x2048x2048 where
  lhsContracting := [2]
  rhsContracting := [2]
  lhsNonContracting := [1]
  rhsNonContracting := [1]
  lhsBatch := [0]
  rhsBatch := [0]
  wf := dot_S12x2048x64_S12x2048x64_S12x2048x2048_2_2_1_1_0_0_wf
def dot_S12x2048x64_S12x64_S12x2048_2_1_1_n_0_0 : DotDims S12x2048x64 S12x64 S12x2048 where
  lhsContracting := [2]
  rhsContracting := [1]
  lhsNonContracting := [1]
  rhsNonContracting := []
  lhsBatch := [0]
  rhsBatch := [0]
  wf := dot_S12x2048x64_S12x64_S12x2048_2_1_1_n_0_0_wf
def dot_S12x2048x8_S12x2048x8_S12x2048x2048_2_2_1_1_0_0 : DotDims S12x2048x8 S12x2048x8 S12x2048x2048 where
  lhsContracting := [2]
  rhsContracting := [2]
  lhsNonContracting := [1]
  rhsNonContracting := [1]
  lhsBatch := [0]
  rhsBatch := [0]
  wf := dot_S12x2048x8_S12x2048x8_S12x2048x2048_2_2_1_1_0_0_wf
def gather_S12x2048x2048_S2048x2_S12x2048_0_12_n_n_12_1_1211 : GatherDims S12x2048x2048 S2048x2 S12x2048 where
  offsetDims := [0]
  collapsedSliceDims := [1, 2]
  operandBatchingDims := []
  startIndicesBatchingDims := []
  startIndexMap := [1, 2]
  indexVectorDim := 1
  sliceSizes := ![12, 1, 1]
  wf := gather_S12x2048x2048_S2048x2_S12x2048_0_12_n_n_12_1_1211_wf
def fn_remainder {F : FTy → Type} [FloatOps F] (arg0 : FVec F S12x2048 .f32) (arg1 : IVec S_ 32) : FVec F S12x2048 .f32 :=
  let v0 : FVec F S_ .f32 := sitofp .f32 arg1
  let v1 : FVec F S12x2048 .f32 := broadcastInDim S12x2048 ![] bcast_S_S12x2048 v0
  let v2 : FVec F S12x2048 .f32 := Host.remf arg0 v1
  let cst : FVec F S_ .f32 := constant S_ .f32 0x00000000#32
  let v3 : FVec F S12x2048 .f32 := broadcastInDim S12x2048 ![] bcast_S_S12x2048 cst
  let v4 : IVec S12x2048 1 := cmpf .une v2 v3
  let cst_0 : FVec F S_ .f32 := constant S_ .f32 0x00000000#32
  let v5 : FVec F S12x2048 .f32 := broadcastInDim S12x2048 ![] bcast_S_S12x2048 cst_0
  let v6 : IVec S12x2048 1 := cmpf .olt v2 v5
  let cst_1 : FVec F S_ .f32 := constant S_ .f32 0x00000000#32
  let v7 : IVec S_ 1 := cmpf .olt v0 cst_1
  let v8 : IVec S12x2048 1 := broadcastInDim S12x2048 ![] bcast_S_S12x2048 v7
  let v9 : IVec S12x2048 1 := cmpi .ne v6 v8
  let v10 : IVec S12x2048 1 := andi v9 v4
  let v11 : FVec F S12x2048 .f32 := broadcastInDim S12x2048 ![] bcast_S_S12x2048 v0
  let v12 : FVec F S12x2048 .f32 := addf v2 v11
  let v13 : FVec F S12x2048 .f32 := select v10 v12 v2
  v13

def fn_where {F : FTy → Type} [FloatOps F] (arg0 : IVec S12x2048x64 1) (arg1 : FVec F S_ .f32) (arg2 : FVec F S_ .f32) : FVec F S12x2048x64 .f32 :=
  let v0 : FVec F S12x2048x64 .f32 := broadcastInDim S12x2048x64 ![] bcast_S_S12x2048x64 arg1
  let v1 : FVec F S12x2048x64 .f32 := broadcastInDim S12x2048x64 ![] bcast_S_S12x2048x64 arg2
  let v2 : FVec F S12x2048x64 .f32 := select arg0 v0 v1
  v2

def fn_diagonal {F : FTy → Type} [FloatOps F] (arg0 : IVec S12x2048x2048 1) : IVec S12x2048 1 :=
  let v0 : IVec S2048 32 := iotaInDim S2048 32 0
  let v1 : IVec S2048 32 := iotaInDim S2048 32 0
  let c : IVec S_ 32 := constantI S_ 32 0#32
  let v2 : IVec S2048 32 := broadcastInDim S2048 ![] bcast_S_S2048 c
  let v3 : IVec S2048 1 := cmpi .slt v0 v2
  let c_0 : IVec S_ 32 := constantI S_ 32 2048#32
  let v4 : IVec S2048 32 := broadcastInDim S2048 ![] bcast_S_S2048 c_0
  let v5 : IVec S2048 32 := addi v0 v4
  let v6 : IVec S2048 32 := select v3 v5 v0
  let c_1 : IVec S_ 32 := constantI S_ 32 0#32
  let v7 : IVec S2048 32 := broadcastInDim S2048 ![] bcast_S_S2048 c_1
  let v8 : IVec S2048 1 := cmpi .slt v1 v7
  let c_2 : IVec S_ 32 := constantI S_ 32 2048#32
  let v9 : IVec S2048 32 := broadcastInDim S2048 ![] bcast_S_S2048 c_2
  let v10 : IVec S2048 32 := addi v1 v9
  let v11 : IVec S2048 32 := select v8 v10 v1
  let v12 : IVec S2048x1 32 := broadcastInDim S2048x1 ![0] bcast_S2048_S2048x1_0 v6
  let v13 : IVec S2048x1 32 := broadcastInDim S2048x1 ![0] bcast_S2048_S2048x1_0 v11
  let v14 : IVec S2048x2 32 := (fun a b => concatenate S2048x2 1 [⟨S2048x1, a⟩, ⟨S2048x1, b⟩] concatenates_S2048x1_S2048x1_S2048x2_d1) v12 v13
  let v15 : IVec S12x2048 1 := (fun x i => Host.gather gather_S12x2048x2048_S2048x2_S12x2048_0_12_n_n_12_1_1211 x i) arg0 v14
  v15

def fn_where_0 {F : FTy → Type} [FloatOps F] (arg0 : IVec S12x2048x2048 1) (arg1 : FVec F S_ .f32) (arg2 : FVec F S_ .f32) : FVec F S12x2048x2048 .f32 :=
  let v0 : FVec F S12x2048x2048 .f32 := broadcastInDim S12x2048x2048 ![] bcast_S_S12x2048x2048 arg1
  let v1 : FVec F S12x2048x2048 .f32 := broadcastInDim S12x2048x2048 ![] bcast_S_S12x2048x2048 arg2
  let v2 : FVec F S12x2048x2048 .f32 := select arg0 v0 v1
  v2

def fn_part7 {F : FTy → Type} [FloatOps F] (main_v69 : IVec S_ 1) (main_v123 : IVec S12x2048x2048 1) : IVec S12x2048 1 :=
  let main_cst_42 : FVec F S_ .f32 := constant S_ .f32 0x3F800000#32
  let main_cst_43 : FVec F S_ .f32 := constant S_ .f32 0x00000000#32
  let main_v124 : FVec F S12x2048x2048 .f32 := fn_where_0 (F := F) main_v123 main_cst_42 main_cst_43
  let main_v125 : FVec F S12x2048x2048 .f32 := id main_v124
  let main_cst_44 : FVec F S_ .f32 := constant S_ .f32 0x00000000#32
  let main_v126 : FVec F S12x2048 .f32 := (fun x v => Host.reduceAdd x v reducesTo_S12x2048x2048_S12x2048_d2 h_S_) main_v125 main_cst_44
  let main_cst_45 : FVec F S_ .f32 := constant S_ .f32 0x42800000#32
  let main_v127 : FVec F S12x2048 .f32 := broadcastInDim S12x2048 ![] bcast_S_S12x2048 main_cst_45
  let main_v128 : IVec S12x2048 1 := cmpf .ole main_v126 main_v127
  let main_v129 : IVec S12x2048 1 := broadcastInDim S12x2048 ![] bcast_S_S12x2048 main_v69
  let main_v130 : IVec S12x2048 1 := andi main_v129 main_v128
  main_v130

def fn_part6 {F : FTy → Type} [FloatOps F] (main_v69 : IVec S_ 1) (main_v80 : FVec F S12x2048x2048 .f32) (main_v95 : IVec S12x2048x2048 1) (main_v98 : FVec F S12x2048x64 .f32) (main_v101 : FVec F S12x2048x64 .f32) (main_v104 : FVec F S12x2048x2048 .f32) : IVec S12x2048 1 :=
  let main_cst_37 : FVec F S_ .f32 := constant S_ .f32 0x40F00000#32
  let main_v105 : FVec F S12x2048x2048 .f32 := broadcastInDim S12x2048x2048 ![] bcast_S_S12x2048x2048 main_cst_37
  let main_v106 : IVec S12x2048x2048 1 := cmpf .ogt main_v104 main_v105
  let main_v107 : IVec S12x2048 1 := fn_diagonal (F := F) main_v106
  let main_v108 : FVec F S12x2048x2048 .f32 := (fun l r => Host.dotGeneral dot_S12x2048x64_S12x2048x64_S12x2048x2048_2_2_1_1_0_0 none l r) main_v98 main_v101
  let main_cst_38 : FVec F S_ .f32 := constant S_ .f32 0x427E0000#32
  let main_v109 : FVec F S12x2048x2048 .f32 := broadcastInDim S12x2048x2048 ![] bcast_S_S12x2048x2048 main_cst_38
  let main_v110 : IVec S12x2048x2048 1 := cmpf .ogt main_v108 main_v109
  let main_v111 : IVec S12x1x2048 1 := broadcastInDim S12x1x2048 ![0, 2] bcast_S12x2048_S12x1x2048_0_2 main_v107
  let main_c_39 : IVec S_ 1 := constantI S_ 1 0#1
  let main_v112 : IVec S12x2048x2048 1 := broadcastInDim S12x2048x2048 ![] bcast_S_S12x2048x2048 main_c_39
  let main_v113 : IVec S12x2048x2048 1 := cmpi .ne main_v110 main_v112
  let main_v114 : IVec S12x2048x2048 1 := id main_v113
  let main_c_40 : IVec S_ 1 := constantI S_ 1 0#1
  let main_v115 : IVec S12x1x2048 1 := broadcastInDim S12x1x2048 ![] bcast_S_S12x1x2048 main_c_40
  let main_v116 : IVec S12x1x2048 1 := cmpi .ne main_v111 main_v115
  let main_v117 : IVec S12x1x2048 1 := id main_v116
  let main_v118 : IVec S12x2048x2048 1 := broadcastInDim S12x2048x2048 ![0, 1, 2] bcast_S12x1x2048_S12x2048x2048_0_1_2 main_v117
  let main_v119 : IVec S12x2048x2048 1 := andi main_v114 main_v118
  let main_v120 : IVec S12x2048x2048 1 := andi main_v95 main_v119
  let main_cst_41 : FVec F S_ .f32 := constant S_ .f32 0xCCBEBC20#32
  let main_v121 : FVec F S12x2048x2048 .f32 := broadcastInDim S12x2048x2048 ![] bcast_S_S12x2048x2048 main_cst_41
  let main_v122 : IVec S12x2048x2048 1 := cmpf .ogt main_v80 main_v121
  let main_v123 : IVec S12x2048x2048 1 := andi main_v120 main_v122
  fn_part7 (F := F) main_v69 main_v123

def fn_part5 {F : FTy → Type} [FloatOps F] (main_v69 : IVec S_ 1) (main_v74 : FVec F S12x2048x64 .f32) (main_v79 : FVec F S12x2048x64 .f32) (main_v80 : FVec F S12x2048x2048 .f32) (main_v85 : FVec F S12x2048 .f32) (main_v86 : FVec F S12x2048 .f32) (main_v87 : FVec F S12x2048 .f32) : IVec S12x2048 1 :=
  let main_v88 : FVec F S12x2048 .f32 := Host.divf main_v86 main_v87
  let main_v89 : FVec F S12x2048 .f32 := Host.floor main_v88
  let main_c_30 : IVec S_ 32 := constantI S_ 32 64#32
  let main_v90 : FVec F S12x2048 .f32 := fn_remainder (F := F) main_v89 main_c_30
  let main_v91 : FVec F S12x2048x1 .f32 := broadcastInDim S12x2048x1 ![0, 1] bcast_S12x2048_S12x2048x1_0_1 main_v85
  let main_v92 : FVec F S12x1x2048 .f32 := broadcastInDim S12x1x2048 ![0, 2] bcast_S12x2048_S12x1x2048_0_2 main_v90
  let main_v93 : FVec F S12x2048x2048 .f32 := broadcastInDim S12x2048x2048 ![0, 1, 2] bcast_S12x2048x1_S12x2048x2048_0_1_2 main_v91
  let main_v94 : FVec F S12x2048x2048 .f32 := broadcastInDim S12x2048x2048 ![0, 1, 2] bcast_S12x1x2048_S12x2048x2048_0_1_2 main_v92
  let main_v95 : IVec S12x2048x2048 1 := cmpf .oeq main_v93 main_v94
  let main_cst_31 : FVec F S_ .f32 := constant S_ .f32 0x00000000#32
  let main_v96 : FVec F S12x2048x64 .f32 := broadcastInDim S12x2048x64 ![] bcast_S_S12x2048x64 main_cst_31
  let main_v97 : IVec S12x2048x64 1 := cmpf .ogt main_v74 main_v96
  let main_cst_32 : FVec F S_ .f32 := constant S_ .f32 0x3F800000#32
  let main_cst_33 : FVec F S_ .f32 := constant S_ .f32 0xBF800000#32
  let main_v98 : FVec F S12x2048x64 .f32 := fn_where (F := F) main_v97 main_cst_32 main_cst_33
  let main_cst_34 : FVec F S_ .f32 := constant S_ .f32 0x00000000#32
  let main_v99 : FVec F S12x2048x64 .f32 := broadcastInDim S12x2048x64 ![] bcast_S_S12x2048x64 main_cst_34
  let main_v100 : IVec S12x2048x64 1 := cmpf .ogt main_v79 main_v99
  let main_cst_35 : FVec F S_ .f32 := constant S_ .f32 0x3F800000#32
  let main_cst_36 : FVec F S_ .f32 := constant S_ .f32 0xBF800000#32
  let main_v101 : FVec F S12x2048x64 .f32 := fn_where (F := F) main_v100 main_cst_35 main_cst_36
  let main_v102 : FVec F S12x2048x8 .f32 := (extractStridedSlice S12x2048x8 ![0, 0, 0] · slices_S12x2048x64_S12x2048x8_0_0_0) main_v98
  let main_v103 : FVec F S12x2048x8 .f32 := (extractStridedSlice S12x2048x8 ![0, 0, 0] · slices_S12x2048x64_S12x2048x8_0_0_0) main_v101
  let main_v104 : FVec F S12x2048x2048 .f32 := (fun l r => Host.dotGeneral dot_S12x2048x8_S12x2048x8_S12x2048x2048_2_2_1_1_0_0 none l r) main_v102 main_v103
  fn_part6 (F := F) main_v69 main_v80 main_v95 main_v98 main_v101 main_v104

def fn_part4 {F : FTy → Type} [FloatOps F] (main_arg0 : FVec F S1x2048x768 .f32) (main_arg1 : FVec F S1x2048x768 .f32) (main_arg3 : FVec F S12x768x16 .f32) (main_arg4 : FVec F S12x16x64 .f32) (main_arg5 : FVec F S12x64x16 .f32) (main_arg6 : FVec F S12x16x64 .f32) (main_arg7 : FVec F S12x768x16 .f32) (main_arg8 : FVec F S12x16x64 .f32) (main_arg9 : FVec F S12x64x16 .f32) (main_arg10 : FVec F S12x16x64 .f32) (main_arg13 : FVec F S12x64 .f32) (main_v64 : IVec S_ 1) (main_v67 : IVec S12x64 1) : IVec S12x2048 1 :=
  let main_c_26 : IVec S_ 1 := constantI S_ 1 1#1
  let main_v68 : IVec S_ 1 := (fun x v => Host.reduce IntOp.andi x v reducesTo_S12x64_S_d0_1 h_S_) main_v67 main_c_26
  let main_v69 : IVec S_ 1 := andi main_v64 main_v68
  let main_v70 : FVec F S2048x768 .f32 := shapeCast S2048x768 main_arg0 shapeCasts_S1x2048x768_S2048x768
  let main_v71 : FVec F S12x16x2048 .f32 := (fun l r => Host.dotGeneral dot_S12x768x16_S2048x768_S12x16x2048_1_1_02_0_n_n none l r) main_arg3 main_v70
  let main_v72 : FVec F S12x2048x64 .f32 := (fun l r => Host.dotGeneral dot_S12x16x2048_S12x16x64_S12x2048x64_1_1_2_2_0_0 none l r) main_v71 main_arg4
  let main_v73 : FVec F S12x16x2048 .f32 := (fun l r => Host.dotGeneral dot_S12x64x16_S12x2048x64_S12x16x2048_1_2_2_1_0_0 none l r) main_arg5 main_v72
  let main_v74 : FVec F S12x2048x64 .f32 := (fun l r => Host.dotGeneral dot_S12x16x2048_S12x16x64_S12x2048x64_1_1_2_2_0_0 none l r) main_v73 main_arg6
  let main_v75 : FVec F S2048x768 .f32 := shapeCast S2048x768 main_arg1 shapeCasts_S1x2048x768_S2048x768
  let main_v76 : FVec F S12x16x2048 .f32 := (fun l r => Host.dotGeneral dot_S12x768x16_S2048x768_S12x16x2048_1_1_02_0_n_n none l r) main_arg7 main_v75
  let main_v77 : FVec F S12x2048x64 .f32 := (fun l r => Host.dotGeneral dot_S12x16x2048_S12x16x64_S12x2048x64_1_1_2_2_0_0 none l r) main_v76 main_arg8
  let main_v78 : FVec F S12x16x2048 .f32 := (fun l r => Host.dotGeneral dot_S12x64x16_S12x2048x64_S12x16x2048_1_2_2_1_0_0 none l r) main_arg9 main_v77
  let main_v79 : FVec F S12x2048x64 .f32 := (fun l r => Host.dotGeneral dot_S12x16x2048_S12x16x64_S12x2048x64_1_1_2_2_0_0 none l r) main_v78 main_arg10
  let main_v80 : FVec F S12x2048x2048 .f32 := (fun l r => Host.dotGeneral dot_S12x2048x64_S12x2048x64_S12x2048x2048_2_2_1_1_0_0 none l r) main_v74 main_v79
  let main_v81 : FVec F S12x2048 .f32 := (fun l r => Host.dotGeneral dot_S12x2048x64_S12x64_S12x2048_2_1_1_n_0_0 none l r) main_v74 main_arg13
  let main_cst_27 : FVec F S_ .f32 := constant S_ .f32 0x40800000#32
  let main_v82 : FVec F S12x2048 .f32 := broadcastInDim S12x2048 ![] bcast_S_S12x2048 main_cst_27
  let main_v83 : FVec F S12x2048 .f32 := Host.divf main_v81 main_v82
  let main_v84 : FVec F S12x2048 .f32 := Host.floor main_v83
  let main_c_28 : IVec S_ 32 := constantI S_ 32 64#32
  let main_v85 : FVec F S12x2048 .f32 := fn_remainder (F := F) main_v84 main_c_28
  let main_v86 : FVec F S12x2048 .f32 := (fun l r => Host.dotGeneral dot_S12x2048x64_S12x64_S12x2048_2_1_1_n_0_0 none l r) main_v79 main_arg13
  let main_cst_29 : FVec F S_ .f32 := constant S_ .f32 0x40800000#32
  let main_v87 : FVec F S12x2048 .f32 := broadcastInDim S12x2048 ![] bcast_S_S12x2048 main_cst_29
  fn_part5 (F := F) main_v69 main_v74 main_v79 main_v80 main_v85 main_v86 main_v87

def fn_part3 {F : FTy → Type} [FloatOps F] (main_arg0 : FVec F S1x2048x768 .f32) (main_arg1 : FVec F S1x2048x768 .f32) (main_arg3 : FVec F S12x768x16 .f32) (main_arg4 : FVec F S12x16x64 .f32) (main_arg5 : FVec F S12x64x16 .f32) (main_arg6 : FVec F S12x16x64 .f32) (main_arg7 : FVec F S12x768x16 .f32) (main_arg8 : FVec F S12x16x64 .f32) (main_arg9 : FVec F S12x64x16 .f32) (main_arg10 : FVec F S12x16x64 .f32) (main_arg11 : FVec F S12x768x16 .f32) (main_arg12 : FVec F S12x16x64 .f32) (main_arg13 : FVec F S12x64 .f32) (main_v49 : IVec S_ 1) (main_v50 : FVec F S12x16x64 .f32) : IVec S12x2048 1 :=
  let main_cst_19 : FVec F S_ .f32 := constant S_ .f32 0x7F800000#32
  let main_v51 : FVec F S12x16x64 .f32 := broadcastInDim S12x16x64 ![] bcast_S_S12x16x64 main_cst_19
  let main_v52 : IVec S12x16x64 1 := cmpf .olt main_v50 main_v51
  let main_c_20 : IVec S_ 1 := constantI S_ 1 1#1
  let main_v53 : IVec S_ 1 := (fun x v => Host.reduce IntOp.andi x v reducesTo_S12x16x64_S_d0_1_2 h_S_) main_v52 main_c_20
  let main_v54 : IVec S_ 1 := andi main_v49 main_v53
  let main_v55 : FVec F S12x768x16 .f32 := Host.absf main_arg11
  let main_cst_21 : FVec F S_ .f32 := constant S_ .f32 0x7F800000#32
  let main_v56 : FVec F S12x768x16 .f32 := broadcastInDim S12x768x16 ![] bcast_S_S12x768x16 main_cst_21
  let main_v57 : IVec S12x768x16 1 := cmpf .olt main_v55 main_v56
  let main_c_22 : IVec S_ 1 := constantI S_ 1 1#1
  let main_v58 : IVec S_ 1 := (fun x v => Host.reduce IntOp.andi x v reducesTo_S12x768x16_S_d0_1_2 h_S_) main_v57 main_c_22
  let main_v59 : IVec S_ 1 := andi main_v54 main_v58
  let main_v60 : FVec F S12x16x64 .f32 := Host.absf main_arg12
  let main_cst_23 : FVec F S_ .f32 := constant S_ .f32 0x7F800000#32
  let main_v61 : FVec F S12x16x64 .f32 := broadcastInDim S12x16x64 ![] bcast_S_S12x16x64 main_cst_23
  let main_v62 : IVec S12x16x64 1 := cmpf .olt main_v60 main_v61
  let main_c_24 : IVec S_ 1 := constantI S_ 1 1#1
  let main_v63 : IVec S_ 1 := (fun x v => Host.reduce IntOp.andi x v reducesTo_S12x16x64_S_d0_1_2 h_S_) main_v62 main_c_24
  let main_v64 : IVec S_ 1 := andi main_v59 main_v63
  let main_v65 : FVec F S12x64 .f32 := Host.absf main_arg13
  let main_cst_25 : FVec F S_ .f32 := constant S_ .f32 0x7F800000#32
  let main_v66 : FVec F S12x64 .f32 := broadcastInDim S12x64 ![] bcast_S_S12x64 main_cst_25
  let main_v67 : IVec S12x64 1 := cmpf .olt main_v65 main_v66
  fn_part4 (F := F) main_arg0 main_arg1 main_arg3 main_arg4 main_arg5 main_arg6 main_arg7 main_arg8 main_arg9 main_arg10 main_arg13 main_v64 main_v67

def fn_part2 {F : FTy → Type} [FloatOps F] (main_arg0 : FVec F S1x2048x768 .f32) (main_arg1 : FVec F S1x2048x768 .f32) (main_arg3 : FVec F S12x768x16 .f32) (main_arg4 : FVec F S12x16x64 .f32) (main_arg5 : FVec F S12x64x16 .f32) (main_arg6 : FVec F S12x16x64 .f32) (main_arg7 : FVec F S12x768x16 .f32) (main_arg8 : FVec F S12x16x64 .f32) (main_arg9 : FVec F S12x64x16 .f32) (main_arg10 : FVec F S12x16x64 .f32) (main_arg11 : FVec F S12x768x16 .f32) (main_arg12 : FVec F S12x16x64 .f32) (main_arg13 : FVec F S12x64 .f32) (main_v29 : IVec S_ 1) (main_v32 : IVec S12x16x64 1) (main_c_12 : IVec S_ 1) : IVec S12x2048 1 :=
  let main_v33 : IVec S_ 1 := (fun x v => Host.reduce IntOp.andi x v reducesTo_S12x16x64_S_d0_1_2 h_S_) main_v32 main_c_12
  let main_v34 : IVec S_ 1 := andi main_v29 main_v33
  let main_v35 : FVec F S12x768x16 .f32 := Host.absf main_arg7
  let main_cst_13 : FVec F S_ .f32 := constant S_ .f32 0x7F800000#32
  let main_v36 : FVec F S12x768x16 .f32 := broadcastInDim S12x768x16 ![] bcast_S_S12x768x16 main_cst_13
  let main_v37 : IVec S12x768x16 1 := cmpf .olt main_v35 main_v36
  let main_c_14 : IVec S_ 1 := constantI S_ 1 1#1
  let main_v38 : IVec S_ 1 := (fun x v => Host.reduce IntOp.andi x v reducesTo_S12x768x16_S_d0_1_2 h_S_) main_v37 main_c_14
  let main_v39 : IVec S_ 1 := andi main_v34 main_v38
  let main_v40 : FVec F S12x16x64 .f32 := Host.absf main_arg8
  let main_cst_15 : FVec F S_ .f32 := constant S_ .f32 0x7F800000#32
  let main_v41 : FVec F S12x16x64 .f32 := broadcastInDim S12x16x64 ![] bcast_S_S12x16x64 main_cst_15
  let main_v42 : IVec S12x16x64 1 := cmpf .olt main_v40 main_v41
  let main_c_16 : IVec S_ 1 := constantI S_ 1 1#1
  let main_v43 : IVec S_ 1 := (fun x v => Host.reduce IntOp.andi x v reducesTo_S12x16x64_S_d0_1_2 h_S_) main_v42 main_c_16
  let main_v44 : IVec S_ 1 := andi main_v39 main_v43
  let main_v45 : FVec F S12x64x16 .f32 := Host.absf main_arg9
  let main_cst_17 : FVec F S_ .f32 := constant S_ .f32 0x7F800000#32
  let main_v46 : FVec F S12x64x16 .f32 := broadcastInDim S12x64x16 ![] bcast_S_S12x64x16 main_cst_17
  let main_v47 : IVec S12x64x16 1 := cmpf .olt main_v45 main_v46
  let main_c_18 : IVec S_ 1 := constantI S_ 1 1#1
  let main_v48 : IVec S_ 1 := (fun x v => Host.reduce IntOp.andi x v reducesTo_S12x64x16_S_d0_1_2 h_S_) main_v47 main_c_18
  let main_v49 : IVec S_ 1 := andi main_v44 main_v48
  let main_v50 : FVec F S12x16x64 .f32 := Host.absf main_arg10
  fn_part3 (F := F) main_arg0 main_arg1 main_arg3 main_arg4 main_arg5 main_arg6 main_arg7 main_arg8 main_arg9 main_arg10 main_arg11 main_arg12 main_arg13 main_v49 main_v50

def fn_part1 {F : FTy → Type} [FloatOps F] (main_arg0 : FVec F S1x2048x768 .f32) (main_arg1 : FVec F S1x2048x768 .f32) (main_arg3 : FVec F S12x768x16 .f32) (main_arg4 : FVec F S12x16x64 .f32) (main_arg5 : FVec F S12x64x16 .f32) (main_arg6 : FVec F S12x16x64 .f32) (main_arg7 : FVec F S12x768x16 .f32) (main_arg8 : FVec F S12x16x64 .f32) (main_arg9 : FVec F S12x64x16 .f32) (main_arg10 : FVec F S12x16x64 .f32) (main_arg11 : FVec F S12x768x16 .f32) (main_arg12 : FVec F S12x16x64 .f32) (main_arg13 : FVec F S12x64 .f32) (main_v14 : IVec S_ 1) (main_v15 : FVec F S12x768x16 .f32) (main_cst_5 : FVec F S_ .f32) : IVec S12x2048 1 :=
  let main_v16 : FVec F S12x768x16 .f32 := broadcastInDim S12x768x16 ![] bcast_S_S12x768x16 main_cst_5
  let main_v17 : IVec S12x768x16 1 := cmpf .olt main_v15 main_v16
  let main_c_6 : IVec S_ 1 := constantI S_ 1 1#1
  let main_v18 : IVec S_ 1 := (fun x v => Host.reduce IntOp.andi x v reducesTo_S12x768x16_S_d0_1_2 h_S_) main_v17 main_c_6
  let main_v19 : IVec S_ 1 := andi main_v14 main_v18
  let main_v20 : FVec F S12x16x64 .f32 := Host.absf main_arg4
  let main_cst_7 : FVec F S_ .f32 := constant S_ .f32 0x7F800000#32
  let main_v21 : FVec F S12x16x64 .f32 := broadcastInDim S12x16x64 ![] bcast_S_S12x16x64 main_cst_7
  let main_v22 : IVec S12x16x64 1 := cmpf .olt main_v20 main_v21
  let main_c_8 : IVec S_ 1 := constantI S_ 1 1#1
  let main_v23 : IVec S_ 1 := (fun x v => Host.reduce IntOp.andi x v reducesTo_S12x16x64_S_d0_1_2 h_S_) main_v22 main_c_8
  let main_v24 : IVec S_ 1 := andi main_v19 main_v23
  let main_v25 : FVec F S12x64x16 .f32 := Host.absf main_arg5
  let main_cst_9 : FVec F S_ .f32 := constant S_ .f32 0x7F800000#32
  let main_v26 : FVec F S12x64x16 .f32 := broadcastInDim S12x64x16 ![] bcast_S_S12x64x16 main_cst_9
  let main_v27 : IVec S12x64x16 1 := cmpf .olt main_v25 main_v26
  let main_c_10 : IVec S_ 1 := constantI S_ 1 1#1
  let main_v28 : IVec S_ 1 := (fun x v => Host.reduce IntOp.andi x v reducesTo_S12x64x16_S_d0_1_2 h_S_) main_v27 main_c_10
  let main_v29 : IVec S_ 1 := andi main_v24 main_v28
  let main_v30 : FVec F S12x16x64 .f32 := Host.absf main_arg6
  let main_cst_11 : FVec F S_ .f32 := constant S_ .f32 0x7F800000#32
  let main_v31 : FVec F S12x16x64 .f32 := broadcastInDim S12x16x64 ![] bcast_S_S12x16x64 main_cst_11
  let main_v32 : IVec S12x16x64 1 := cmpf .olt main_v30 main_v31
  let main_c_12 : IVec S_ 1 := constantI S_ 1 1#1
  fn_part2 (F := F) main_arg0 main_arg1 main_arg3 main_arg4 main_arg5 main_arg6 main_arg7 main_arg8 main_arg9 main_arg10 main_arg11 main_arg12 main_arg13 main_v29 main_v32 main_c_12

def fn {F : FTy → Type} [FloatOps F] (main_arg0 : FVec F S1x2048x768 .f32) (main_arg1 : FVec F S1x2048x768 .f32) (main_arg2 : FVec F S1x2048x768 .f32) (main_arg3 : FVec F S12x768x16 .f32) (main_arg4 : FVec F S12x16x64 .f32) (main_arg5 : FVec F S12x64x16 .f32) (main_arg6 : FVec F S12x16x64 .f32) (main_arg7 : FVec F S12x768x16 .f32) (main_arg8 : FVec F S12x16x64 .f32) (main_arg9 : FVec F S12x64x16 .f32) (main_arg10 : FVec F S12x16x64 .f32) (main_arg11 : FVec F S12x768x16 .f32) (main_arg12 : FVec F S12x16x64 .f32) (main_arg13 : FVec F S12x64 .f32) (main_arg14 : FVec F S768x768 .f32) : IVec S12x2048 1 :=
  let main_v0 : FVec F S1x2048x768 .f32 := Host.absf main_arg0
  let main_cst : FVec F S_ .f32 := constant S_ .f32 0x7F800000#32
  let main_v1 : FVec F S1x2048x768 .f32 := broadcastInDim S1x2048x768 ![] bcast_S_S1x2048x768 main_cst
  let main_v2 : IVec S1x2048x768 1 := cmpf .olt main_v0 main_v1
  let main_c : IVec S_ 1 := constantI S_ 1 1#1
  let main_v3 : IVec S_ 1 := (fun x v => Host.reduce IntOp.andi x v reducesTo_S1x2048x768_S_d0_1_2 h_S_) main_v2 main_c
  let main_c_0 : IVec S_ 1 := constantI S_ 1 1#1
  let main_v4 : IVec S_ 1 := andi main_c_0 main_v3
  let main_v5 : FVec F S1x2048x768 .f32 := Host.absf main_arg1
  let main_cst_1 : FVec F S_ .f32 := constant S_ .f32 0x7F800000#32
  let main_v6 : FVec F S1x2048x768 .f32 := broadcastInDim S1x2048x768 ![] bcast_S_S1x2048x768 main_cst_1
  let main_v7 : IVec S1x2048x768 1 := cmpf .olt main_v5 main_v6
  let main_c_2 : IVec S_ 1 := constantI S_ 1 1#1
  let main_v8 : IVec S_ 1 := (fun x v => Host.reduce IntOp.andi x v reducesTo_S1x2048x768_S_d0_1_2 h_S_) main_v7 main_c_2
  let main_v9 : IVec S_ 1 := andi main_v4 main_v8
  let main_v10 : FVec F S1x2048x768 .f32 := Host.absf main_arg2
  let main_cst_3 : FVec F S_ .f32 := constant S_ .f32 0x7F800000#32
  let main_v11 : FVec F S1x2048x768 .f32 := broadcastInDim S1x2048x768 ![] bcast_S_S1x2048x768 main_cst_3
  let main_v12 : IVec S1x2048x768 1 := cmpf .olt main_v10 main_v11
  let main_c_4 : IVec S_ 1 := constantI S_ 1 1#1
  let main_v13 : IVec S_ 1 := (fun x v => Host.reduce IntOp.andi x v reducesTo_S1x2048x768_S_d0_1_2 h_S_) main_v12 main_c_4
  let main_v14 : IVec S_ 1 := andi main_v9 main_v13
  let main_v15 : FVec F S12x768x16 .f32 := Host.absf main_arg3
  let main_cst_5 : FVec F S_ .f32 := constant S_ .f32 0x7F800000#32
  fn_part1 (F := F) main_arg0 main_arg1 main_arg3 main_arg4 main_arg5 main_arg6 main_arg7 main_arg8 main_arg9 main_arg10 main_arg11 main_arg12 main_arg13 main_v14 main_v15 main_cst_5
-- ==== Kernel.lean ====
abbrev S1x2048x768 : Shape := ⟨3, ![1, 2048, 768]⟩
abbrev S12x768x16 : Shape := ⟨3, ![12, 768, 16]⟩
abbrev S12x16x64 : Shape := ⟨3, ![12, 16, 64]⟩
abbrev S12x64x16 : Shape := ⟨3, ![12, 64, 16]⟩
abbrev S12x64 : Shape := ⟨2, ![12, 64]⟩
abbrev S768x768 : Shape := ⟨2, ![768, 768]⟩
abbrev S1x16x64 : Shape := ⟨3, ![1, 16, 64]⟩
abbrev S16x64 : Shape := ⟨2, ![16, 64]⟩
abbrev S1x64x16 : Shape := ⟨3, ![1, 64, 16]⟩
abbrev S64x16 : Shape := ⟨2, ![64, 16]⟩
abbrev S16x16 : Shape := ⟨2, ![16, 16]⟩
abbrev S1x768x16 : Shape := ⟨3, ![1, 768, 16]⟩
abbrev S768x16 : Shape := ⟨2, ![768, 16]⟩
abbrev S768x64 : Shape := ⟨2, ![768, 64]⟩
abbrev S1x768 : Shape := ⟨2, ![1, 768]⟩
abbrev S12x2048x64 : Shape := ⟨3, ![12, 2048, 64]⟩
abbrev S12x2048x128 : Shape := ⟨3, ![12, 2048, 128]⟩
abbrev S1x512x768 : Shape := ⟨3, ![1, 512, 768]⟩
abbrev S12x512x64 : Shape := ⟨3, ![12, 512, 64]⟩
abbrev S12x512x128 : Shape := ⟨3, ![12, 512, 128]⟩
abbrev S512x768 : Shape := ⟨2, ![512, 768]⟩
abbrev S768x12 : Shape := ⟨2, ![768, 12]⟩
abbrev S12x768 : Shape := ⟨2, ![12, 768]⟩
abbrev S512x12 : Shape := ⟨2, ![512, 12]⟩
abbrev S512x64 : Shape := ⟨2, ![512, 64]⟩
abbrev S1x512x64 : Shape := ⟨3, ![1, 512, 64]⟩
abbrev S512x128 : Shape := ⟨2, ![512, 128]⟩
abbrev S1x512x128 : Shape := ⟨3, ![1, 512, 128]⟩
abbrev S1x2048x128 : Shape := ⟨3, ![1, 2048, 128]⟩
abbrev S1x2048x64 : Shape := ⟨3, ![1, 2048, 64]⟩
abbrev S2048x128 : Shape := ⟨2, ![2048, 128]⟩
abbrev S128x2048 : Shape := ⟨2, ![128, 2048]⟩
abbrev S2048x2048 : Shape := ⟨2, ![2048, 2048]⟩
abbrev S1x2048x2048 : Shape := ⟨3, ![1, 2048, 2048]⟩
abbrev S1 : Shape := ⟨1, ![1]⟩
abbrev S1x1x1 : Shape := ⟨3, ![1, 1, 1]⟩
abbrev S2048x64 : Shape := ⟨2, ![2048, 64]⟩
abbrev S64x2048 : Shape := ⟨2, ![64, 2048]⟩
abbrev S2048 : Shape := ⟨1, ![2048]⟩
abbrev S2048x1 : Shape := ⟨2, ![2048, 1]⟩
abbrev S2048x768 : Shape := ⟨2, ![2048, 768]⟩
abbrev S1x1024x64 : Shape := ⟨3, ![1, 1024, 64]⟩
abbrev S64x768 : Shape := ⟨2, ![64, 768]⟩
abbrev S1024x768 : Shape := ⟨2, ![1024, 768]⟩
abbrev S1024x64 : Shape := ⟨2, ![1024, 64]⟩

abbrev nBuf : Space → Nat
  | .hbm => 27
  | .vmem => 51
  | .smem => 0
  | _ => 0

abbrev bufTy : (tb : Table) → Fin (tcTables nBuf tb) → BufTy
  | .hbm, ⟨0, _⟩ => ⟨S1x2048x768, .f32⟩
  | .hbm, ⟨1, _⟩ => ⟨S1x2048x768, .f32⟩
  | .hbm, ⟨2, _⟩ => ⟨S1x2048x768, .f32⟩
  | .hbm, ⟨3, _⟩ => ⟨S12x768x16, .f32⟩
  | .hbm, ⟨4, _⟩ => ⟨S12x16x64, .f32⟩
  | .hbm, ⟨5, _⟩ => ⟨S12x64x16, .f32⟩
  | .hbm, ⟨6, _⟩ => ⟨S12x16x64, .f32⟩
  | .hbm, ⟨7, _⟩ => ⟨S12x768x16, .f32⟩
  | .hbm, ⟨8, _⟩ => ⟨S12x16x64, .f32⟩
  | .hbm, ⟨9, _⟩ => ⟨S12x64x16, .f32⟩
  | .hbm, ⟨10, _⟩ => ⟨S12x16x64, .f32⟩
  | .hbm, ⟨11, _⟩ => ⟨S12x768x16, .f32⟩
  | .hbm, ⟨12, _⟩ => ⟨S12x16x64, .f32⟩
  | .hbm, ⟨13, _⟩ => ⟨S12x64, .f32⟩
  | .hbm, ⟨14, _⟩ => ⟨S768x768, .f32⟩
  | .hbm, ⟨15, _⟩ => ⟨S768x768, .f32⟩
  | .hbm, ⟨16, _⟩ => ⟨S768x768, .f32⟩
  | .hbm, ⟨17, _⟩ => ⟨S768x768, .f32⟩
  | .hbm, ⟨18, _⟩ => ⟨S1x768, .f32⟩
  | .hbm, ⟨19, _⟩ => ⟨S12x2048x64, .f32⟩
  | .hbm, ⟨20, _⟩ => ⟨S12x2048x64, .f32⟩
  | .hbm, ⟨21, _⟩ => ⟨S12x2048x64, .f32⟩
  | .hbm, ⟨22, _⟩ => ⟨S12x2048x128, .i8⟩
  | .hbm, ⟨23, _⟩ => ⟨S12x2048x128, .i8⟩
  | .hbm, ⟨24, _⟩ => ⟨S12x2048x64, .f32⟩
  | .hbm, ⟨25, _⟩ => ⟨S2048x768, .f32⟩
  | .hbm, ⟨26, _⟩ => ⟨S1x2048x768, .f32⟩
  | .local _ .vmem, ⟨0, _⟩ => ⟨S12x768x16, .f32⟩
  | .local _ .vmem, ⟨1, _⟩ => ⟨S12x16x64, .f32⟩
  | .local _ .vmem, ⟨2, _⟩ => ⟨S12x64x16, .f32⟩
  | .local _ .vmem, ⟨3, _⟩ => ⟨S12x16x64, .f32⟩
  | .local _ .vmem, ⟨4, _⟩ => ⟨S12x768x16, .f32⟩
  | .local _ .vmem, ⟨5, _⟩ => ⟨S12x16x64, .f32⟩
  | .local _ .vmem, ⟨6, _⟩ => ⟨S12x64x16, .f32⟩
  | .local _ .vmem, ⟨7, _⟩ => ⟨S12x16x64, .f32⟩
  | .local _ .vmem, ⟨8, _⟩ => ⟨S12x768x16, .f32⟩
  | .local _ .vmem, ⟨9, _⟩ => ⟨S12x16x64, .f32⟩
  | .local _ .vmem, ⟨10, _⟩ => ⟨S768x768, .f32⟩
  | .local _ .vmem, ⟨11, _⟩ => ⟨S768x768, .f32⟩
  | .local _ .vmem, ⟨12, _⟩ => ⟨S768x768, .f32⟩
  | .local _ .vmem, ⟨13, _⟩ => ⟨S1x512x768, .f32⟩
  | .local _ .vmem, ⟨14, _⟩ => ⟨S1x512x768, .f32⟩
  | .local _ .vmem, ⟨15, _⟩ => ⟨S1x512x768, .f32⟩
  | .local _ .vmem, ⟨16, _⟩ => ⟨S1x512x768, .f32⟩
  | .local _ .vmem, ⟨17, _⟩ => ⟨S1x512x768, .f32⟩
  | .local _ .vmem, ⟨18, _⟩ => ⟨S1x512x768, .f32⟩
  | .local _ .vmem, ⟨19, _⟩ => ⟨S768x768, .f32⟩
  | .local _ .vmem, ⟨20, _⟩ => ⟨S768x768, .f32⟩
  | .local _ .vmem, ⟨21, _⟩ => ⟨S768x768, .f32⟩
  | .local _ .vmem, ⟨22, _⟩ => ⟨S1x768, .f32⟩
  | .local _ .vmem, ⟨23, _⟩ => ⟨S12x512x64, .f32⟩
  | .local _ .vmem, ⟨24, _⟩ => ⟨S12x512x64, .f32⟩
  | .local _ .vmem, ⟨25, _⟩ => ⟨S12x512x64, .f32⟩
  | .local _ .vmem, ⟨26, _⟩ => ⟨S12x512x64, .f32⟩
  | .local _ .vmem, ⟨27, _⟩ => ⟨S12x512x64, .f32⟩
  | .local _ .vmem, ⟨28, _⟩ => ⟨S12x512x64, .f32⟩
  | .local _ .vmem, ⟨29, _⟩ => ⟨S12x512x128, .i8⟩
  | .local _ .vmem, ⟨30, _⟩ => ⟨S12x512x128, .i8⟩
  | .local _ .vmem, ⟨31, _⟩ => ⟨S12x512x128, .i8⟩
  | .local _ .vmem, ⟨32, _⟩ => ⟨S12x512x128, .i8⟩
  | .local _ .vmem, ⟨33, _⟩ => ⟨S1x2048x128, .i8⟩
  | .local _ .vmem, ⟨34, _⟩ => ⟨S1x2048x128, .i8⟩
  | .local _ .vmem, ⟨35, _⟩ => ⟨S1x2048x128, .i8⟩
  | .local _ .vmem, ⟨36, _⟩ => ⟨S1x2048x128, .i8⟩
  | .local _ .vmem, ⟨37, _⟩ => ⟨S1x2048x64, .f32⟩
  | .local _ .vmem, ⟨38, _⟩ => ⟨S1x2048x64, .f32⟩
  | .local _ .vmem, ⟨39, _⟩ => ⟨S1x2048x64, .f32⟩
  | .local _ .vmem, ⟨40, _⟩ => ⟨S1x2048x64, .f32⟩
  | .local _ .vmem, ⟨41, _⟩ => ⟨S1x2048x64, .f32⟩
  | .local _ .vmem, ⟨42, _⟩ => ⟨S1x2048x64, .f32⟩
  | .local _ .vmem, ⟨43, _⟩ => ⟨S1x2048x64, .f32⟩
  | .local _ .vmem, ⟨44, _⟩ => ⟨S1x2048x64, .f32⟩
  | .local _ .vmem, ⟨45, _⟩ => ⟨S1x1024x64, .f32⟩
  | .local _ .vmem, ⟨46, _⟩ => ⟨S1x1024x64, .f32⟩
  | .local _ .vmem, ⟨47, _⟩ => ⟨S64x768, .f32⟩
  | .local _ .vmem, ⟨48, _⟩ => ⟨S64x768, .f32⟩
  | .local _ .vmem, ⟨49, _⟩ => ⟨S1024x768, .f32⟩
  | .local _ .vmem, ⟨50, _⟩ => ⟨S1024x768, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_v0_2 : Ref sig .tc := ⟨.hbm, 17, rfl⟩
abbrev main_v1 : Ref sig .tc := ⟨.hbm, 18, rfl⟩
abbrev main_v2_0 : Ref sig .tc := ⟨.hbm, 19, rfl⟩
abbrev main_v2_1 : Ref sig .tc := ⟨.hbm, 20, rfl⟩
abbrev main_v2_2 : Ref sig .tc := ⟨.hbm, 21, rfl⟩
abbrev main_v2_3 : Ref sig .tc := ⟨.hbm, 22, rfl⟩
abbrev main_v2_4 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc1_stg8_0 : Ref sig .tc := ⟨.vmem, 25, rfl⟩
abbrev cc1_stg8_1 : Ref sig .tc := ⟨.vmem, 26, rfl⟩
abbrev cc1_stg9_0 : Ref sig .tc := ⟨.vmem, 27, rfl⟩
abbrev cc1_stg9_1 : Ref sig .tc := ⟨.vmem, 28, rfl⟩
abbrev cc1_stg10_0 : Ref sig .tc := ⟨.vmem, 29, rfl⟩
abbrev cc1_stg10_1 : Ref sig .tc := ⟨.vmem, 30, rfl⟩
abbrev cc1_stg11_0 : Ref sig .tc := ⟨.vmem, 31, rfl⟩
abbrev cc1_stg11_1 : Ref sig .tc := ⟨.vmem, 32, rfl⟩
abbrev cc2_stg0_0 : Ref sig .tc := ⟨.vmem, 33, rfl⟩
abbrev cc2_stg0_1 : Ref sig .tc := ⟨.vmem, 34, rfl⟩
abbrev cc2_stg1_0 : Ref sig .tc := ⟨.vmem, 35, rfl⟩
abbrev cc2_stg1_1 : Ref sig .tc := ⟨.vmem, 36, rfl⟩
abbrev cc2_stg2_0 : Ref sig .tc := ⟨.vmem, 37, rfl⟩
abbrev cc2_stg2_1 : Ref sig .tc := ⟨.vmem, 38, rfl⟩
abbrev cc2_stg3_0 : Ref sig .tc := ⟨.vmem, 39, rfl⟩
abbrev cc2_stg3_1 : Ref sig .tc := ⟨.vmem, 40, rfl⟩
abbrev cc2_stg4_0 : Ref sig .tc := ⟨.vmem, 41, rfl⟩
abbrev cc2_stg4_1 : Ref sig .tc := ⟨.vmem, 42, rfl⟩
abbrev cc2_stg5_0 : Ref sig .tc := ⟨.vmem, 43, rfl⟩
abbrev cc2_stg5_1 : Ref sig .tc := ⟨.vmem, 44, rfl⟩
abbrev cc3_stg0_0 : Ref sig .tc := ⟨.vmem, 45, rfl⟩
abbrev cc3_stg0_1 : Ref sig .tc := ⟨.vmem, 46, rfl⟩
abbrev cc3_stg1_0 : Ref sig .tc := ⟨.vmem, 47, rfl⟩
abbrev cc3_stg1_1 : Ref sig .tc := ⟨.vmem, 48, rfl⟩
abbrev cc3_stg2_0 : Ref sig .tc := ⟨.vmem, 49, rfl⟩
abbrev cc3_stg2_1 : Ref sig .tc := ⟨.vmem, 50, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem7_1 : DmaSem sig := 24
abbrev cc1_sem8_0 : DmaSem sig := 25
abbrev cc1_sem8_1 : DmaSem sig := 26
abbrev cc1_sem9_0 : DmaSem sig := 27
abbrev cc1_sem9_1 : DmaSem sig := 28
abbrev cc1_sem10_0 : DmaSem sig := 29
abbrev cc1_sem10_1 : DmaSem sig := 30
abbrev cc1_sem11_0 : DmaSem sig := 31
abbrev cc1_sem11_1 : DmaSem sig := 32
abbrev cc2_sem0_0 : DmaSem sig := 33
abbrev cc2_sem0_1 : DmaSem sig := 34
abbrev cc2_sem1_0 : DmaSem sig := 35
abbrev cc2_sem1_1 : DmaSem sig := 36
abbrev cc2_sem2_0 : DmaSem sig := 37
abbrev cc2_sem2_1 : DmaSem sig := 38
abbrev cc2_sem3_0 : DmaSem sig := 39
abbrev cc2_sem3_1 : DmaSem sig := 40
abbrev cc2_sem4_0 : DmaSem sig := 41
abbrev cc2_sem4_1 : DmaSem sig := 42
abbrev cc2_sem5_0 : DmaSem sig := 43
abbrev cc2_sem5_1 : DmaSem sig := 44
abbrev cc3_sem0_0 : DmaSem sig := 45
abbrev cc3_sem0_1 : DmaSem sig := 46
abbrev cc3_sem1_0 : DmaSem sig := 47
abbrev cc3_sem1_1 : DmaSem sig := 48
abbrev cc3_sem2_0 : DmaSem sig := 49
abbrev cc3_sem2_1 : DmaSem sig := 50

abbrev nD : Nat := 1
abbrev τ : Topo := Topo.v7x

variable {F : FTy → Type} [FloatOps F]

abbrev grid0 : Pipeline.Grid := .none

abbrev stage0_0 : Fin 1 → Memref sig .tc .vmem S12x768x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12x64x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12x768x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12x16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12x64x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12x768x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S12x16x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S768x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S768x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S768x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1x512x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S768x768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S768x768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S768x768 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x768 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S12x512x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S12x512x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S12x512x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S12x512x128 .i8 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S12x512x128 .i8 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨2, ![12, 1], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x2048x128 .i8 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x2048x128 .i8 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x2048x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x2048x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x2048x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1x2048x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev grid3 : Pipeline.Grid := ⟨2, ![2, 12], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1x1024x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S64x768 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x768 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]
-- ==== ReferenceIdeal.lean ====
abbrev S1x2048x768 : Shape := ⟨3, ![1, 2048, 768]⟩
abbrev S12x768x16 : Shape := ⟨3, ![12, 768, 16]⟩
abbrev S12x16x64 : Shape := ⟨3, ![12, 16, 64]⟩
abbrev S12x64x16 : Shape := ⟨3, ![12, 64, 16]⟩
abbrev S12x64 : Shape := ⟨2, ![12, 64]⟩
abbrev S768x768 : Shape := ⟨2, ![768, 768]⟩
abbrev S2048x768 : Shape := ⟨2, ![2048, 768]⟩
abbrev S12x16x2048 : Shape := ⟨3, ![12, 16, 2048]⟩
abbrev S12x2048x64 : Shape := ⟨3, ![12, 2048, 64]⟩
abbrev S12x2048 : Shape := ⟨2, ![12, 2048]⟩
abbrev S_ : Shape := ⟨0, ![]⟩
abbrev S12x2048x1 : Shape := ⟨3, ![12, 2048, 1]⟩
abbrev S12x1x2048 : Shape := ⟨3, ![12, 1, 2048]⟩
abbrev S12x2048x2048 : Shape := ⟨3, ![12, 2048, 2048]⟩
abbrev S12x2048x8 : Shape := ⟨3, ![12, 2048, 8]⟩
abbrev S2048 : Shape := ⟨1, ![2048]⟩
abbrev S2048x1 : Shape := ⟨2, ![2048, 1]⟩
abbrev S2048x2 : Shape := ⟨2, ![2048, 2]⟩
abbrev S12x1x2048x64 : Shape := ⟨4, ![12, 1, 2048, 64]⟩
abbrev S12x2048x64x1 : Shape := ⟨4, ![12, 2048, 64, 1]⟩
abbrev S1 : Shape := ⟨1, ![1]⟩
abbrev S1x1x1x1 : Shape := ⟨4, ![1, 1, 1, 1]⟩
abbrev S12x2048x64x64 : Shape := ⟨4, ![12, 2048, 64, 64]⟩
abbrev S2048x12x64 : Shape := ⟨3, ![2048, 12, 64]⟩

abbrev nBuf : Space → Nat
  | .hbm => 205
  | .vmem => 0
  | .smem => 0
  | _ => 0

abbrev hbmTy0_0 (i : Nat) : BufTy := match i % 128 with
  | 0 => ⟨S1x2048x768, .f32⟩
  | 1 => ⟨S1x2048x768, .f32⟩
  | 2 => ⟨S1x2048x768, .f32⟩
  | 3 => ⟨S12x768x16, .f32⟩
  | 4 => ⟨S12x16x64, .f32⟩
  | 5 => ⟨S12x64x16, .f32⟩
  | 6 => ⟨S12x16x64, .f32⟩
  | 7 => ⟨S12x768x16, .f32⟩
  | 8 => ⟨S12x16x64, .f32⟩
  | 9 => ⟨S12x64x16, .f32⟩
  | 10 => ⟨S12x16x64, .f32⟩
  | 11 => ⟨S12x768x16, .f32⟩
  | 12 => ⟨S12x16x64, .f32⟩
  | 13 => ⟨S12x64, .f32⟩
  | 14 => ⟨S768x768, .f32⟩
  | 15 => ⟨S2048x768, .f32⟩
  | 16 => ⟨S12x16x2048, .f32⟩
  | 17 => ⟨S12x2048x64, .f32⟩
  | 18 => ⟨S12x16x2048, .f32⟩
  | 19 => ⟨S12x2048x64, .f32⟩
  | 20 => ⟨S2048x768, .f32⟩
  | 21 => ⟨S12x16x2048, .f32⟩
  | 22 => ⟨S12x2048x64, .f32⟩
  | 23 => ⟨S12x16x2048, .f32⟩
  | 24 => ⟨S12x2048x64, .f32⟩
  | 25 => ⟨S2048x768, .f32⟩
  | 26 => ⟨S12x16x2048, .f32⟩
  | 27 => ⟨S12x2048x64, .f32⟩
  | 28 => ⟨S12x2048, .f32⟩
  | 29 => ⟨S_, .f32⟩
  | 30 => ⟨S12x2048, .f32⟩
  | 31 => ⟨S12x2048, .f32⟩
  | 32 => ⟨S12x2048, .f32⟩
  | 33 => ⟨S_, .i32⟩
  | 34 => ⟨S_, .f32⟩
  | 35 => ⟨S12x2048, .f32⟩
  | 36 => ⟨S12x2048, .f32⟩
  | 37 => ⟨S_, .f32⟩
  | 38 => ⟨S12x2048, .f32⟩
  | 39 => ⟨S12x2048, .i1⟩
  | 40 => ⟨S_, .f32⟩
  | 41 => ⟨S12x2048, .f32⟩
  | 42 => ⟨S12x2048, .i1⟩
  | 43 => ⟨S_, .f32⟩
  | 44 => ⟨S_, .i1⟩
  | 45 => ⟨S12x2048, .i1⟩
  | 46 => ⟨S12x2048, .i1⟩
  | 47 => ⟨S12x2048, .i1⟩
  | 48 => ⟨S12x2048, .f32⟩
  | 49 => ⟨S12x2048, .f32⟩
  | 50 => ⟨S12x2048, .f32⟩
  | 51 => ⟨S12x2048, .f32⟩
  | 52 => ⟨S_, .f32⟩
  | 53 => ⟨S12x2048, .f32⟩
  | 54 => ⟨S12x2048, .f32⟩
  | 55 => ⟨S12x2048, .f32⟩
  | 56 => ⟨S_, .i32⟩
  | 57 => ⟨S_, .f32⟩
  | 58 => ⟨S12x2048, .f32⟩
  | 59 => ⟨S12x2048, .f32⟩
  | 60 => ⟨S_, .f32⟩
  | 61 => ⟨S12x2048, .f32⟩
  | 62 => ⟨S12x2048, .i1⟩
  | 63 => ⟨S_, .f32⟩
  | 64 => ⟨S12x2048, .f32⟩
  | 65 => ⟨S12x2048, .i1⟩
  | 66 => ⟨S_, .f32⟩
  | 67 => ⟨S_, .i1⟩
  | 68 => ⟨S12x2048, .i1⟩
  | 69 => ⟨S12x2048, .i1⟩
  | 70 => ⟨S12x2048, .i1⟩
  | 71 => ⟨S12x2048, .f32⟩
  | 72 => ⟨S12x2048, .f32⟩
  | 73 => ⟨S12x2048, .f32⟩
  | 74 => ⟨S12x2048x1, .f32⟩
  | 75 => ⟨S12x1x2048, .f32⟩
  | 76 => ⟨S12x2048x2048, .f32⟩
  | 77 => ⟨S12x2048x2048, .f32⟩
  | 78 => ⟨S12x2048x2048, .i1⟩
  | 79 => ⟨S_, .f32⟩
  | 80 => ⟨S12x2048x64, .f32⟩
  | 81 => ⟨S12x2048x64, .i1⟩
  | 82 => ⟨S_, .f32⟩
  | 83 => ⟨S_, .f32⟩
  | 84 => ⟨S12x2048x64, .f32⟩
  | 85 => ⟨S12x2048x64, .f32⟩
  | 86 => ⟨S12x2048x64, .f32⟩
  | 87 => ⟨S_, .f32⟩
  | 88 => ⟨S12x2048x64, .f32⟩
  | 89 => ⟨S12x2048x64, .i1⟩
  | 90 => ⟨S_, .f32⟩
  | 91 => ⟨S_, .f32⟩
  | 92 => ⟨S12x2048x64, .f32⟩
  | 93 => ⟨S12x2048x64, .f32⟩
  | 94 => ⟨S12x2048x64, .f32⟩
  | 95 => ⟨S12x2048x8, .f32⟩
  | 96 => ⟨S12x2048x8, .f32⟩
  | 97 => ⟨S12x2048x2048, .f32⟩
  | 98 => ⟨S_, .f32⟩
  | 99 => ⟨S12x2048x2048, .f32⟩
  | 100 => ⟨S12x2048x2048, .i1⟩
  | 101 => ⟨S2048, .i32⟩
  | 102 => ⟨S2048, .i32⟩
  | 103 => ⟨S_, .i32⟩
  | 104 => ⟨S2048, .i32⟩
  | 105 => ⟨S2048, .i1⟩
  | 106 => ⟨S_, .i32⟩
  | 107 => ⟨S2048, .i32⟩
  | 108 => ⟨S2048, .i32⟩
  | 109 => ⟨S2048, .i32⟩
  | 110 => ⟨S_, .i32⟩
  | 111 => ⟨S2048, .i32⟩
  | 112 => ⟨S2048, .i1⟩
  | 113 => ⟨S_, .i32⟩
  | 114 => ⟨S2048, .i32⟩
  | 115 => ⟨S2048, .i32⟩
  | 116 => ⟨S2048, .i32⟩
  | 117 => ⟨S2048x1, .i32⟩
  | 118 => ⟨S2048x1, .i32⟩
  | 119 => ⟨S2048x2, .i32⟩
  | 120 => ⟨S12x2048, .i1⟩
  | 121 => ⟨S12x2048x2048, .f32⟩
  | 122 => ⟨S_, .f32⟩
  | 123 => ⟨S12x2048x2048, .f32⟩
  | 124 => ⟨S12x2048x2048, .i1⟩
  | 125 => ⟨S12x1x2048, .i1⟩
  | 126 => ⟨S_, .i1⟩
  | 127 => ⟨S12x2048x2048, .i1⟩
  | _ => ⟨S1x2048x768, .f32⟩

abbrev hbmTy0_1 (i : Nat) : BufTy := match i % 128 with
  | 0 => ⟨S12x2048x2048, .i1⟩
  | 1 => ⟨S12x2048x2048, .i1⟩
  | 2 => ⟨S_, .i1⟩
  | 3 => ⟨S12x1x2048, .i1⟩
  | 4 => ⟨S12x1x2048, .i1⟩
  | 5 => ⟨S12x1x2048, .i1⟩
  | 6 => ⟨S12x2048x2048, .i1⟩
  | 7 => ⟨S12x2048x2048, .i1⟩
  | 8 => ⟨S12x2048x2048, .i1⟩
  | 9 => ⟨S12x2048x2048, .f32⟩
  | 10 => ⟨S_, .f32⟩
  | 11 => ⟨S_, .f32⟩
  | 12 => ⟨S12x2048x2048, .f32⟩
  | 13 => ⟨S12x2048x2048, .f32⟩
  | 14 => ⟨S12x2048x64, .f32⟩
  | 15 => ⟨S12x2048x64, .i32⟩
  | 16 => ⟨S_, .f32⟩
  | 17 => ⟨S12x2048x64, .f32⟩
  | 18 => ⟨S12x2048x64, .i1⟩
  | 19 => ⟨S_, .f32⟩
  | 20 => ⟨S12x2048x64, .f32⟩
  | 21 => ⟨S12x2048x64, .f32⟩
  | 22 => ⟨S_, .f32⟩
  | 23 => ⟨S12x2048x64, .f32⟩
  | 24 => ⟨S12x2048x64, .f32⟩
  | 25 => ⟨S_, .f32⟩
  | 26 => ⟨S12x2048, .f32⟩
  | 27 => ⟨S12x2048x1, .f32⟩
  | 28 => ⟨S12x2048x64, .f32⟩
  | 29 => ⟨S12x2048x64, .f32⟩
  | 30 => ⟨S12x2048x64, .f32⟩
  | 31 => ⟨S_, .f32⟩
  | 32 => ⟨S_, .f32⟩
  | 33 => ⟨S12x2048x64, .f32⟩
  | 34 => ⟨S12x2048x64, .f32⟩
  | 35 => ⟨S_, .f32⟩
  | 36 => ⟨S12x2048, .f32⟩
  | 37 => ⟨S12x2048x1, .f32⟩
  | 38 => ⟨S_, .f32⟩
  | 39 => ⟨S12x2048x1, .f32⟩
  | 40 => ⟨S12x2048x1, .f32⟩
  | 41 => ⟨S12x2048x64, .f32⟩
  | 42 => ⟨S12x2048x64, .f32⟩
  | 43 => ⟨S_, .i32⟩
  | 44 => ⟨S_, .i32⟩
  | 45 => ⟨S12x2048x64, .i32⟩
  | 46 => ⟨S12x2048x64, .i32⟩
  | 47 => ⟨S12x1x2048x64, .f32⟩
  | 48 => ⟨S12x2048x64x1, .i32⟩
  | 49 => ⟨S_, .i32⟩
  | 50 => ⟨S12x2048x64x1, .i32⟩
  | 51 => ⟨S12x2048x64x1, .i1⟩
  | 52 => ⟨S_, .i32⟩
  | 53 => ⟨S12x2048x64x1, .i32⟩
  | 54 => ⟨S12x2048x64x1, .i32⟩
  | 55 => ⟨S12x2048x64x1, .i32⟩
  | 56 => ⟨S12x2048x64, .f32⟩
  | 57 => ⟨S1, .i32⟩
  | 58 => ⟨S_, .i32⟩
  | 59 => ⟨S12x2048x64x1, .i32⟩
  | 60 => ⟨S12x2048x64x1, .i1⟩
  | 61 => ⟨S1x1x1x1, .i32⟩
  | 62 => ⟨S12x2048x64x1, .i32⟩
  | 63 => ⟨S12x2048x64x1, .i1⟩
  | 64 => ⟨S12x2048x64x1, .i1⟩
  | 65 => ⟨S_, .i1⟩
  | 66 => ⟨S12x2048x64, .i1⟩
  | 67 => ⟨S12x2048x64x64, .f32⟩
  | 68 => ⟨S12x2048x64x64, .i1⟩
  | 69 => ⟨S_, .f32⟩
  | 70 => ⟨S12x2048x64x64, .f32⟩
  | 71 => ⟨S12x2048x64x64, .f32⟩
  | 72 => ⟨S12x2048x64, .f32⟩
  | 73 => ⟨S2048x12x64, .f32⟩
  | 74 => ⟨S2048x768, .f32⟩
  | 75 => ⟨S2048x768, .f32⟩
  | 76 => ⟨S1x2048x768, .f32⟩
  | _ => ⟨S1x2048x768, .f32⟩

abbrev hbmTy (i : Nat) : BufTy := match i / 128 with
  | 0 => hbmTy0_0 i
  | 1 => hbmTy0_1 i
  | _ => ⟨S1x2048x768, .f32⟩

abbrev bufTy : (tb : Table) → Fin (tcTables nBuf tb) → BufTy
  | .hbm, ⟨i, _⟩ => hbmTy i
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_cst : Ref sig .tc := ⟨.hbm, 37, rfl⟩
abbrev main_call0_v3 : Ref sig .tc := ⟨.hbm, 38, rfl⟩
abbrev main_call0_v4 : Ref sig .tc := ⟨.hbm, 39, rfl⟩
abbrev main_call0_cst_0 : Ref sig .tc := ⟨.hbm, 40, rfl⟩
abbrev main_call0_v5 : Ref sig .tc := ⟨.hbm, 41, rfl⟩
abbrev main_call0_v6 : Ref sig .tc := ⟨.hbm, 42, rfl⟩
abbrev main_call0_cst_1 : Ref sig .tc := ⟨.hbm, 43, rfl⟩
abbrev main_call0_v7 : Ref sig .tc := ⟨.hbm, 44, rfl⟩
abbrev main_call0_v8 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_v12 : Ref sig .tc := ⟨.hbm, 49, rfl⟩
abbrev main_v17 : Ref sig .tc := ⟨.hbm, 50, rfl⟩
abbrev main_v18 : Ref sig .tc := ⟨.hbm, 51, rfl⟩
abbrev main_cst_0 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_c_1 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_cst : Ref sig .tc := ⟨.hbm, 60, rfl⟩
abbrev main_call1_v3 : Ref sig .tc := ⟨.hbm, 61, rfl⟩
abbrev main_call1_v4 : Ref sig .tc := ⟨.hbm, 62, rfl⟩
abbrev main_call1_cst_0 : Ref sig .tc := ⟨.hbm, 63, rfl⟩
abbrev main_call1_v5 : Ref sig .tc := ⟨.hbm, 64, rfl⟩
abbrev main_call1_v6 : Ref sig .tc := ⟨.hbm, 65, rfl⟩
abbrev main_call1_cst_1 : Ref sig .tc := ⟨.hbm, 66, rfl⟩
abbrev main_call1_v7 : Ref sig .tc := ⟨.hbm, 67, rfl⟩
abbrev main_call1_v8 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_v12 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_cst_2 : Ref sig .tc := ⟨.hbm, 79, rfl⟩
abbrev main_v28 : Ref sig .tc := ⟨.hbm, 80, rfl⟩
abbrev main_v29 : Ref sig .tc := ⟨.hbm, 81, rfl⟩
abbrev main_cst_3 : Ref sig .tc := ⟨.hbm, 82, rfl⟩
abbrev main_cst_4 : Ref sig .tc := ⟨.hbm, 83, rfl⟩
abbrev main_call2_v0 : Ref sig .tc := ⟨.hbm, 84, rfl⟩
abbrev main_call2_v1 : Ref sig .tc := ⟨.hbm, 85, rfl⟩
abbrev main_v30 : Ref sig .tc := ⟨.hbm, 86, rfl⟩
abbrev main_cst_5 : Ref sig .tc := ⟨.hbm, 87, rfl⟩
abbrev main_v31 : Ref sig .tc := ⟨.hbm, 88, rfl⟩
abbrev main_v32 : Ref sig .tc := ⟨.hbm, 89, rfl⟩
abbrev main_cst_6 : Ref sig .tc := ⟨.hbm, 90, rfl⟩
abbrev main_cst_7 : Ref sig .tc := ⟨.hbm, 91, rfl⟩
abbrev main_call3_v0 : Ref sig .tc := ⟨.hbm, 92, rfl⟩
abbrev main_call3_v1 : Ref sig .tc := ⟨.hbm, 93, rfl⟩
abbrev main_v33 : Ref sig .tc := ⟨.hbm, 94, rfl⟩
abbrev main_v34 : Ref sig .tc := ⟨.hbm, 95, rfl⟩
abbrev main_v35 : Ref sig .tc := ⟨.hbm, 96, rfl⟩
abbrev main_v36 : Ref sig .tc := ⟨.hbm, 97, rfl⟩
abbrev main_cst_8 : Ref sig .tc := ⟨.hbm, 98, rfl⟩
abbrev main_v37 : Ref sig .tc := ⟨.hbm, 99, rfl⟩
abbrev main_v38 : Ref sig .tc := ⟨.hbm, 100, rfl⟩
abbrev main_call4_v0 : Ref sig .tc := ⟨.hbm, 101, rfl⟩
abbrev main_call4_v1 : Ref sig .tc := ⟨.hbm, 102, rfl⟩
abbrev main_call4_c : Ref sig .tc := ⟨.hbm, 103, rfl⟩
abbrev main_call4_v2 : Ref sig .tc := ⟨.hbm, 104, rfl⟩
abbrev main_call4_v3 : Ref sig .tc := ⟨.hbm, 105, rfl⟩
abbrev main_call4_c_0 : Ref sig .tc := ⟨.hbm, 106, rfl⟩
abbrev main_call4_v4 : Ref sig .tc := ⟨.hbm, 107, rfl⟩
abbrev main_call4_v5 : Ref sig .tc := ⟨.hbm, 108, rfl⟩
abbrev main_call4_v6 : Ref sig .tc := ⟨.hbm, 109, rfl⟩
abbrev main_call4_c_1 : Ref sig .tc := ⟨.hbm, 110, rfl⟩
abbrev main_call4_v7 : Ref sig .tc := ⟨.hbm, 111, rfl⟩
abbrev main_call4_v8 : Ref sig .tc := ⟨.hbm, 112, rfl⟩
abbrev main_call4_c_2 : Ref sig .tc := ⟨.hbm, 113, rfl⟩
abbrev main_call4_v9 : Ref sig .tc := ⟨.hbm, 114, rfl⟩
abbrev main_call4_v10 : Ref sig .tc := ⟨.hbm, 115, rfl⟩
abbrev main_call4_v11 : Ref sig .tc := ⟨.hbm, 116, rfl⟩
abbrev main_call4_v12 : Ref sig .tc := ⟨.hbm, 117, rfl⟩
abbrev main_call4_v13 : Ref sig .tc := ⟨.hbm, 118, rfl⟩
abbrev main_call4_v14 : Ref sig .tc := ⟨.hbm, 119, rfl⟩
abbrev main_v39 : Ref sig .tc := ⟨.hbm, 120, rfl⟩
abbrev main_v40 : Ref sig .tc := ⟨.hbm, 121, rfl⟩
abbrev main_cst_9 : Ref sig .tc := ⟨.hbm, 122, rfl⟩
abbrev main_v41 : Ref sig .tc := ⟨.hbm, 123, rfl⟩
abbrev main_v42 : Ref sig .tc := ⟨.hbm, 124, rfl⟩
abbrev main_v43 : Ref sig .tc := ⟨.hbm, 125, rfl⟩
abbrev main_c_10 : Ref sig .tc := ⟨.hbm, 126, rfl⟩
abbrev main_v44 : Ref sig .tc := ⟨.hbm, 127, rfl⟩
abbrev main_v45 : Ref sig .tc := ⟨.hbm, 128, rfl⟩
abbrev main_v46 : Ref sig .tc := ⟨.hbm, 129, rfl⟩
abbrev main_c_11 : Ref sig .tc := ⟨.hbm, 130, rfl⟩
abbrev main_v47 : Ref sig .tc := ⟨.hbm, 131, rfl⟩
abbrev main_v48 : Ref sig .tc := ⟨.hbm, 132, rfl⟩
abbrev main_v49 : Ref sig .tc := ⟨.hbm, 133, rfl⟩
abbrev main_v50 : Ref sig .tc := ⟨.hbm, 134, rfl⟩
abbrev main_v51 : Ref sig .tc := ⟨.hbm, 135, rfl⟩
abbrev main_v52 : Ref sig .tc := ⟨.hbm, 136, rfl⟩
abbrev main_v53 : Ref sig .tc := ⟨.hbm, 137, rfl⟩
abbrev main_cst_12 : Ref sig .tc := ⟨.hbm, 138, rfl⟩
abbrev main_call5_v0 : Ref sig .tc := ⟨.hbm, 139, rfl⟩
abbrev main_call5_v1 : Ref sig .tc := ⟨.hbm, 140, rfl⟩
abbrev main_v54 : Ref sig .tc := ⟨.hbm, 141, rfl⟩
abbrev main_values : Ref sig .tc := ⟨.hbm, 142, rfl⟩
abbrev main_indices : Ref sig .tc := ⟨.hbm, 143, rfl⟩
abbrev main_cst_13 : Ref sig .tc := ⟨.hbm, 144, rfl⟩
abbrev main_v55 : Ref sig .tc := ⟨.hbm, 145, rfl⟩
abbrev main_v56 : Ref sig .tc := ⟨.hbm, 146, rfl⟩
abbrev main_cst_14 : Ref sig .tc := ⟨.hbm, 147, rfl⟩
abbrev main_v57 : Ref sig .tc := ⟨.hbm, 148, rfl⟩
abbrev main_v58 : Ref sig .tc := ⟨.hbm, 149, rfl⟩
abbrev main_cst_15 : Ref sig .tc := ⟨.hbm, 150, rfl⟩
abbrev main_v59 : Ref sig .tc := ⟨.hbm, 151, rfl⟩
abbrev main_v60 : Ref sig .tc := ⟨.hbm, 152, rfl⟩
abbrev main_cst_16 : Ref sig .tc := ⟨.hbm, 153, rfl⟩
abbrev main_v61 : Ref sig .tc := ⟨.hbm, 154, rfl⟩
abbrev main_v62 : Ref sig .tc := ⟨.hbm, 155, rfl⟩
abbrev main_v63 : Ref sig .tc := ⟨.hbm, 156, rfl⟩
abbrev main_v64 : Ref sig .tc := ⟨.hbm, 157, rfl⟩
abbrev main_v65 : Ref sig .tc := ⟨.hbm, 158, rfl⟩
abbrev main_cst_17 : Ref sig .tc := ⟨.hbm, 159, rfl⟩
abbrev main_call6_v0 : Ref sig .tc := ⟨.hbm, 160, rfl⟩
abbrev main_call6_v1 : Ref sig .tc := ⟨.hbm, 161, rfl⟩
abbrev main_v66 : Ref sig .tc := ⟨.hbm, 162, rfl⟩
abbrev main_cst_18 : Ref sig .tc := ⟨.hbm, 163, rfl⟩
abbrev main_v67 : Ref sig .tc := ⟨.hbm, 164, rfl⟩
abbrev main_v68 : Ref sig .tc := ⟨.hbm, 165, rfl⟩
abbrev main_cst_19 : Ref sig .tc := ⟨.hbm, 166, rfl⟩
abbrev main_v69 : Ref sig .tc := ⟨.hbm, 167, rfl⟩
abbrev main_v70 : Ref sig .tc := ⟨.hbm, 168, rfl⟩
abbrev main_v71 : Ref sig .tc := ⟨.hbm, 169, rfl⟩
abbrev main_v72 : Ref sig .tc := ⟨.hbm, 170, rfl⟩
abbrev main_c_20 : Ref sig .tc := ⟨.hbm, 171, rfl⟩
abbrev main_call7_v0 : Ref sig .tc := ⟨.hbm, 172, rfl⟩
abbrev main_call7_v1 : Ref sig .tc := ⟨.hbm, 173, rfl⟩
abbrev main_v73 : Ref sig .tc := ⟨.hbm, 174, rfl⟩
abbrev main_v74 : Ref sig .tc := ⟨.hbm, 175, rfl⟩
abbrev main_v75 : Ref sig .tc := ⟨.hbm, 176, rfl⟩
abbrev main_call8_c : Ref sig .tc := ⟨.hbm, 177, rfl⟩
abbrev main_call8_v0 : Ref sig .tc := ⟨.hbm, 178, rfl⟩
abbrev main_call8_v1 : Ref sig .tc := ⟨.hbm, 179, rfl⟩
abbrev main_call8_c_0 : Ref sig .tc := ⟨.hbm, 180, rfl⟩
abbrev main_call8_v2 : Ref sig .tc := ⟨.hbm, 181, rfl⟩
abbrev main_call8_v3 : Ref sig .tc := ⟨.hbm, 182, rfl⟩
abbrev main_call8_v4 : Ref sig .tc := ⟨.hbm, 183, rfl⟩
abbrev main_call8_v5 : Ref sig .tc := ⟨.hbm, 184, rfl⟩
abbrev main_call8_c_1 : Ref sig .tc := ⟨.hbm, 185, rfl⟩
abbrev main_call8_c_2 : Ref sig .tc := ⟨.hbm, 186, rfl⟩
abbrev main_call8_v6 : Ref sig .tc := ⟨.hbm, 187, rfl⟩
abbrev main_call8_v7 : Ref sig .tc := ⟨.hbm, 188, rfl⟩
abbrev main_call8_v8 : Ref sig .tc := ⟨.hbm, 189, rfl⟩
abbrev main_call8_v9 : Ref sig .tc := ⟨.hbm, 190, rfl⟩
abbrev main_call8_v10 : Ref sig .tc := ⟨.hbm, 191, rfl⟩
abbrev main_call8_v11 : Ref sig .tc := ⟨.hbm, 192, rfl⟩
abbrev main_call8_c_3 : Ref sig .tc := ⟨.hbm, 193, rfl⟩
abbrev main_call8_v12 : Ref sig .tc := ⟨.hbm, 194, rfl⟩
abbrev main_call8_v13 : Ref sig .tc := ⟨.hbm, 195, rfl⟩
abbrev main_call8_v14 : Ref sig .tc := ⟨.hbm, 196, rfl⟩
abbrev main_call8_cst : Ref sig .tc := ⟨.hbm, 197, rfl⟩
abbrev main_call8_v15 : Ref sig .tc := ⟨.hbm, 198, rfl⟩
abbrev main_v76 : Ref sig .tc := ⟨.hbm, 199, rfl⟩
abbrev main_v77 : Ref sig .tc := ⟨.hbm, 200, rfl⟩
abbrev main_v78 : Ref sig .tc := ⟨.hbm, 201, rfl⟩
abbrev main_v79 : Ref sig .tc := ⟨.hbm, 202, rfl⟩
abbrev main_v80 : Ref sig .tc := ⟨.hbm, 203, rfl⟩
abbrev main_v81 : Ref sig .tc := ⟨.hbm, 204, rfl⟩

abbrev nD : Nat := 1
abbrev τ : Topo := Topo.v7x

variable {F : FTy → Type} [FloatOps F]
-- ==== Proof.KernelIdealPrep.lean ====
/- The first call (the effective weight matrices): what its body leaves, and its obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the call is entered
variable (V : (c : Dev nD) → (b : Ref sig .tc) → Buf (Elt F) ((c : Thread nD τ).loc b))

/-! # REGION 0 of @main: custom_call 0, `cc0__prep_body` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2 holds its block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3 holds its block at every point. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4 holds its block at every point. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5 holds its block at every point. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6 holds its block at every point. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7 holds its block at every point. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8 holds its block at every point. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- Input window 9 holds its block at every point. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S12x16x64 := Rect.unit (s := S12x16x64) ![0, 0, 0] S1x16x64.size inb_S12x16x64_S1x16x64_0_0_0
abbrev r0_1 : Rect S12x64x16 := Rect.unit (s := S12x64x16) ![0, 0, 0] S1x64x16.size inb_S12x64x16_S1x64x16_0_0_0
abbrev r0_2 : Rect S12x768x16 := Rect.unit (s := S12x768x16) ![0, 0, 0] S1x768x16.size inb_S12x768x16_S1x768x16_0_0_0
abbrev r0_3 : Rect S768x768 := Rect.unit (s := S768x768) ![0, 0] S768x64.size inb_S768x768_S768x64_0_0
abbrev r0_4 : Rect S12x16x64 := Rect.unit (s := S12x16x64) ![1, 0, 0] S1x16x64.size inb_S12x16x64_S1x16x64_1_0_0
abbrev r0_5 : Rect S12x64x16 := Rect.unit (s := S12x64x16) ![1, 0, 0] S1x64x16.size inb_S12x64x16_S1x64x16_1_0_0
abbrev r0_6 : Rect S12x768x16 := Rect.unit (s := S12x768x16) ![1, 0, 0] S1x768x16.size inb_S12x768x16_S1x768x16_1_0_0
abbrev r0_7 : Rect S768x768 := Rect.unit (s := S768x768) ![0, 64] S768x64.size inb_S768x768_S768x64_0_64
abbrev r0_8 : Rect S12x16x64 := Rect.unit (s := S12x16x64) ![2, 0, 0] S1x16x64.size inb_S12x16x64_S1x16x64_2_0_0
abbrev r0_9 : Rect S12x64x16 := Rect.unit (s := S12x64x16) ![2, 0, 0] S1x64x16.size inb_S12x64x16_S1x64x16_2_0_0
abbrev r0_10 : Rect S12x768x16 := Rect.unit (s := S12x768x16) ![2, 0, 0] S1x768x16.size inb_S12x768x16_S1x768x16_2_0_0
abbrev r0_11 : Rect S768x768 := Rect.unit (s := S768x768) ![0, 128] S768x64.size inb_S768x768_S768x64_0_128
abbrev r0_12 : Rect S12x16x64 := Rect.unit (s := S12x16x64) ![3, 0, 0] S1x16x64.size inb_S12x16x64_S1x16x64_3_0_0
abbrev r0_13 : Rect S12x64x16 := Rect.unit (s := S12x64x16) ![3, 0, 0] S1x64x16.size inb_S12x64x16_S1x64x16_3_0_0
abbrev r0_14 : Rect S12x768x16 := Rect.unit (s := S12x768x16) ![3, 0, 0] S1x768x16.size inb_S12x768x16_S1x768x16_3_0_0
abbrev r0_15 : Rect S768x768 := Rect.unit (s := S768x768) ![0, 192] S768x64.size inb_S768x768_S768x64_0_192
abbrev r0_16 : Rect S12x16x64 := Rect.unit (s := S12x16x64) ![4, 0, 0] S1x16x64.size inb_S12x16x64_S1x16x64_4_0_0
abbrev r0_17 : Rect S12x64x16 := Rect.unit (s := S12x64x16) ![4, 0, 0] S1x64x16.size inb_S12x64x16_S1x64x16_4_0_0
abbrev r0_18 : Rect S12x768x16 := Rect.unit (s := S12x768x16) ![4, 0, 0] S1x768x16.size inb_S12x768x16_S1x768x16_4_0_0
abbrev r0_19 : Rect S768x768 := Rect.unit (s := S768x768) ![0, 256] S768x64.size inb_S768x768_S768x64_0_256
abbrev r0_20 : Rect S12x16x64 := Rect.unit (s := S12x16x64) ![5, 0, 0] S1x16x64.size inb_S12x16x64_S1x16x64_5_0_0
abbrev r0_21 : Rect S12x64x16 := Rect.unit (s := S12x64x16) ![5, 0, 0] S1x64x16.size inb_S12x64x16_S1x64x16_5_0_0
abbrev r0_22 : Rect S12x768x16 := Rect.unit (s := S12x768x16) ![5, 0, 0] S1x768x16.size inb_S12x768x16_S1x768x16_5_0_0
abbrev r0_23 : Rect S768x768 := Rect.unit (s := S768x768) ![0, 320] S768x64.size inb_S768x768_S768x64_0_320
abbrev r0_24 : Rect S12x16x64 := Rect.unit (s := S12x16x64) ![6, 0, 0] S1x16x64.size inb_S12x16x64_S1x16x64_6_0_0
abbrev r0_25 : Rect S12x64x16 := Rect.unit (s := S12x64x16) ![6, 0, 0] S1x64x16.size inb_S12x64x16_S1x64x16_6_0_0
abbrev r0_26 : Rect S12x768x16 := Rect.unit (s := S12x768x16) ![6, 0, 0] S1x768x16.size inb_S12x768x16_S1x768x16_6_0_0
abbrev r0_27 : Rect S768x768 := Rect.unit (s := S768x768) ![0, 384] S768x64.size inb_S768x768_S768x64_0_384
abbrev r0_28 : Rect S12x16x64 := Rect.unit (s := S12x16x64) ![7, 0, 0] S1x16x64.size inb_S12x16x64_S1x16x64_7_0_0
abbrev r0_29 : Rect S12x64x16 := Rect.unit (s := S12x64x16) ![7, 0, 0] S1x64x16.size inb_S12x64x16_S1x64x16_7_0_0
abbrev r0_30 : Rect S12x768x16 := Rect.unit (s := S12x768x16) ![7, 0, 0] S1x768x16.size inb_S12x768x16_S1x768x16_7_0_0
abbrev r0_31 : Rect S768x768 := Rect.unit (s := S768x768) ![0, 448] S768x64.size inb_S768x768_S768x64_0_448
abbrev r0_32 : Rect S12x16x64 := Rect.unit (s := S12x16x64) ![8, 0, 0] S1x16x64.size inb_S12x16x64_S1x16x64_8_0_0
abbrev r0_33 : Rect S12x64x16 := Rect.unit (s := S12x64x16) ![8, 0, 0] S1x64x16.size inb_S12x64x16_S1x64x16_8_0_0
abbrev r0_34 : Rect S12x768x16 := Rect.unit (s := S12x768x16) ![8, 0, 0] S1x768x16.size inb_S12x768x16_S1x768x16_8_0_0
abbrev r0_35 : Rect S768x768 := Rect.unit (s := S768x768) ![0, 512] S768x64.size inb_S768x768_S768x64_0_512
abbrev r0_36 : Rect S12x16x64 := Rect.unit (s := S12x16x64) ![9, 0, 0] S1x16x64.size inb_S12x16x64_S1x16x64_9_0_0
abbrev r0_37 : Rect S12x64x16 := Rect.unit (s := S12x64x16) ![9, 0, 0] S1x64x16.size inb_S12x64x16_S1x64x16_9_0_0
abbrev r0_38 : Rect S12x768x16 := Rect.unit (s := S12x768x16) ![9, 0, 0] S1x768x16.size inb_S12x768x16_S1x768x16_9_0_0
abbrev r0_39 : Rect S768x768 := Rect.unit (s := S768x768) ![0, 576] S768x64.size inb_S768x768_S768x64_0_576
abbrev r0_40 : Rect S12x16x64 := Rect.unit (s := S12x16x64) ![10, 0, 0] S1x16x64.size inb_S12x16x64_S1x16x64_10_0_0
abbrev r0_41 : Rect S12x64x16 := Rect.unit (s := S12x64x16) ![10, 0, 0] S1x64x16.size inb_S12x64x16_S1x64x16_10_0_0
abbrev r0_42 : Rect S12x768x16 := Rect.unit (s := S12x768x16) ![10, 0, 0] S1x768x16.size inb_S12x768x16_S1x768x16_10_0_0
abbrev r0_43 : Rect S768x768 := Rect.unit (s := S768x768) ![0, 640] S768x64.size inb_S768x768_S768x64_0_640
abbrev r0_44 : Rect S12x16x64 := Rect.unit (s := S12x16x64) ![11, 0, 0] S1x16x64.size inb_S12x16x64_S1x16x64_11_0_0
abbrev r0_45 : Rect S12x64x16 := Rect.unit (s := S12x64x16) ![11, 0, 0] S1x64x16.size inb_S12x64x16_S1x64x16_11_0_0
abbrev r0_46 : Rect S12x768x16 := Rect.unit (s := S12x768x16) ![11, 0, 0] S1x768x16.size inb_S12x768x16_S1x768x16_11_0_0
abbrev r0_47 : Rect S768x768 := Rect.unit (s := S768x768) ![0, 704] S768x64.size inb_S768x768_S768x64_0_704

/-! ## What the body leaves in each output window's buffer -/

/-- Window 10's staging buffer after the body, from the input windows' blocks: its 12 stores as pieces, LAST
    FIRST . -/
def out0_10 (x0 : Vec F S12x768x16 .f32) (x1 : Vec F S12x16x64 .f32) (x2 : Vec F S12x64x16 .f32) (x3 : Vec F S12x16x64 .f32) (x4 : Vec F S12x768x16 .f32) (x5 : Vec F S12x16x64 .f32) (x6 : Vec F S12x64x16 .f32) (x7 : Vec F S12x16x64 .f32) (x8 : Vec F S12x768x16 .f32) (x9 : Vec F S12x16x64 .f32) : Vec F S768x768 .f32 :=
  View.canon [⟨r0_47, k0_pay46 (View.ld x1 r0_44) (View.ld x2 r0_45) (View.ld x3 r0_44) (View.ld x0 r0_46)⟩,
    ⟨r0_43, k0_pay43 (k0_pay42 (View.ld x1 r0_40) (View.ld x2 r0_41) (View.ld x3 r0_40)) (View.ld x0 r0_42)⟩,
    ⟨r0_39, k0_pay38 (View.ld x1 r0_36) (View.ld x2 r0_37) (View.ld x3 r0_36) (View.ld x0 r0_38)⟩,
    ⟨r0_35, k0_pay34 (View.ld x1 r0_32) (View.ld x2 r0_33) (View.ld x3 r0_32) (View.ld x0 r0_34)⟩,
    ⟨r0_31, k0_pay30 (k0_pay29 (View.ld x1 r0_28)) (View.ld x2 r0_29) (View.ld x3 r0_28) (View.ld x0 r0_30)⟩,
    ⟨r0_27, k0_pay26 (k0_pay24 (View.ld x1 r0_24) (View.ld x2 r0_25) (View.ld x3 r0_24)) (k0_pay25 (View.ld x0 r0_26))⟩,
    ⟨r0_23, k0_pay19 (View.ld x1 r0_20) (View.ld x2 r0_21) (View.ld x3 r0_20) (View.ld x0 r0_22)⟩,
    ⟨r0_19, k0_pay16 (View.ld x1 r0_16) (View.ld x2 r0_17) (View.ld x3 r0_16) (View.ld x0 r0_18)⟩,
    ⟨r0_15, k0_pay13 (k0_pay12 (View.ld x1 r0_12) (View.ld x2 r0_13)) (View.ld x3 r0_12) (View.ld x0 r0_14)⟩,
    ⟨r0_11, k0_pay9 (View.ld x1 r0_8) (View.ld x2 r0_9) (View.ld x3 r0_8) (View.ld x0 r0_10)⟩,
    ⟨r0_7, k0_pay5 (View.ld x1 r0_4) (View.ld x2 r0_5) (View.ld x3 r0_4) (View.ld x0 r0_6)⟩,
    ⟨r0_3, k0_pay2 (View.ld x1 r0_0) (View.ld x2 r0_1) (View.ld x3 r0_0) (View.ld x0 r0_2)⟩]

/-- Its stores tile the buffer (checked by evaluation), so they cover it. -/
theorem cover0_10 (p0 : Vec F S768x64 .f32) (p1 : Vec F S768x64 .f32) (p2 : Vec F S768x64 .f32) (p3 : Vec F S768x64 .f32) (p4 : Vec F S768x64 .f32) (p5 : Vec F S768x64 .f32) (p6 : Vec F S768x64 .f32) (p7 : Vec F S768x64 .f32) (p8 : Vec F S768x64 .f32) (p9 : Vec F S768x64 .f32) (p10 : Vec F S768x64 .f32) (p11 : Vec F S768x64 .f32) (y : S768x768.Idx) :
    ∃ pc ∈ ([⟨r0_47, p0⟩, ⟨r0_43, p1⟩, ⟨r0_39, p2⟩, ⟨r0_35, p3⟩, ⟨r0_31, p4⟩, ⟨r0_27, p5⟩, ⟨r0_23, p6⟩, ⟨r0_19, p7⟩, ⟨r0_15, p8⟩, ⟨r0_11, p9⟩, ⟨r0_7, p10⟩, ⟨r0_3, p11⟩] : List (View.Piece (Elt F) S768x768 .f32)), y ∈ pc.1.set :=
  View.cover_of_tiled [⟨r0_47, p0⟩, ⟨r0_43, p1⟩, ⟨r0_39, p2⟩, ⟨r0_35, p3⟩, ⟨r0_31, p4⟩, ⟨r0_27, p5⟩, ⟨r0_23, p6⟩, ⟨r0_19, p7⟩, ⟨r0_15, p8⟩, ⟨r0_11, p9⟩, ⟨r0_7, p10⟩, ⟨r0_3, p11⟩] S768x64.size (by rfl) y

/-- Window 11's staging buffer after the body, from the input windows' blocks: its 12 stores as pieces, LAST
    FIRST . -/
def out0_11 (x0 : Vec F S12x768x16 .f32) (x1 : Vec F S12x16x64 .f32) (x2 : Vec F S12x64x16 .f32) (x3 : Vec F S12x16x64 .f32) (x4 : Vec F S12x768x16 .f32) (x5 : Vec F S12x16x64 .f32) (x6 : Vec F S12x64x16 .f32) (x7 : Vec F S12x16x64 .f32) (x8 : Vec F S12x768x16 .f32) (x9 : Vec F S12x16x64 .f32) : Vec F S768x768 .f32 :=
  View.canon [⟨r0_47, k0_pay47 (View.ld x5 r0_44) (View.ld x6 r0_45) (View.ld x7 r0_44) (View.ld x4 r0_46)⟩,
    ⟨r0_43, k0_pay44 (View.ld x5 r0_40) (View.ld x6 r0_41) (View.ld x7 r0_40) (View.ld x4 r0_42)⟩,
    ⟨r0_39, k0_pay40 (k0_pay39 (View.ld x5 r0_36)) (View.ld x6 r0_37) (View.ld x7 r0_36) (View.ld x4 r0_38)⟩,
    ⟨r0_35, k0_pay36 (k0_pay35 (View.ld x5 r0_32) (View.ld x6 r0_33) (View.ld x7 r0_32)) (View.ld x4 r0_34)⟩,
    ⟨r0_31, k0_pay31 (View.ld x5 r0_28) (View.ld x6 r0_29) (View.ld x7 r0_28) (View.ld x4 r0_30)⟩,
    ⟨r0_27, k0_pay27 (View.ld x5 r0_24) (View.ld x6 r0_25) (View.ld x7 r0_24) (View.ld x4 r0_26)⟩,
    ⟨r0_23, k0_pay22 (k0_pay20 (View.ld x5 r0_20)) (k0_pay21 (View.ld x6 r0_21)) (View.ld x7 r0_20) (View.ld x4 r0_22)⟩,
    ⟨r0_19, k0_pay17 (View.ld x5 r0_16) (View.ld x6 r0_17) (View.ld x7 r0_16) (View.ld x4 r0_18)⟩,
    ⟨r0_15, k0_pay14 (View.ld x5 r0_12) (View.ld x6 r0_13) (View.ld x7 r0_12) (View.ld x4 r0_14)⟩,
    ⟨r0_11, k0_pay10 (View.ld x5 r0_8) (View.ld x6 r0_9) (View.ld x7 r0_8) (View.ld x4 r0_10)⟩,
    ⟨r0_7, k0_pay7 (k0_pay6 (View.ld x5 r0_4) (View.ld x6 r0_5)) (View.ld x7 r0_4) (View.ld x4 r0_6)⟩,
    ⟨r0_3, k0_pay3 (View.ld x5 r0_0) (View.ld x6 r0_1) (View.ld x7 r0_0) (View.ld x4 r0_2)⟩]

/-- Its stores tile the buffer (checked by evaluation), so they cover it. -/
theorem cover0_11 (p0 : Vec F S768x64 .f32) (p1 : Vec F S768x64 .f32) (p2 : Vec F S768x64 .f32) (p3 : Vec F S768x64 .f32) (p4 : Vec F S768x64 .f32) (p5 : Vec F S768x64 .f32) (p6 : Vec F S768x64 .f32) (p7 : Vec F S768x64 .f32) (p8 : Vec F S768x64 .f32) (p9 : Vec F S768x64 .f32) (p10 : Vec F S768x64 .f32) (p11 : Vec F S768x64 .f32) (y : S768x768.Idx) :
    ∃ pc ∈ ([⟨r0_47, p0⟩, ⟨r0_43, p1⟩, ⟨r0_39, p2⟩, ⟨r0_35, p3⟩, ⟨r0_31, p4⟩, ⟨r0_27, p5⟩, ⟨r0_23, p6⟩, ⟨r0_19, p7⟩, ⟨r0_15, p8⟩, ⟨r0_11, p9⟩, ⟨r0_7, p10⟩, ⟨r0_3, p11⟩] : List (View.Piece (Elt F) S768x768 .f32)), y ∈ pc.1.set :=
  View.cover_of_tiled [⟨r0_47, p0⟩, ⟨r0_43, p1⟩, ⟨r0_39, p2⟩, ⟨r0_35, p3⟩, ⟨r0_31, p4⟩, ⟨r0_27, p5⟩, ⟨r0_23, p6⟩, ⟨r0_19, p7⟩, ⟨r0_15, p8⟩, ⟨r0_11, p9⟩, ⟨r0_7, p10⟩, ⟨r0_3, p11⟩] S768x64.size (by rfl) y

/-- Window 12's staging buffer after the body, from the input windows' blocks: its 12 stores as pieces, LAST
    FIRST . -/
def out0_12 (x0 : Vec F S12x768x16 .f32) (x1 : Vec F S12x16x64 .f32) (x2 : Vec F S12x64x16 .f32) (x3 : Vec F S12x16x64 .f32) (x4 : Vec F S12x768x16 .f32) (x5 : Vec F S12x16x64 .f32) (x6 : Vec F S12x64x16 .f32) (x7 : Vec F S12x16x64 .f32) (x8 : Vec F S12x768x16 .f32) (x9 : Vec F S12x16x64 .f32) : Vec F S768x768 .f32 :=
  View.canon [⟨r0_47, k0_pay1 (View.ld x8 r0_46) (View.ld x9 r0_44)⟩,
    ⟨r0_43, k0_pay45 (View.ld x8 r0_42) (View.ld x9 r0_40)⟩,
    ⟨r0_39, k0_pay41 (View.ld x8 r0_38) (View.ld x9 r0_36)⟩,
    ⟨r0_35, k0_pay37 (View.ld x8 r0_34) (View.ld x9 r0_32)⟩,
    ⟨r0_31, k0_pay33 (k0_pay32 (View.ld x8 r0_30)) (View.ld x9 r0_28)⟩,
    ⟨r0_27, k0_pay28 (View.ld x8 r0_26) (View.ld x9 r0_24)⟩,
    ⟨r0_23, k0_pay23 (View.ld x8 r0_22) (View.ld x9 r0_20)⟩,
    ⟨r0_19, k0_pay18 (View.ld x8 r0_18) (View.ld x9 r0_16)⟩,
    ⟨r0_15, k0_pay15 (View.ld x8 r0_14) (View.ld x9 r0_12)⟩,
    ⟨r0_11, k0_pay11 (View.ld x8 r0_10) (View.ld x9 r0_8)⟩,
    ⟨r0_7, k0_pay8 (View.ld x8 r0_6) (View.ld x9 r0_4)⟩,
    ⟨r0_3, k0_pay4 (View.ld x8 r0_2) (View.ld x9 r0_0)⟩]

/-- Its stores tile the buffer (checked by evaluation), so they cover it. -/
theorem cover0_12 (p0 : Vec F S768x64 .f32) (p1 : Vec F S768x64 .f32) (p2 : Vec F S768x64 .f32) (p3 : Vec F S768x64 .f32) (p4 : Vec F S768x64 .f32) (p5 : Vec F S768x64 .f32) (p6 : Vec F S768x64 .f32) (p7 : Vec F S768x64 .f32) (p8 : Vec F S768x64 .f32) (p9 : Vec F S768x64 .f32) (p10 : Vec F S768x64 .f32) (p11 : Vec F S768x64 .f32) (y : S768x768.Idx) :
    ∃ pc ∈ ([⟨r0_47, p0⟩, ⟨r0_43, p1⟩, ⟨r0_39, p2⟩, ⟨r0_35, p3⟩, ⟨r0_31, p4⟩, ⟨r0_27, p5⟩, ⟨r0_23, p6⟩, ⟨r0_19, p7⟩, ⟨r0_15, p8⟩, ⟨r0_11, p9⟩, ⟨r0_7, p10⟩, ⟨r0_3, p11⟩] : List (View.Piece (Elt F) S768x768 .f32)), y ∈ pc.1.set :=
  View.cover_of_tiled [⟨r0_47, p0⟩, ⟨r0_43, p1⟩, ⟨r0_39, p2⟩, ⟨r0_35, p3⟩, ⟨r0_31, p4⟩, ⟨r0_27, p5⟩, ⟨r0_23, p6⟩, ⟨r0_19, p7⟩, ⟨r0_15, p8⟩, ⟨r0_11, p9⟩, ⟨r0_7, p10⟩, ⟨r0_3, p11⟩] S768x64.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs , through every part call. -/
theorem sound_kernel0 (c : Dev nD) (E : Set ℕ) (arg0 : Memref sig .tc .vmem S12x768x16 .f32) (harg0 : arg0.IsWhole) (arg1 : Memref sig .tc .vmem S12x16x64 .f32) (harg1 : arg1.IsWhole) (arg2 : Memref sig .tc .vmem S12x64x16 .f32) (harg2 : arg2.IsWhole) (arg3 : Memref sig .tc .vmem S12x16x64 .f32) (harg3 : arg3.IsWhole) (arg4 : Memref sig .tc .vmem S12x768x16 .f32) (harg4 : arg4.IsWhole) (arg5 : Memref sig .tc .vmem S12x16x64 .f32) (harg5 : arg5.IsWhole) (arg6 : Memref sig .tc .vmem S12x64x16 .f32) (harg6 : arg6.IsWhole) (arg7 : Memref sig .tc .vmem S12x16x64 .f32) (harg7 : arg7.IsWhole) (arg8 : Memref sig .tc .vmem S12x768x16 .f32) (harg8 : arg8.IsWhole) (arg9 : Memref sig .tc .vmem S12x16x64 .f32) (harg9 : arg9.IsWhole) (arg10 : Memref sig .tc .vmem S768x768 .f32) (harg10 : arg10.IsWhole) (arg11 : Memref sig .tc .vmem S768x768 .f32) (harg11 : arg11.IsWhole) (arg12 : Memref sig .tc .vmem S768x768 .f32) (harg12 : arg12.IsWhole)
    (x0 : Vec F S12x768x16 .f32) (x1 : Vec F S12x16x64 .f32) (x2 : Vec F S12x64x16 .f32) (x3 : Vec F S12x16x64 .f32) (x4 : Vec F S12x768x16 .f32) (x5 : Vec F S12x16x64 .f32) (x6 : Vec F S12x64x16 .f32) (x7 : Vec F S12x16x64 .f32) (x8 : Vec F S12x768x16 .f32) (x9 : Vec F S12x16x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (out0_10 x0 x1 x2 x3 x4 x5 x6 x7 x8 x9) ∗ owns (c : Thread nD τ) arg11 fullShare (out0_11 x0 x1 x2 x3 x4 x5 x6 x7 x8 x9) ∗ owns (c : Thread nD τ) arg12 fullShare (out0_12 x0 x1 x2 x3 x4 x5 x6 x7 x8 x9)) -∗ K ⟨⟩))
      ⊢ wp frame (wpE (defs₀ (F := F)) Variants.none c none) E (cc0__prep_body arg0 harg0 arg1 harg1 arg2 harg2 arg3 harg3 arg4 harg4 arg5 harg5 arg6 harg6 arg7 harg7 arg8 harg8 arg9 harg9 arg10 harg10 arg11 harg11 arg12 harg12) K := by
  simp only [cc0__prep_body_eq_skeleton]; unfold cc0__prep_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (cover0_10 _ _ _ _ _ _ _ _ _ _ _ _)
  isplitl [H11]
  · iexists _; isplitr
    swap; · iexact H11
    ipureintro
    exact View.read_writes_eq_canon _ _ _ (cover0_11 _ _ _ _ _ _ _ _ _ _ _ _)
  iexists _; isplitr
  swap; · iexact H12
  ipureintro
  exact View.read_writes_eq_canon _ _ _ (cover0_12 _ _ _ _ _ _ _ _ _ _ _ _)

/-! ## The pipeline's proof data -/

/-- The proof data of pipeline 0 on core `c`: the arrays as the region finds them (`V`); after the body at
    point `t` each input's buffer at its block and each output's at `out0_W` of the input blocks; the invariant the
    class's ; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
    | ⟨12, _⟩ => out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]
theorem after0_12 (c : Dev nD) (t : Fin cfg0.N) : (dat0 V c).after 12 t = out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

/-! ## The body obligation, at a generic point -/

/-- What the body is called with at point `t` , -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel0 c Set.univ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated . -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Hand

end
-- ==== Proof.KernelIdealProj.lean ====
/- The second call (projections, buckets, signs): what its body leaves at each point, and its obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the call is entered
variable (V : (c : Dev nD) → (b : Ref sig .tc) → Buf (Elt F) ((c : Thread nD τ).loc b))

/-! # REGION 1 of @main: custom_call 1, `cc1__proj_body` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 holds its block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3 holds its block at every point. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4 holds its block at every point. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5 holds its block at every point. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6 holds its block at every point. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1x512x768 := Rect.unit (s := S1x512x768) ![0, 0, 0] S1x512x768.size inb_S1x512x768_S1x512x768_0_0_0
abbrev r1_1 : Rect S768x768 := Rect.unit (s := S768x768) ![0, 0] S768x768.size inb_S768x768_S768x768_0_0
abbrev r1_2 : Rect S1x768 := Rect.unit (s := S1x768) ![0, 0] S1x768.size inb_S1x768_S1x768_0_0
abbrev r1_3 : Rect S12x512x64 := Rect.unit (s := S12x512x64) ![0, 0, 0] S1x512x64.size inb_S12x512x64_S1x512x64_0_0_0
abbrev r1_4 : Rect S12x512x128 := Rect.unit (s := S12x512x128) ![0, 0, 0] S1x512x128.size inb_S12x512x128_S1x512x128_0_0_0
abbrev r1_5 : Rect S12x512x64 := Rect.unit (s := S12x512x64) ![1, 0, 0] S1x512x64.size inb_S12x512x64_S1x512x64_1_0_0
abbrev r1_6 : Rect S12x512x128 := Rect.unit (s := S12x512x128) ![1, 0, 0] S1x512x128.size inb_S12x512x128_S1x512x128_1_0_0
abbrev r1_7 : Rect S12x512x64 := Rect.unit (s := S12x512x64) ![2, 0, 0] S1x512x64.size inb_S12x512x64_S1x512x64_2_0_0
abbrev r1_8 : Rect S12x512x128 := Rect.unit (s := S12x512x128) ![2, 0, 0] S1x512x128.size inb_S12x512x128_S1x512x128_2_0_0
abbrev r1_9 : Rect S12x512x64 := Rect.unit (s := S12x512x64) ![3, 0, 0] S1x512x64.size inb_S12x512x64_S1x512x64_3_0_0
abbrev r1_10 : Rect S12x512x128 := Rect.unit (s := S12x512x128) ![3, 0, 0] S1x512x128.size inb_S12x512x128_S1x512x128_3_0_0
abbrev r1_11 : Rect S12x512x64 := Rect.unit (s := S12x512x64) ![4, 0, 0] S1x512x64.size inb_S12x512x64_S1x512x64_4_0_0
abbrev r1_12 : Rect S12x512x128 := Rect.unit (s := S12x512x128) ![4, 0, 0] S1x512x128.size inb_S12x512x128_S1x512x128_4_0_0
abbrev r1_13 : Rect S12x512x64 := Rect.unit (s := S12x512x64) ![5, 0, 0] S1x512x64.size inb_S12x512x64_S1x512x64_5_0_0
abbrev r1_14 : Rect S12x512x128 := Rect.unit (s := S12x512x128) ![5, 0, 0] S1x512x128.size inb_S12x512x128_S1x512x128_5_0_0
abbrev r1_15 : Rect S12x512x64 := Rect.unit (s := S12x512x64) ![6, 0, 0] S1x512x64.size inb_S12x512x64_S1x512x64_6_0_0
abbrev r1_16 : Rect S12x512x128 := Rect.unit (s := S12x512x128) ![6, 0, 0] S1x512x128.size inb_S12x512x128_S1x512x128_6_0_0
abbrev r1_17 : Rect S12x512x64 := Rect.unit (s := S12x512x64) ![7, 0, 0] S1x512x64.size inb_S12x512x64_S1x512x64_7_0_0
abbrev r1_18 : Rect S12x512x128 := Rect.unit (s := S12x512x128) ![7, 0, 0] S1x512x128.size inb_S12x512x128_S1x512x128_7_0_0
abbrev r1_19 : Rect S12x512x64 := Rect.unit (s := S12x512x64) ![8, 0, 0] S1x512x64.size inb_S12x512x64_S1x512x64_8_0_0
abbrev r1_20 : Rect S12x512x128 := Rect.unit (s := S12x512x128) ![8, 0, 0] S1x512x128.size inb_S12x512x128_S1x512x128_8_0_0
abbrev r1_21 : Rect S12x512x64 := Rect.unit (s := S12x512x64) ![9, 0, 0] S1x512x64.size inb_S12x512x64_S1x512x64_9_0_0
abbrev r1_22 : Rect S12x512x128 := Rect.unit (s := S12x512x128) ![9, 0, 0] S1x512x128.size inb_S12x512x128_S1x512x128_9_0_0
abbrev r1_23 : Rect S12x512x64 := Rect.unit (s := S12x512x64) ![10, 0, 0] S1x512x64.size inb_S12x512x64_S1x512x64_10_0_0
abbrev r1_24 : Rect S12x512x128 := Rect.unit (s := S12x512x128) ![10, 0, 0] S1x512x128.size inb_S12x512x128_S1x512x128_10_0_0
abbrev r1_25 : Rect S12x512x64 := Rect.unit (s := S12x512x64) ![11, 0, 0] S1x512x64.size inb_S12x512x64_S1x512x64_11_0_0
abbrev r1_26 : Rect S12x512x128 := Rect.unit (s := S12x512x128) ![11, 0, 0] S1x512x128.size inb_S12x512x128_S1x512x128_11_0_0

/-! ## What the body leaves in each output window's buffer -/

/-! ### Values of the body that the stores' payloads, spelt out, would write more than once

    Each is a vector the body binds (often a part call's result), stated over the input windows' blocks and
    numbered on from the skeleton's payload functions (`k1_pay90` …, after `k1_pay89`), so that
    `out1_W` and the values after it name it instead of spelling it out (`unfold_out out1_W` opens a canon
    with them, `unfold_payloads` opens them with the payloads); the comment after each is the printed function's
    name for the value (a count appended where that name is bound again). -/

def k1_pay90 (x0 : Vec F S1x512x768 .f32) (x1 : Vec F S1x512x768 .f32) (x2 : Vec F S1x512x768 .f32) (x3 : Vec F S768x768 .f32) (x4 : Vec F S768x768 .f32) (x5 : Vec F S768x768 .f32) (x6 : Vec F S1x768 .f32) : IVec S768x12 32 :=
  iota .tc S768x12 32 [0] iota_S768x12_d0_w32 -- `v21`
def k1_pay91 (x0 : Vec F S1x512x768 .f32) (x1 : Vec F S1x512x768 .f32) (x2 : Vec F S1x512x768 .f32) (x3 : Vec F S768x768 .f32) (x4 : Vec F S768x768 .f32) (x5 : Vec F S768x768 .f32) (x6 : Vec F S1x768 .f32) : IVec S768x12 32 :=
  iota .tc S768x12 32 [1] iota_S768x12_d1_w32 -- `v22`
def k1_pay92 (x0 : Vec F S1x512x768 .f32) (x1 : Vec F S1x512x768 .f32) (x2 : Vec F S1x512x768 .f32) (x3 : Vec F S768x768 .f32) (x4 : Vec F S768x768 .f32) (x5 : Vec F S768x768 .f32) (x6 : Vec F S1x768 .f32) : FVec F S512x768 .f32 :=
  k1_pay2 (View.ld x0 r1_0) (View.ld x3 r1_1) -- `v6`
def k1_pay93 (x0 : Vec F S1x512x768 .f32) (x1 : Vec F S1x512x768 .f32) (x2 : Vec F S1x512x768 .f32) (x3 : Vec F S768x768 .f32) (x4 : Vec F S768x768 .f32) (x5 : Vec F S768x768 .f32) (x6 : Vec F S1x768 .f32) : FVec F S512x768 .f32 :=
  k1_pay3 (View.ld x1 r1_0) (View.ld x4 r1_1) -- `v13`
def k1_pay94 (x0 : Vec F S1x512x768 .f32) (x1 : Vec F S1x512x768 .f32) (x2 : Vec F S1x512x768 .f32) (x3 : Vec F S768x768 .f32) (x4 : Vec F S768x768 .f32) (x5 : Vec F S768x768 .f32) (x6 : Vec F S1x768 .f32) : FVec F S512x768 .f32 :=
  k1_pay4 (View.ld x2 r1_0) (View.ld x5 r1_1) -- `v20`
def k1_pay95 (x0 : Vec F S1x512x768 .f32) (x1 : Vec F S1x512x768 .f32) (x2 : Vec F S1x512x768 .f32) (x3 : Vec F S768x768 .f32) (x4 : Vec F S768x768 .f32) (x5 : Vec F S768x768 .f32) (x6 : Vec F S1x768 .f32) : IVec S768x12 32 :=
  k1_pay5 -- `v24`
def k1_pay96 (x0 : Vec F S1x512x768 .f32) (x1 : Vec F S1x512x768 .f32) (x2 : Vec F S1x512x768 .f32) (x3 : Vec F S768x768 .f32) (x4 : Vec F S768x768 .f32) (x5 : Vec F S768x768 .f32) (x6 : Vec F S1x768 .f32) : IVec S768x12 32 :=
  k1_pay6 -- `v31`
def k1_pay97 (x0 : Vec F S1x512x768 .f32) (x1 : Vec F S1x512x768 .f32) (x2 : Vec F S1x512x768 .f32) (x3 : Vec F S768x768 .f32) (x4 : Vec F S768x768 .f32) (x5 : Vec F S768x768 .f32) (x6 : Vec F S1x768 .f32) : FVec F S12x768 .f32 :=
  k1_pay10 (F := F) (k1_pay90 x0 x1 x2 x3 x4 x5 x6) (k1_pay91 x0 x1 x2 x3 x4 x5 x6) 64#32 (k1_pay95 x0 x1 x2 x3 x4 x5 x6) (k1_pay96 x0 x1 x2 x3 x4 x5 x6) (Scalar.extui (Scalar.cmpi .sgt 64#32 0#32)) (Scalar.extui (Scalar.cmpi .slt 64#32 0#32)) -- `v71`
def k1_pay98 (x0 : Vec F S1x512x768 .f32) (x1 : Vec F S1x512x768 .f32) (x2 : Vec F S1x512x768 .f32) (x3 : Vec F S768x768 .f32) (x4 : Vec F S768x768 .f32) (x5 : Vec F S768x768 .f32) (x6 : Vec F S1x768 .f32) : FVec F S512x768 .f32 :=
  k1_pay17 (k1_pay97 x0 x1 x2 x3 x4 x5 x6) (k1_pay14 (k1_pay8 (F := F) (k1_pay90 x0 x1 x2 x3 x4 x5 x6) (k1_pay91 x0 x1 x2 x3 x4 x5 x6) 64#32 (k1_pay95 x0 x1 x2 x3 x4 x5 x6) (k1_pay96 x0 x1 x2 x3 x4 x5 x6) (Scalar.extui (Scalar.cmpi .sgt 64#32 0#32)) (Scalar.extui (Scalar.cmpi .slt 64#32 0#32))) (k1_pay11 (k1_pay93 x0 x1 x2 x3 x4 x5 x6) (View.ld x6 r1_2))) -- `v130`
def k1_pay99 (x0 : Vec F S1x512x768 .f32) (x1 : Vec F S1x512x768 .f32) (x2 : Vec F S1x512x768 .f32) (x3 : Vec F S768x768 .f32) (x4 : Vec F S768x768 .f32) (x5 : Vec F S768x768 .f32) (x6 : Vec F S1x768 .f32) : IVec S1x768 32 :=
  k1_pay18 (k1_pay90 x0 x1 x2 x3 x4 x5 x6) -- `v149`
def k1_pay100 (x0 : Vec F S1x512x768 .f32) (x1 : Vec F S1x512x768 .f32) (x2 : Vec F S1x512x768 .f32) (x3 : Vec F S768x768 .f32) (x4 : Vec F S768x768 .f32) (x5 : Vec F S768x768 .f32) (x6 : Vec F S1x768 .f32) : IVec S512x768 8 :=
  k1_pay19 (k1_pay92 x0 x1 x2 x3 x4 x5 x6) -- `v155`
def k1_pay101 (x0 : Vec F S1x512x768 .f32) (x1 : Vec F S1x512x768 .f32) (x2 : Vec F S1x512x768 .f32) (x3 : Vec F S768x768 .f32) (x4 : Vec F S768x768 .f32) (x5 : Vec F S768x768 .f32) (x6 : Vec F S1x768 .f32) : IVec S512x768 8 :=
  k1_pay20 (k1_pay93 x0 x1 x2 x3 x4 x5 x6) (k1_pay97 x0 x1 x2 x3 x4 x5 x6) (k1_pay15 (k1_pay92 x0 x1 x2 x3 x4 x5 x6) (k1_pay93 x0 x1 x2 x3 x4 x5 x6) (k1_pay9 (F := F) (k1_pay90 x0 x1 x2 x3 x4 x5 x6) (k1_pay91 x0 x1 x2 x3 x4 x5 x6) 64#32 (k1_pay95 x0 x1 x2 x3 x4 x5 x6) (k1_pay96 x0 x1 x2 x3 x4 x5 x6) (Scalar.extui (Scalar.cmpi .sgt 64#32 0#32)) (Scalar.extui (Scalar.cmpi .slt 64#32 0#32)))) (k1_pay16 (F := F)) -- `v166`
def k1_pay102 (x0 : Vec F S1x512x768 .f32) (x1 : Vec F S1x512x768 .f32) (x2 : Vec F S1x512x768 .f32) (x3 : Vec F S768x768 .f32) (x4 : Vec F S768x768 .f32) (x5 : Vec F S768x768 .f32) (x6 : Vec F S1x768 .f32) : IVec S512x768 1 :=
  k1_pay21 (k1_pay90 x0 x1 x2 x3 x4 x5 x6) (k1_pay97 x0 x1 x2 x3 x4 x5 x6) (k1_pay13 (k1_pay12 (k1_pay92 x0 x1 x2 x3 x4 x5 x6) (k1_pay90 x0 x1 x2 x3 x4 x5 x6) (k1_pay91 x0 x1 x2 x3 x4 x5 x6) 64#32 (k1_pay95 x0 x1 x2 x3 x4 x5 x6) (k1_pay96 x0 x1 x2 x3 x4 x5 x6) (Scalar.extui (Scalar.cmpi .sgt 64#32 0#32)) (Scalar.extui (Scalar.cmpi .slt 64#32 0#32)) (View.ld x6 r1_2)) (Scalar.ofBits .f32 0x3E800000#32)) -- `v169`
def k1_pay103 (x0 : Vec F S1x512x768 .f32) (x1 : Vec F S1x512x768 .f32) (x2 : Vec F S1x512x768 .f32) (x3 : Vec F S768x768 .f32) (x4 : Vec F S768x768 .f32) (x5 : Vec F S768x768 .f32) (x6 : Vec F S1x768 .f32) : IVec S512x768 8 :=
  k1_pay22 (k1_pay102 x0 x1 x2 x3 x4 x5 x6) -- `v170`
def k1_pay104 (x0 : Vec F S1x512x768 .f32) (x1 : Vec F S1x512x768 .f32) (x2 : Vec F S1x512x768 .f32) (x3 : Vec F S768x768 .f32) (x4 : Vec F S768x768 .f32) (x5 : Vec F S768x768 .f32) (x6 : Vec F S1x768 .f32) : IVec S512x768 8 :=
  k1_pay23 (k1_pay98 x0 x1 x2 x3 x4 x5 x6) (k1_pay99 x0 x1 x2 x3 x4 x5 x6) -- `v174`

/-- Window 7's staging buffer after the body, from the input windows' blocks: its 12 stores as pieces, LAST
    FIRST . -/
def out1_7 (x0 : Vec F S1x512x768 .f32) (x1 : Vec F S1x512x768 .f32) (x2 : Vec F S1x512x768 .f32) (x3 : Vec F S768x768 .f32) (x4 : Vec F S768x768 .f32) (x5 : Vec F S768x768 .f32) (x6 : Vec F S1x768 .f32) : Vec F S12x512x64 .f32 :=
  View.canon [⟨r1_25, k1_pay85 (k1_pay92 x0 x1 x2 x3 x4 x5 x6)⟩,
    ⟨r1_23, k1_pay79 (k1_pay92 x0 x1 x2 x3 x4 x5 x6)⟩,
    ⟨r1_21, k1_pay73 (k1_pay92 x0 x1 x2 x3 x4 x5 x6)⟩,
    ⟨r1_19, k1_pay68 (k1_pay67 (k1_pay92 x0 x1 x2 x3 x4 x5 x6))⟩,
    ⟨r1_17, k1_pay62 (k1_pay92 x0 x1 x2 x3 x4 x5 x6)⟩,
    ⟨r1_15, k1_pay56 (k1_pay92 x0 x1 x2 x3 x4 x5 x6)⟩,
    ⟨r1_13, k1_pay51 (k1_pay92 x0 x1 x2 x3 x4 x5 x6)⟩,
    ⟨r1_11, k1_pay46 (k1_pay92 x0 x1 x2 x3 x4 x5 x6)⟩,
    ⟨r1_9, k1_pay41 (k1_pay92 x0 x1 x2 x3 x4 x5 x6)⟩,
    ⟨r1_7, k1_pay35 (k1_pay92 x0 x1 x2 x3 x4 x5 x6)⟩,
    ⟨r1_5, k1_pay29 (k1_pay92 x0 x1 x2 x3 x4 x5 x6)⟩,
    ⟨r1_3, k1_pay24 (k1_pay92 x0 x1 x2 x3 x4 x5 x6)⟩]

/-- Its stores tile the buffer (checked by evaluation), so they cover it. -/
theorem cover1_7 (p0 : Vec F S1x512x64 .f32) (p1 : Vec F S1x512x64 .f32) (p2 : Vec F S1x512x64 .f32) (p3 : Vec F S1x512x64 .f32) (p4 : Vec F S1x512x64 .f32) (p5 : Vec F S1x512x64 .f32) (p6 : Vec F S1x512x64 .f32) (p7 : Vec F S1x512x64 .f32) (p8 : Vec F S1x512x64 .f32) (p9 : Vec F S1x512x64 .f32) (p10 : Vec F S1x512x64 .f32) (p11 : Vec F S1x512x64 .f32) (y : S12x512x64.Idx) :
    ∃ pc ∈ ([⟨r1_25, p0⟩, ⟨r1_23, p1⟩, ⟨r1_21, p2⟩, ⟨r1_19, p3⟩, ⟨r1_17, p4⟩, ⟨r1_15, p5⟩, ⟨r1_13, p6⟩, ⟨r1_11, p7⟩, ⟨r1_9, p8⟩, ⟨r1_7, p9⟩, ⟨r1_5, p10⟩, ⟨r1_3, p11⟩] : List (View.Piece (Elt F) S12x512x64 .f32)), y ∈ pc.1.set :=
  View.cover_of_tiled [⟨r1_25, p0⟩, ⟨r1_23, p1⟩, ⟨r1_21, p2⟩, ⟨r1_19, p3⟩, ⟨r1_17, p4⟩, ⟨r1_15, p5⟩, ⟨r1_13, p6⟩, ⟨r1_11, p7⟩, ⟨r1_9, p8⟩, ⟨r1_7, p9⟩, ⟨r1_5, p10⟩, ⟨r1_3, p11⟩] S1x512x64.size (by rfl) y

/-- Window 8's staging buffer after the body, from the input windows' blocks: its 12 stores as pieces, LAST
    FIRST . -/
def out1_8 (x0 : Vec F S1x512x768 .f32) (x1 : Vec F S1x512x768 .f32) (x2 : Vec F S1x512x768 .f32) (x3 : Vec F S768x768 .f32) (x4 : Vec F S768x768 .f32) (x5 : Vec F S768x768 .f32) (x6 : Vec F S1x768 .f32) : Vec F S12x512x64 .f32 :=
  View.canon [⟨r1_25, k1_pay86 (k1_pay93 x0 x1 x2 x3 x4 x5 x6)⟩,
    ⟨r1_23, k1_pay80 (k1_pay93 x0 x1 x2 x3 x4 x5 x6)⟩,
    ⟨r1_21, k1_pay74 (k1_pay93 x0 x1 x2 x3 x4 x5 x6)⟩,
    ⟨r1_19, k1_pay69 (k1_pay93 x0 x1 x2 x3 x4 x5 x6)⟩,
    ⟨r1_17, k1_pay63 (k1_pay93 x0 x1 x2 x3 x4 x5 x6)⟩,
    ⟨r1_15, k1_pay57 (k1_pay93 x0 x1 x2 x3 x4 x5 x6)⟩,
    ⟨r1_13, k1_pay52 (k1_pay93 x0 x1 x2 x3 x4 x5 x6)⟩,
    ⟨r1_11, k1_pay47 (k1_pay93 x0 x1 x2 x3 x4 x5 x6)⟩,
    ⟨r1_9, k1_pay42 (k1_pay93 x0 x1 x2 x3 x4 x5 x6)⟩,
    ⟨r1_7, k1_pay36 (k1_pay93 x0 x1 x2 x3 x4 x5 x6)⟩,
    ⟨r1_5, k1_pay31 (k1_pay30 (k1_pay93 x0 x1 x2 x3 x4 x5 x6))⟩,
    ⟨r1_3, k1_pay25 (k1_pay93 x0 x1 x2 x3 x4 x5 x6)⟩]

/-- Its stores tile the buffer (checked by evaluation), so they cover it. -/
theorem cover1_8 (p0 : Vec F S1x512x64 .f32) (p1 : Vec F S1x512x64 .f32) (p2 : Vec F S1x512x64 .f32) (p3 : Vec F S1x512x64 .f32) (p4 : Vec F S1x512x64 .f32) (p5 : Vec F S1x512x64 .f32) (p6 : Vec F S1x512x64 .f32) (p7 : Vec F S1x512x64 .f32) (p8 : Vec F S1x512x64 .f32) (p9 : Vec F S1x512x64 .f32) (p10 : Vec F S1x512x64 .f32) (p11 : Vec F S1x512x64 .f32) (y : S12x512x64.Idx) :
    ∃ pc ∈ ([⟨r1_25, p0⟩, ⟨r1_23, p1⟩, ⟨r1_21, p2⟩, ⟨r1_19, p3⟩, ⟨r1_17, p4⟩, ⟨r1_15, p5⟩, ⟨r1_13, p6⟩, ⟨r1_11, p7⟩, ⟨r1_9, p8⟩, ⟨r1_7, p9⟩, ⟨r1_5, p10⟩, ⟨r1_3, p11⟩] : List (View.Piece (Elt F) S12x512x64 .f32)), y ∈ pc.1.set :=
  View.cover_of_tiled [⟨r1_25, p0⟩, ⟨r1_23, p1⟩, ⟨r1_21, p2⟩, ⟨r1_19, p3⟩, ⟨r1_17, p4⟩, ⟨r1_15, p5⟩, ⟨r1_13, p6⟩, ⟨r1_11, p7⟩, ⟨r1_9, p8⟩, ⟨r1_7, p9⟩, ⟨r1_5, p10⟩, ⟨r1_3, p11⟩] S1x512x64.size (by rfl) y

/-- Window 9's staging buffer after the body, from the input windows' blocks: its 12 stores as pieces, LAST
    FIRST . -/
def out1_9 (x0 : Vec F S1x512x768 .f32) (x1 : Vec F S1x512x768 .f32) (x2 : Vec F S1x512x768 .f32) (x3 : Vec F S768x768 .f32) (x4 : Vec F S768x768 .f32) (x5 : Vec F S768x768 .f32) (x6 : Vec F S1x768 .f32) : Vec F S12x512x64 .f32 :=
  View.canon [⟨r1_25, k1_pay87 (k1_pay94 x0 x1 x2 x3 x4 x5 x6)⟩,
    ⟨r1_23, k1_pay81 (k1_pay94 x0 x1 x2 x3 x4 x5 x6)⟩,
    ⟨r1_21, k1_pay76 (k1_pay75 (k1_pay94 x0 x1 x2 x3 x4 x5 x6))⟩,
    ⟨r1_19, k1_pay70 (k1_pay94 x0 x1 x2 x3 x4 x5 x6)⟩,
    ⟨r1_17, k1_pay64 (k1_pay94 x0 x1 x2 x3 x4 x5 x6)⟩,
    ⟨r1_15, k1_pay58 (k1_pay94 x0 x1 x2 x3 x4 x5 x6)⟩,
    ⟨r1_13, k1_pay53 (k1_pay94 x0 x1 x2 x3 x4 x5 x6)⟩,
    ⟨r1_11, k1_pay48 (k1_pay94 x0 x1 x2 x3 x4 x5 x6)⟩,
    ⟨r1_9, k1_pay43 (k1_pay94 x0 x1 x2 x3 x4 x5 x6)⟩,
    ⟨r1_7, k1_pay37 (k1_pay94 x0 x1 x2 x3 x4 x5 x6)⟩,
    ⟨r1_5, k1_pay32 (k1_pay94 x0 x1 x2 x3 x4 x5 x6)⟩,
    ⟨r1_3, k1_pay26 (k1_pay94 x0 x1 x2 x3 x4 x5 x6)⟩]

/-- Its stores tile the buffer (checked by evaluation), so they cover it. -/
theorem cover1_9 (p0 : Vec F S1x512x64 .f32) (p1 : Vec F S1x512x64 .f32) (p2 : Vec F S1x512x64 .f32) (p3 : Vec F S1x512x64 .f32) (p4 : Vec F S1x512x64 .f32) (p5 : Vec F S1x512x64 .f32) (p6 : Vec F S1x512x64 .f32) (p7 : Vec F S1x512x64 .f32) (p8 : Vec F S1x512x64 .f32) (p9 : Vec F S1x512x64 .f32) (p10 : Vec F S1x512x64 .f32) (p11 : Vec F S1x512x64 .f32) (y : S12x512x64.Idx) :
    ∃ pc ∈ ([⟨r1_25, p0⟩, ⟨r1_23, p1⟩, ⟨r1_21, p2⟩, ⟨r1_19, p3⟩, ⟨r1_17, p4⟩, ⟨r1_15, p5⟩, ⟨r1_13, p6⟩, ⟨r1_11, p7⟩, ⟨r1_9, p8⟩, ⟨r1_7, p9⟩, ⟨r1_5, p10⟩, ⟨r1_3, p11⟩] : List (View.Piece (Elt F) S12x512x64 .f32)), y ∈ pc.1.set :=
  View.cover_of_tiled [⟨r1_25, p0⟩, ⟨r1_23, p1⟩, ⟨r1_21, p2⟩, ⟨r1_19, p3⟩, ⟨r1_17, p4⟩, ⟨r1_15, p5⟩, ⟨r1_13, p6⟩, ⟨r1_11, p7⟩, ⟨r1_9, p8⟩, ⟨r1_7, p9⟩, ⟨r1_5, p10⟩, ⟨r1_3, p11⟩] S1x512x64.size (by rfl) y

/-- Window 10's staging buffer after the body, from the input windows' blocks: its 12 stores as pieces, LAST
    FIRST . -/
def out1_10 (x0 : Vec F S1x512x768 .f32) (x1 : Vec F S1x512x768 .f32) (x2 : Vec F S1x512x768 .f32) (x3 : Vec F S768x768 .f32) (x4 : Vec F S768x768 .f32) (x5 : Vec F S768x768 .f32) (x6 : Vec F S1x768 .f32) : Vec F S12x512x128 .i8 :=
  View.canon [⟨r1_26, k1_pay88 (k1_pay100 x0 x1 x2 x3 x4 x5 x6) (k1_pay103 x0 x1 x2 x3 x4 x5 x6)⟩,
    ⟨r1_24, k1_pay82 (k1_pay100 x0 x1 x2 x3 x4 x5 x6) (k1_pay103 x0 x1 x2 x3 x4 x5 x6)⟩,
    ⟨r1_22, k1_pay77 (k1_pay100 x0 x1 x2 x3 x4 x5 x6) (k1_pay103 x0 x1 x2 x3 x4 x5 x6)⟩,
    ⟨r1_20, k1_pay71 (k1_pay100 x0 x1 x2 x3 x4 x5 x6) (k1_pay103 x0 x1 x2 x3 x4 x5 x6)⟩,
    ⟨r1_18, k1_pay65 (k1_pay100 x0 x1 x2 x3 x4 x5 x6) (k1_pay103 x0 x1 x2 x3 x4 x5 x6)⟩,
    ⟨r1_16, k1_pay60 (k1_pay59 (k1_pay100 x0 x1 x2 x3 x4 x5 x6) (k1_pay103 x0 x1 x2 x3 x4 x5 x6))⟩,
    ⟨r1_14, k1_pay54 (k1_pay100 x0 x1 x2 x3 x4 x5 x6) (k1_pay103 x0 x1 x2 x3 x4 x5 x6)⟩,
    ⟨r1_12, k1_pay49 (k1_pay100 x0 x1 x2 x3 x4 x5 x6) (k1_pay103 x0 x1 x2 x3 x4 x5 x6)⟩,
    ⟨r1_10, k1_pay44 (k1_pay100 x0 x1 x2 x3 x4 x5 x6) (k1_pay103 x0 x1 x2 x3 x4 x5 x6)⟩,
    ⟨r1_8, k1_pay39 (k1_pay38 (k1_pay100 x0 x1 x2 x3 x4 x5 x6) (k1_pay103 x0 x1 x2 x3 x4 x5 x6))⟩,
    ⟨r1_6, k1_pay33 (k1_pay100 x0 x1 x2 x3 x4 x5 x6) (k1_pay103 x0 x1 x2 x3 x4 x5 x6)⟩,
    ⟨r1_4, k1_pay27 (k1_pay100 x0 x1 x2 x3 x4 x5 x6) (k1_pay102 x0 x1 x2 x3 x4 x5 x6)⟩]

/-- Its stores tile the buffer (checked by evaluation), so they cover it. -/
theorem cover1_10 (p0 : Vec F S1x512x128 .i8) (p1 : Vec F S1x512x128 .i8) (p2 : Vec F S1x512x128 .i8) (p3 : Vec F S1x512x128 .i8) (p4 : Vec F S1x512x128 .i8) (p5 : Vec F S1x512x128 .i8) (p6 : Vec F S1x512x128 .i8) (p7 : Vec F S1x512x128 .i8) (p8 : Vec F S1x512x128 .i8) (p9 : Vec F S1x512x128 .i8) (p10 : Vec F S1x512x128 .i8) (p11 : Vec F S1x512x128 .i8) (y : S12x512x128.Idx) :
    ∃ pc ∈ ([⟨r1_26, p0⟩, ⟨r1_24, p1⟩, ⟨r1_22, p2⟩, ⟨r1_20, p3⟩, ⟨r1_18, p4⟩, ⟨r1_16, p5⟩, ⟨r1_14, p6⟩, ⟨r1_12, p7⟩, ⟨r1_10, p8⟩, ⟨r1_8, p9⟩, ⟨r1_6, p10⟩, ⟨r1_4, p11⟩] : List (View.Piece (Elt F) S12x512x128 .i8)), y ∈ pc.1.set :=
  View.cover_of_tiled [⟨r1_26, p0⟩, ⟨r1_24, p1⟩, ⟨r1_22, p2⟩, ⟨r1_20, p3⟩, ⟨r1_18, p4⟩, ⟨r1_16, p5⟩, ⟨r1_14, p6⟩, ⟨r1_12, p7⟩, ⟨r1_10, p8⟩, ⟨r1_8, p9⟩, ⟨r1_6, p10⟩, ⟨r1_4, p11⟩] S1x512x128.size (by rfl) y

/-- Window 11's staging buffer after the body, from the input windows' blocks: its 12 stores as pieces, LAST
    FIRST . -/
def out1_11 (x0 : Vec F S1x512x768 .f32) (x1 : Vec F S1x512x768 .f32) (x2 : Vec F S1x512x768 .f32) (x3 : Vec F S768x768 .f32) (x4 : Vec F S768x768 .f32) (x5 : Vec F S768x768 .f32) (x6 : Vec F S1x768 .f32) : Vec F S12x512x128 .i8 :=
  View.canon [⟨r1_26, k1_pay1 (k1_pay89 (k1_pay101 x0 x1 x2 x3 x4 x5 x6) (k1_pay104 x0 x1 x2 x3 x4 x5 x6))⟩,
    ⟨r1_24, k1_pay84 (k1_pay104 x0 x1 x2 x3 x4 x5 x6) (k1_pay83 (k1_pay101 x0 x1 x2 x3 x4 x5 x6))⟩,
    ⟨r1_22, k1_pay78 (k1_pay101 x0 x1 x2 x3 x4 x5 x6) (k1_pay104 x0 x1 x2 x3 x4 x5 x6)⟩,
    ⟨r1_20, k1_pay72 (k1_pay101 x0 x1 x2 x3 x4 x5 x6) (k1_pay104 x0 x1 x2 x3 x4 x5 x6)⟩,
    ⟨r1_18, k1_pay66 (k1_pay101 x0 x1 x2 x3 x4 x5 x6) (k1_pay104 x0 x1 x2 x3 x4 x5 x6)⟩,
    ⟨r1_16, k1_pay61 (k1_pay101 x0 x1 x2 x3 x4 x5 x6) (k1_pay104 x0 x1 x2 x3 x4 x5 x6)⟩,
    ⟨r1_14, k1_pay55 (k1_pay101 x0 x1 x2 x3 x4 x5 x6) (k1_pay104 x0 x1 x2 x3 x4 x5 x6)⟩,
    ⟨r1_12, k1_pay50 (k1_pay101 x0 x1 x2 x3 x4 x5 x6) (k1_pay104 x0 x1 x2 x3 x4 x5 x6)⟩,
    ⟨r1_10, k1_pay45 (k1_pay101 x0 x1 x2 x3 x4 x5 x6) (k1_pay104 x0 x1 x2 x3 x4 x5 x6)⟩,
    ⟨r1_8, k1_pay40 (k1_pay101 x0 x1 x2 x3 x4 x5 x6) (k1_pay104 x0 x1 x2 x3 x4 x5 x6)⟩,
    ⟨r1_6, k1_pay34 (k1_pay101 x0 x1 x2 x3 x4 x5 x6) (k1_pay104 x0 x1 x2 x3 x4 x5 x6)⟩,
    ⟨r1_4, k1_pay28 (k1_pay98 x0 x1 x2 x3 x4 x5 x6) (k1_pay99 x0 x1 x2 x3 x4 x5 x6) (k1_pay101 x0 x1 x2 x3 x4 x5 x6)⟩]

/-- Its stores tile the buffer (checked by evaluation), so they cover it. -/
theorem cover1_11 (p0 : Vec F S1x512x128 .i8) (p1 : Vec F S1x512x128 .i8) (p2 : Vec F S1x512x128 .i8) (p3 : Vec F S1x512x128 .i8) (p4 : Vec F S1x512x128 .i8) (p5 : Vec F S1x512x128 .i8) (p6 : Vec F S1x512x128 .i8) (p7 : Vec F S1x512x128 .i8) (p8 : Vec F S1x512x128 .i8) (p9 : Vec F S1x512x128 .i8) (p10 : Vec F S1x512x128 .i8) (p11 : Vec F S1x512x128 .i8) (y : S12x512x128.Idx) :
    ∃ pc ∈ ([⟨r1_26, p0⟩, ⟨r1_24, p1⟩, ⟨r1_22, p2⟩, ⟨r1_20, p3⟩, ⟨r1_18, p4⟩, ⟨r1_16, p5⟩, ⟨r1_14, p6⟩, ⟨r1_12, p7⟩, ⟨r1_10, p8⟩, ⟨r1_8, p9⟩, ⟨r1_6, p10⟩, ⟨r1_4, p11⟩] : List (View.Piece (Elt F) S12x512x128 .i8)), y ∈ pc.1.set :=
  View.cover_of_tiled [⟨r1_26, p0⟩, ⟨r1_24, p1⟩, ⟨r1_22, p2⟩, ⟨r1_20, p3⟩, ⟨r1_18, p4⟩, ⟨r1_16, p5⟩, ⟨r1_14, p6⟩, ⟨r1_12, p7⟩, ⟨r1_10, p8⟩, ⟨r1_8, p9⟩, ⟨r1_6, p10⟩, ⟨r1_4, p11⟩] S1x512x128.size (by rfl) y

/-! ## The body's triple -/

set_option maxHeartbeats 1263300 in
/-- The kernel body on whole staging memrefs, the inputs' at read contents `xW` and the outputs' at anything, runs to
    the continuation holding the inputs' as they were and each output's at `out1_W` of the inputs': the printed functions
    are their skeletons (`Gen.*_eq_skeleton`), which `sl_exec` runs , through every part call. -/
theorem sound_kernel1 (c : Dev nD) (E : Set ℕ) (i : grid1.Coords) (arg1 : Memref sig .tc .vmem S1x512x768 .f32) (harg1 : arg1.IsWhole) (arg2 : Memref sig .tc .vmem S1x512x768 .f32) (harg2 : arg2.IsWhole) (arg3 : Memref sig .tc .vmem S1x512x768 .f32) (harg3 : arg3.IsWhole) (arg4 : Memref sig .tc .vmem S768x768 .f32) (harg4 : arg4.IsWhole) (arg5 : Memref sig .tc .vmem S768x768 .f32) (harg5 : arg5.IsWhole) (arg6 : Memref sig .tc .vmem S768x768 .f32) (harg6 : arg6.IsWhole) (arg7 : Memref sig .tc .vmem S1x768 .f32) (harg7 : arg7.IsWhole) (arg8 : Memref sig .tc .vmem S12x512x64 .f32) (harg8 : arg8.IsWhole) (arg9 : Memref sig .tc .vmem S12x512x64 .f32) (harg9 : arg9.IsWhole) (arg10 : Memref sig .tc .vmem S12x512x64 .f32) (harg10 : arg10.IsWhole) (arg11 : Memref sig .tc .vmem S12x512x128 .i8) (harg11 : arg11.IsWhole) (arg12 : Memref sig .tc .vmem S12x512x128 .i8) (harg12 : arg12.IsWhole)
    (x0 : Vec F S1x512x768 .f32) (x1 : Vec F S1x512x768 .f32) (x2 : Vec F S1x512x768 .f32) (x3 : Vec F S768x768 .f32) (x4 : Vec F S768x768 .f32) (x5 : Vec F S768x768 .f32) (x6 : Vec F S1x768 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6) ∗ owns (c : Thread nD τ) arg9 fullShare (out1_8 x0 x1 x2 x3 x4 x5 x6) ∗ owns (c : Thread nD τ) arg10 fullShare (out1_9 x0 x1 x2 x3 x4 x5 x6) ∗ owns (c : Thread nD τ) arg11 fullShare (out1_10 x0 x1 x2 x3 x4 x5 x6) ∗ owns (c : Thread nD τ) arg12 fullShare (out1_11 x0 x1 x2 x3 x4 x5 x6)) -∗ K ⟨⟩))
      ⊢ wp frame (wpE (defs₀ (F := F)) Variants.none c none) E (cc1__proj_body i arg1 harg1 arg2 harg2 arg3 harg3 arg4 harg4 arg5 harg5 arg6 harg6 arg7 harg7 arg8 harg8 arg9 harg9 arg10 harg10 arg11 harg11 arg12 harg12) K := by
  simp only [cc1__proj_body_eq_skeleton]; unfold cc1__proj_body_skel
  simp only [k1_part13_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (cover1_7 _ _ _ _ _ _ _ _ _ _ _ _)).trans ?_
    rfl
  isplitl [H8]
  · iexists _; isplitr
    swap; · iexact H8
    ipureintro
    refine (View.read_writes_eq_canon _ _ _ (cover1_8 _ _ _ _ _ _ _ _ _ _ _ _)).trans ?_
    rfl
  isplitl [H9]
  · iexists _; isplitr
    swap; · iexact H9
    ipureintro
    refine (View.read_writes_eq_canon _ _ _ (cover1_9 _ _ _ _ _ _ _ _ _ _ _ _)).trans ?_
    rfl
  isplitl [H10]
  · iexists _; isplitr
    swap; · iexact H10
    ipureintro
    refine (View.read_writes_eq_canon _ _ _ (cover1_10 _ _ _ _ _ _ _ _ _ _ _ _)).trans ?_
    rfl
  iexists _; isplitr
  swap; · iexact H11
  ipureintro
  refine (View.read_writes_eq_canon _ _ _ (cover1_11 _ _ _ _ _ _ _ _ _ _ _ _)).trans ?_
  rfl

/-! ## The pipeline's proof data -/

/-- The proof data of pipeline 1 on core `c`: the arrays as the region finds them (`V`); after the body at
    point `t` each input's buffer at its block and each output's at `out1_W` of the input blocks; the invariant the
    class's ; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
    | ⟨8, _⟩ => out1_8 (iblk1 V c 0 t) (iblk1 V c 1 t) (iblk1 V c 2 t) (iblk1 V c 3 t) (iblk1 V c 4 t) (iblk1 V c 5 t) (iblk1 V c 6 t)
    | ⟨9, _⟩ => out1_9 (iblk1 V c 0 t) (iblk1 V c 1 t) (iblk1 V c 2 t) (iblk1 V c 3 t) (iblk1 V c 4 t) (iblk1 V c 5 t) (iblk1 V c 6 t)
    | ⟨10, _⟩ => out1_10 (iblk1 V c 0 t) (iblk1 V c 1 t) (iblk1 V c 2 t) (iblk1 V c 3 t) (iblk1 V c 4 t) (iblk1 V c 5 t) (iblk1 V c 6 t)
    | ⟨11, _⟩ => out1_11 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) := by dsimp only [dat1]
theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) := by dsimp only [dat1]
theorem after1_11 (c : Dev nD) (t : Fin cfg1.N) : (dat1 V c).after 11 t = out1_11 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t` , -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel1 c Set.univ (grid1.coords t) _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated . -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Hand

end
-- ==== Proof.KernelIdealAttn.lean ====
/- The third call (the attention of one head at a point): what its body leaves, and its obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the call is entered
variable (V : (c : Dev nD) → (b : Ref sig .tc) → Buf (Elt F) ((c : Thread nD τ).loc b))

/-! # REGION 2 of @main: custom_call 2, `cc2__attn_body` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1 holds its block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2 holds its block at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3 holds its block at every point. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4 holds its block at every point. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S1x2048x128 := Rect.unit (s := S1x2048x128) ![0, 0, 0] S1x2048x128.size inb_S1x2048x128_S1x2048x128_0_0_0
abbrev r2_1 : Rect S1x2048x64 := Rect.unit (s := S1x2048x64) ![0, 0, 0] S1x2048x64.size inb_S1x2048x64_S1x2048x64_0_0_0

/-! ## What the body leaves in each output window's buffer -/

/-- The body's branch on a largest score `s`: taken iff `s` is above 64. -/
abbrev above (s : BitVec 32) : Prop := Scalar.cmpi .ne (Scalar.extui (Scalar.cmpi .sgt s 64#32)) 0#32 = 1#1

/-- The other branch's condition. -/
abbrev notAbove (s : BitVec 32) : Prop := Scalar.cmpi .ne (Scalar.extui (Scalar.xori (Scalar.cmpi .sgt s 64#32) 1#1)) 0#32 = 1#1

/-- The two branches exclude each other. -/
theorem notAbove_iff (s : BitVec 32) : notAbove s ↔ ¬ above s := by
  unfold notAbove above
  generalize Scalar.cmpi .sgt s 64#32 = b
  revert b; decide

/-- The body's first branch, its payload a parameter. -/
noncomputable def part2 (p4 : IVec S2048x2048 32 → Vec F S1x2048x64 .f32 → Vec F S1x2048x64 .f32 → Vec F S1x2048x64 .f32 → FVec F S1x2048x64 .f32) (i : grid2.Coords) (arg2 : Memref sig .tc .vmem S1x2048x128 .i8) (harg2 : arg2.IsWhole) (arg3 : Memref sig .tc .vmem S1x2048x128 .i8) (harg3 : arg3.IsWhole) (arg4 : Memref sig .tc .vmem S1x2048x64 .f32) (harg4 : arg4.IsWhole) (arg5 : Memref sig .tc .vmem S1x2048x64 .f32) (harg5 : arg5.IsWhole) (arg6 : Memref sig .tc .vmem S1x2048x64 .f32) (harg6 : arg6.IsWhole) (arg7 : Memref sig .tc .vmem S1x2048x64 .f32) (harg7 : arg7.IsWhole) (v5 : IVec S2048x2048 32) :
    Prog (TpuEff nD τ sig (Elt F) Λ₀ .tc) (PUnit) := do
  let v16 : Vec F S1x2048x64 .f32 ← Prog.lift (.load arg4 (Rect.unit (s := S1x2048x64) ![0, 0, 0] S1x2048x64.size inb_S1x2048x64_S1x2048x64_0_0_0).toLoadRect (View.loadsAt_vmem h_S1x2048x64))
  let v18 : Vec F S1x2048x64 .f32 ← Prog.lift (.load arg5 (Rect.unit (s := S1x2048x64) ![0, 0, 0] S1x2048x64.size inb_S1x2048x64_S1x2048x64_0_0_0).toLoadRect (View.loadsAt_vmem h_S1x2048x64))

  let v46 : Vec F S1x2048x64 .f32 ← Prog.lift (.load arg6 (Rect.unit (s := S1x2048x64) ![0, 0, 0] S1x2048x64.size inb_S1x2048x64_S1x2048x64_0_0_0).toLoadRect (View.loadsAt_vmem h_S1x2048x64))
  let v49 : Vec F S1x2048x64 .f32 ← Prog.lift (.load arg7 (Rect.unit (s := S1x2048x64) ![0, 0, 0] S1x2048x64.size inb_S1x2048x64_S1x2048x64_0_0_0).toLoadRect (View.loadsAt_vmem h_S1x2048x64))

  Prog.lift (.store arg7 (Rect.unit (s := S1x2048x64) ![0, 0, 0] S1x2048x64.size inb_S1x2048x64_S1x2048x64_0_0_0) (p4 v5 v16 v18 v46) Finset.univ (View.stores_vmem_bits_univ h_S1x2048x64 rfl) (.inl rfl))
  pure ⟨⟩

/-- The body, its payloads parameters. -/
noncomputable def body2 (sc : Vec F S1x2048x128 .i8 → Vec F S1x2048x128 .i8 → BitVec 32) (p1 : Vec F S1x2048x128 .i8 → Vec F S1x2048x128 .i8 → IVec S2048x2048 32) (p3 : FVec F S1x2048x64 .f32) (p4 : IVec S2048x2048 32 → Vec F S1x2048x64 .f32 → Vec F S1x2048x64 .f32 → Vec F S1x2048x64 .f32 → FVec F S1x2048x64 .f32) (i : grid2.Coords) (arg2 : Memref sig .tc .vmem S1x2048x128 .i8) (harg2 : arg2.IsWhole) (arg3 : Memref sig .tc .vmem S1x2048x128 .i8) (harg3 : arg3.IsWhole) (arg4 : Memref sig .tc .vmem S1x2048x64 .f32) (harg4 : arg4.IsWhole) (arg5 : Memref sig .tc .vmem S1x2048x64 .f32) (harg5 : arg5.IsWhole) (arg6 : Memref sig .tc .vmem S1x2048x64 .f32) (harg6 : arg6.IsWhole) (arg7 : Memref sig .tc .vmem S1x2048x64 .f32) (harg7 : arg7.IsWhole) :
    Prog (TpuEff nD τ sig (Elt F) Λ₀ .tc) PUnit := do

  let v0 : Vec F S1x2048x128 .i8 ← Prog.lift (.load arg2 (Rect.unit (s := S1x2048x128) ![0, 0, 0] S1x2048x128.size inb_S1x2048x128_S1x2048x128_0_0_0).toLoadRect (View.loadsAt_vmem h_S1x2048x128))
  let v2 : Vec F S1x2048x128 .i8 ← Prog.lift (.load arg3 (Rect.unit (s := S1x2048x128) ![0, 0, 0] S1x2048x128.size inb_S1x2048x128_S1x2048x128_0_0_0).toLoadRect (View.loadsAt_vmem h_S1x2048x128))

  let v9 : BitVec 32 := sc v0 v2
  let v10 : BitVec 1 := Scalar.cmpi .sgt v9 64#32
  let v11 : BitVec 32 := Scalar.extui v10
  let v12 : BitVec 1 := Scalar.cmpi .ne v11 0#32
  if v12 = 1#1 then do
    part2 p4 i arg2 harg2 arg3 harg3 arg4 harg4 arg5 harg5 arg6 harg6 arg7 harg7 (p1 v0 v2)
    pure ⟨⟩
  else do
    pure ⟨⟩
  let v13 : BitVec 1 := Scalar.xori v10 1#1
  let v14 : BitVec 32 := Scalar.extui v13
  let v15 : BitVec 1 := Scalar.cmpi .ne v14 0#32
  if v15 = 1#1 then do
    let v17 : Vec F S1x2048x64 .f32 ← Prog.lift (.load arg7 (Rect.unit (s := S1x2048x64) ![0, 0, 0] S1x2048x64.size inb_S1x2048x64_S1x2048x64_0_0_0).toLoadRect (View.loadsAt_vmem h_S1x2048x64))

    Prog.lift (.store arg7 (Rect.unit (s := S1x2048x64) ![0, 0, 0] S1x2048x64.size inb_S1x2048x64_S1x2048x64_0_0_0) p3 Finset.univ (View.stores_vmem_bits_univ h_S1x2048x64 rfl) (.inl rfl))
    pure ⟨⟩
  else do
    pure ⟨⟩
  pure ⟨⟩

/-- The payloads' types: the largest score, the scores, the zeros, the attention. -/
abbrev Pays (F : FTy → Type) [FloatOps F] := (Vec F S1x2048x128 .i8 → Vec F S1x2048x128 .i8 → BitVec 32) × (Vec F S1x2048x128 .i8 → Vec F S1x2048x128 .i8 → IVec S2048x2048 32) × FVec F S1x2048x64 .f32 × (IVec S2048x2048 32 → Vec F S1x2048x64 .f32 → Vec F S1x2048x64 .f32 → Vec F S1x2048x64 .f32 → FVec F S1x2048x64 .f32)

/-- There are payloads equal to the body's. -/
theorem pays_exists : ∃ q : Pays F, q = (fun v0 v2 => extractAt ![0, 0, 0] (k2_pay2 (F := F) v0 v2) inpos_S1x1x1_p0_0_0, k2_pay1 (F := F), k2_pay3 (F := F), k2_pay4 (F := F)) := ⟨_, rfl⟩

/-- The body's payloads, chosen so that no check unfolds the scores of all pairs. -/
def pays : Pays F := Classical.choose (pays_exists (F := F))

/-- What the payloads are. -/
theorem pays_eq : pays (F := F) = (fun v0 v2 => extractAt ![0, 0, 0] (k2_pay2 (F := F) v0 v2) inpos_S1x1x1_p0_0_0, k2_pay1 (F := F), k2_pay3 (F := F), k2_pay4 (F := F)) :=
  Classical.choose_spec (pays_exists (F := F))

/-- The printed body is `body2` at its payloads. -/
theorem body2_eq : cc2__attn_body (F := F) = body2 (pays (F := F)).1 (pays (F := F)).2.1 (pays (F := F)).2.2.1 (pays (F := F)).2.2.2 := by
  rw [pays_eq]; dsimp only
  rw [cc2__attn_body_eq_skeleton]; unfold cc2__attn_body_skel
  rw [k2_part1_eq_skeleton]; unfold body2 part2 k2_part1_skel
  with_reducible rfl

/-- What the body leaves in its result's buffer, its payloads parameters. -/
def outG2 (sc : Vec F S1x2048x128 .i8 → Vec F S1x2048x128 .i8 → BitVec 32) (p1 : Vec F S1x2048x128 .i8 → Vec F S1x2048x128 .i8 → IVec S2048x2048 32) (p3 : FVec F S1x2048x64 .f32) (p4 : IVec S2048x2048 32 → Vec F S1x2048x64 .f32 → Vec F S1x2048x64 .f32 → Vec F S1x2048x64 .f32 → FVec F S1x2048x64 .f32) (x0 : Vec F S1x2048x128 .i8) (x1 : Vec F S1x2048x128 .i8) (x2 : Vec F S1x2048x64 .f32) (x3 : Vec F S1x2048x64 .f32) (x4 : Vec F S1x2048x64 .f32) : Vec F S1x2048x64 .f32 :=
  @ite _ (above (sc (View.ld x0 r2_0) (View.ld x1 r2_0))) (Classical.propDecidable _)
    (View.canon [⟨r2_1, p4 (p1 (View.ld x0 r2_0) (View.ld x1 r2_0)) (View.ld x2 r2_1) (View.ld x3 r2_1) (View.ld x4 r2_1)⟩])
    (View.canon [⟨r2_1, p3⟩])

/-- Window 5's staging buffer after the body: the attention where some pair scores above 64, zeros otherwise. -/
def out2_5 : Vec F S1x2048x128 .i8 → Vec F S1x2048x128 .i8 → Vec F S1x2048x64 .f32 → Vec F S1x2048x64 .f32 → Vec F S1x2048x64 .f32 → Vec F S1x2048x64 .f32 :=
  outG2 (pays (F := F)).1 (pays (F := F)).2.1 (pays (F := F)).2.2.1 (pays (F := F)).2.2.2

/-- What `out2_5` is. -/
theorem out2_5_eq : out2_5 (F := F) = outG2 (fun v0 v2 => extractAt ![0, 0, 0] (k2_pay2 (F := F) v0 v2) inpos_S1x1x1_p0_0_0) (k2_pay1 (F := F)) (k2_pay3 (F := F)) (k2_pay4 (F := F)) := by
  unfold out2_5; rw [pays_eq]

/-- Its stores tile the buffer (checked by evaluation), so they cover it. -/
theorem cover2_5 (p0 : Vec F S1x2048x64 .f32) (y : S1x2048x64.Idx) :
    ∃ pc ∈ ([⟨r2_1, p0⟩] : List (View.Piece (Elt F) S1x2048x64 .f32)), y ∈ pc.1.set :=
  View.cover_of_tiled [⟨r2_1, p0⟩] S1x2048x64.size (by rfl) y

/-! ## The body's triple -/

set_option maxHeartbeats 1000000 in
/-- The body with its payloads parameters: from the windows at their contents to the result at `outG2`. -/
theorem sound_body2G (sc : Vec F S1x2048x128 .i8 → Vec F S1x2048x128 .i8 → BitVec 32) (p1 : Vec F S1x2048x128 .i8 → Vec F S1x2048x128 .i8 → IVec S2048x2048 32) (p3 : FVec F S1x2048x64 .f32) (p4 : IVec S2048x2048 32 → Vec F S1x2048x64 .f32 → Vec F S1x2048x64 .f32 → Vec F S1x2048x64 .f32 → FVec F S1x2048x64 .f32) (o : Vec F S1x2048x128 .i8 → Vec F S1x2048x128 .i8 → Vec F S1x2048x64 .f32 → Vec F S1x2048x64 .f32 → Vec F S1x2048x64 .f32 → Vec F S1x2048x64 .f32) (ho : o = outG2 sc p1 p3 p4) (prog : ∀ (i : grid2.Coords) (arg2 : Memref sig .tc .vmem S1x2048x128 .i8) (harg2 : arg2.IsWhole) (arg3 : Memref sig .tc .vmem S1x2048x128 .i8) (harg3 : arg3.IsWhole) (arg4 : Memref sig .tc .vmem S1x2048x64 .f32) (harg4 : arg4.IsWhole) (arg5 : Memref sig .tc .vmem S1x2048x64 .f32) (harg5 : arg5.IsWhole) (arg6 : Memref sig .tc .vmem S1x2048x64 .f32) (harg6 : arg6.IsWhole) (arg7 : Memref sig .tc .vmem S1x2048x64 .f32) (harg7 : arg7.IsWhole), Prog (TpuEff nD τ sig (Elt F) Λ₀ .tc) PUnit) (hprog : prog = body2 sc p1 p3 p4) (c : Dev nD) (E : Set ℕ) (i : grid2.Coords) (arg2 : Memref sig .tc .vmem S1x2048x128 .i8) (harg2 : arg2.IsWhole) (arg3 : Memref sig .tc .vmem S1x2048x128 .i8) (harg3 : arg3.IsWhole) (arg4 : Memref sig .tc .vmem S1x2048x64 .f32) (harg4 : arg4.IsWhole) (arg5 : Memref sig .tc .vmem S1x2048x64 .f32) (harg5 : arg5.IsWhole) (arg6 : Memref sig .tc .vmem S1x2048x64 .f32) (harg6 : arg6.IsWhole) (arg7 : Memref sig .tc .vmem S1x2048x64 .f32) (harg7 : arg7.IsWhole)
    (x0 : Vec F S1x2048x128 .i8) (x1 : Vec F S1x2048x128 .i8) (x2 : Vec F S1x2048x64 .f32) (x3 : Vec F S1x2048x64 .f32) (x4 : Vec F S1x2048x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (o x0 x1 x2 x3 x4)) -∗ K ⟨⟩))
      ⊢ wp frame (wpE (defs₀ (F := F)) Variants.none c none) E (prog i arg2 harg2 arg3 harg3 arg4 harg4 arg5 harg5 arg6 harg6 arg7 harg7) K := by
  subst hprog; subst ho
  unfold body2 part2
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  rcases Classical.em (above (sc (View.readAt (Elt F) arg2.view r2_0.toLoadRect f0) (View.readAt (Elt F) arg3.view r2_0.toLoadRect f1))) with hc | hc
  · have hn : ¬ notAbove (sc (View.readAt (Elt F) arg2.view r2_0.toLoadRect f0) (View.readAt (Elt F) arg3.view r2_0.toLoadRect f1)) := fun h => (notAbove_iff _).1 h hc
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    iexists _; isplitr
    swap; · iexact H5
    ipureintro
    unfold outG2
    refine Eq.trans ?_ (if_pos (show above (sc (View.ld (View.read (Elt F) arg2.view f0) r2_0) (View.ld (View.read (Elt F) arg3.view f1) r2_0)) from hc)).symm
    exact View.read_writes_eq_canon _ _ _ (cover2_5 _)
  · have hn : notAbove (sc (View.readAt (Elt F) arg2.view r2_0.toLoadRect f0) (View.readAt (Elt F) arg3.view r2_0.toLoadRect f1)) := (notAbove_iff _).2 hc
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    iexists _; isplitr
    swap; · iexact H5
    ipureintro
    unfold outG2
    refine Eq.trans ?_ (if_neg (show ¬ above (sc (View.ld (View.read (Elt F) arg2.view f0) r2_0) (View.ld (View.read (Elt F) arg3.view f1) r2_0)) from hc)).symm
    exact View.read_writes_eq_canon _ _ _ (cover2_5 _)

set_option maxHeartbeats 1000000 in
/-- The printed body: from the windows at their contents to the result at `out2_5`. -/
theorem sound_kernel2 (c : Dev nD) (E : Set ℕ) (i : grid2.Coords) (arg2 : Memref sig .tc .vmem S1x2048x128 .i8) (harg2 : arg2.IsWhole) (arg3 : Memref sig .tc .vmem S1x2048x128 .i8) (harg3 : arg3.IsWhole) (arg4 : Memref sig .tc .vmem S1x2048x64 .f32) (harg4 : arg4.IsWhole) (arg5 : Memref sig .tc .vmem S1x2048x64 .f32) (harg5 : arg5.IsWhole) (arg6 : Memref sig .tc .vmem S1x2048x64 .f32) (harg6 : arg6.IsWhole) (arg7 : Memref sig .tc .vmem S1x2048x64 .f32) (harg7 : arg7.IsWhole)
    (x0 : Vec F S1x2048x128 .i8) (x1 : Vec F S1x2048x128 .i8) (x2 : Vec F S1x2048x64 .f32) (x3 : Vec F S1x2048x64 .f32) (x4 : Vec F S1x2048x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out2_5 x0 x1 x2 x3 x4)) -∗ K ⟨⟩))
      ⊢ wp frame (wpE (defs₀ (F := F)) Variants.none c none) E (cc2__attn_body i arg2 harg2 arg3 harg3 arg4 harg4 arg5 harg5 arg6 harg6 arg7 harg7) K := by
  exact sound_body2G (pays (F := F)).1 (pays (F := F)).2.1 (pays (F := F)).2.2.1 (pays (F := F)).2.2.2 out2_5 rfl cc2__attn_body body2_eq c E i arg2 harg2 arg3 harg3 arg4 harg4 arg5 harg5 arg6 harg6 arg7 harg7 x0 x1 x2 x3 x4 K

/-! ## The pipeline's proof data -/

/-- The proof data of pipeline 2 on core `c`: the arrays as the region finds them (`V`); after the body at
    point `t` each input's buffer at its block and each output's at `out2_W` of the input blocks; the invariant the
    class's ; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t` , -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- Any program with the body's triple takes the body's precondition at point `t` to its postcondition: the inputs'
    memrefs hold their blocks; the invariant and the core's `owes` pass through unread. -/
theorem sound_prog2 (c : Dev nD) (t : Fin cfg2.N) (prog : ∀ (i : grid2.Coords) (arg2 : Memref sig .tc .vmem S1x2048x128 .i8) (harg2 : arg2.IsWhole) (arg3 : Memref sig .tc .vmem S1x2048x128 .i8) (harg3 : arg3.IsWhole) (arg4 : Memref sig .tc .vmem S1x2048x64 .f32) (harg4 : arg4.IsWhole) (arg5 : Memref sig .tc .vmem S1x2048x64 .f32) (harg5 : arg5.IsWhole) (arg6 : Memref sig .tc .vmem S1x2048x64 .f32) (harg6 : arg6.IsWhole) (arg7 : Memref sig .tc .vmem S1x2048x64 .f32) (harg7 : arg7.IsWhole), Prog (TpuEff nD τ sig (Elt F) Λ₀ .tc) PUnit)
    (hk : ∀ (i : grid2.Coords) (arg2 : Memref sig .tc .vmem S1x2048x128 .i8) (harg2 : arg2.IsWhole) (arg3 : Memref sig .tc .vmem S1x2048x128 .i8) (harg3 : arg3.IsWhole) (arg4 : Memref sig .tc .vmem S1x2048x64 .f32) (harg4 : arg4.IsWhole) (arg5 : Memref sig .tc .vmem S1x2048x64 .f32) (harg5 : arg5.IsWhole) (arg6 : Memref sig .tc .vmem S1x2048x64 .f32) (harg6 : arg6.IsWhole) (arg7 : Memref sig .tc .vmem S1x2048x64 .f32) (harg7 : arg7.IsWhole)
    (x0 : Vec F S1x2048x128 .i8) (x1 : Vec F S1x2048x128 .i8) (x2 : Vec F S1x2048x64 .f32) (x3 : Vec F S1x2048x64 .f32) (x4 : Vec F S1x2048x64 .f32) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out2_5 x0 x1 x2 x3 x4)) -∗ K ⟨⟩))
      ⊢ wp frame (wpE (defs₀ (F := F)) Variants.none c none) Set.univ (prog i arg2 harg2 arg3 harg3 arg4 harg4 arg5 harg5 arg6 harg6 arg7 harg7) K) :
    bodyPre2 V c t ⊢ wp frame (wpE (defs₀ (F := F)) Variants.none c none) Set.univ (prog (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5))) (fun _ => bodyPost2 V c t) := by
  unfold bodyPre2 bodyPost2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (hk (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body at any point. -/
theorem sound_body2 (c : Dev nD) (t : Fin cfg2.N) :
    bodyPre2 V c t ⊢ wp frame (wpE (defs₀ (F := F)) Variants.none c none) Set.univ (cc2__attn_body (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5))) (fun _ => bodyPost2 V c t) :=
  sound_prog2 V c t cc2__attn_body (sound_kernel2 c Set.univ)

/-- The body table's row at point `t`'s slots is the body at them. -/
theorem defs₀_row2 (t : Fin cfg2.N) :
    defs₀ (F := F) .tc cfg2.body (cfg2.bodyArgs t (cfg2.slots t)) = cc2__attn_body (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) := by
  unfold defs₀; rw [Defs.onTc_tc]

/-- The library's body obligation, at every point: the body's triple restated . -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Hand

end
-- ==== Proof.KernelIdealOproj.lean ====
/- The fourth call (the output projection, summed over the heads): what its body leaves, and its obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the call is entered
variable (V : (c : Dev nD) → (b : Ref sig .tc) → Buf (Elt F) ((c : Thread nD τ).loc b))

/-! # REGION 3 of @main: custom_call 3, `cc3__oproj_body` (pipeline 3), at the entry contents `V` — class R -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 holds its block at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1 holds its block at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch conditions -/

/-- The condition of the body's `scf.if` 0 (`k3_h1`), from the grid coordinates (the skeleton's scalar
    chain substituted). -/
abbrev cond3_0 (i : grid3.Coords) : Prop := (Scalar.cmpi .ne (Scalar.extui (Scalar.cmpi .eq (BitVec.ofNat 32 (i 1).val) 0#32)) 0#32) = 1#1
/-- It holds at the points ≡ 0 (mod 12) — by arithmetic of the point. -/
theorem hcond3_0 : ∀ t : Fin cfg3.N, cond3_0 (grid3.coords t) ↔ t.val % 12 = 0 :=
  (fun t => by
    have ht : t.val < 24 := Nat.lt_of_lt_of_eq t.isLt N_3
    have e0 : (grid3.coords t 0).val = t.val / 12 % 2 := Pipeline.Grid.coords_val t 0 (by decide) rfl
    have e1 : (grid3.coords t 1).val = t.val / 1 % 12 := Pipeline.Grid.coords_val t 1 (by decide) rfl
    simp only [cond3_0, e0, e1]
    word_cmp
   : ∀ t : Fin grid3.N, cond3_0 (grid3.coords t) ↔ t.val % 12 = 0)

/-! ## The body, its payloads parameters -/

abbrev r3_0 : Rect S1x1024x64 := Rect.unit (s := S1x1024x64) ![0, 0, 0] S1x1024x64.size inb_S1x1024x64_S1x1024x64_0_0_0
abbrev r3_1 : Rect S64x768 := Rect.unit (s := S64x768) ![0, 0] S64x768.size inb_S64x768_S64x768_0_0
abbrev r3_2 : Rect S1024x768 := Rect.unit (s := S1024x768) ![0, 0] S1024x768.size inb_S1024x768_S1024x768_0_0

/-- The body's second branch on the bit `b` (is some entry of the head's output not zero): taken iff it is set. -/
abbrev nonzero (b : BitVec 1) : Prop := Scalar.cmpi .ne (Scalar.extui b) 0#32 = 1#1

/-- The body, its payloads parameters. -/
noncomputable def body3 (g : Vec F S1x1024x64 .f32 → BitVec 1) (p2 : FVec F S1024x768 .f32) (p4 : Vec F S1x1024x64 .f32 → Vec F S1024x768 .f32 → Vec F S64x768 .f32 → FVec F S1024x768 .f32) (i : grid3.Coords) (arg2 : Memref sig .tc .vmem S1x1024x64 .f32) (harg2 : arg2.IsWhole) (arg3 : Memref sig .tc .vmem S64x768 .f32) (harg3 : arg3.IsWhole) (arg4 : Memref sig .tc .vmem S1024x768 .f32) (harg4 : arg4.IsWhole) :
    Prog (TpuEff nD τ sig (Elt F) Λ₀ .tc) PUnit := do

  let arg1 : BitVec 32 := BitVec.ofNat 32 (i 1).val
  let v0 : Vec F S1x1024x64 .f32 ← Prog.lift (.load arg2 (Rect.unit (s := S1x1024x64) ![0, 0, 0] S1x1024x64.size inb_S1x1024x64_S1x1024x64_0_0_0).toLoadRect (View.loadsAt_vmem h_S1x1024x64))
  let v2 : BitVec 1 := Scalar.cmpi .eq arg1 0#32
  let v3 : BitVec 32 := Scalar.extui v2
  let v4 : BitVec 1 := Scalar.cmpi .ne v3 0#32
  if k3_h1 : v4 = 1#1 then do
    let v18 : Vec F S1024x768 .f32 ← Prog.lift (.load arg4 (Rect.unit (s := S1024x768) ![0, 0] S1024x768.size inb_S1024x768_S1024x768_0_0).toLoadRect (View.loadsAt_vmem h_S1024x768))
    Prog.lift (.store arg4 (Rect.unit (s := S1024x768) ![0, 0] S1024x768.size inb_S1024x768_S1024x768_0_0) p2 Finset.univ (View.stores_vmem_bits_univ h_S1024x768 rfl) (.inl rfl))
    pure ⟨⟩
  else do
    pure ⟨⟩

  let v14 : BitVec 1 := g v0
  let v15 : BitVec 32 := Scalar.extui v14
  let v16 : BitVec 1 := Scalar.cmpi .ne v15 0#32
  if v16 = 1#1 then do
    let v17 : Vec F S1024x768 .f32 ← Prog.lift (.load arg4 (Rect.unit (s := S1024x768) ![0, 0] S1024x768.size inb_S1024x768_S1024x768_0_0).toLoadRect (View.loadsAt_vmem h_S1024x768))
    let v19 : Vec F S64x768 .f32 ← Prog.lift (.load arg3 (Rect.unit (s := S64x768) ![0, 0] S64x768.size inb_S64x768_S64x768_0_0).toLoadRect (View.loadsAt_vmem h_S64x768))
    let v22 : Vec F S1024x768 .f32 ← Prog.lift (.load arg4 (Rect.unit (s := S1024x768) ![0, 0] S1024x768.size inb_S1024x768_S1024x768_0_0).toLoadRect (View.loadsAt_vmem h_S1024x768))
    Prog.lift (.store arg4 (Rect.unit (s := S1024x768) ![0, 0] S1024x768.size inb_S1024x768_S1024x768_0_0) (p4 v0 v17 v19) Finset.univ (View.stores_vmem_bits_univ h_S1024x768 rfl) (.inl rfl))
    pure ⟨⟩
  else do
    pure ⟨⟩
  pure ⟨⟩

/-- The payloads' types: the bit of the second branch, the zeros, the accumulation. -/
abbrev Pays3 (F : FTy → Type) [FloatOps F] := (Vec F S1x1024x64 .f32 → BitVec 1) × FVec F S1024x768 .f32 × (Vec F S1x1024x64 .f32 → Vec F S1024x768 .f32 → Vec F S64x768 .f32 → FVec F S1024x768 .f32)

/-- There are payloads equal to the body's. -/
theorem pays3_exists : ∃ q : Pays3 F, q = (fun v0 => Scalar.cmpf .ogt (k3_pay3 (F := F) v0) (Scalar.ofBits .f32 0x00000000#32), k3_pay2 (F := F), k3_pay4 (F := F)) := ⟨_, rfl⟩

/-- The body's payloads, chosen so that no check unfolds the reduction over a block. -/
def pays3 : Pays3 F := Classical.choose (pays3_exists (F := F))

/-- What the payloads are. -/
theorem pays3_eq : pays3 (F := F) = (fun v0 => Scalar.cmpf .ogt (k3_pay3 (F := F) v0) (Scalar.ofBits .f32 0x00000000#32), k3_pay2 (F := F), k3_pay4 (F := F)) :=
  Classical.choose_spec (pays3_exists (F := F))

/-- The printed body is `body3` at its payloads. -/
theorem body3_eq : cc3__oproj_body (F := F) = body3 (pays3 (F := F)).1 (pays3 (F := F)).2.1 (pays3 (F := F)).2.2 := by
  rw [pays3_eq]; dsimp only
  rw [cc3__oproj_body_eq_skeleton]; unfold cc3__oproj_body_skel
  unfold body3
  with_reducible rfl

/-- What the body leaves at a first head: zeros, and the head's product added where the head's output is not zero. -/
def outA3 (g : Vec F S1x1024x64 .f32 → BitVec 1) (p2 : FVec F S1024x768 .f32) (p4 : Vec F S1x1024x64 .f32 → Vec F S1024x768 .f32 → Vec F S64x768 .f32 → FVec F S1024x768 .f32) (x0 : Vec F S1x1024x64 .f32) (x1 : Vec F S64x768 .f32) : Vec F S1024x768 .f32 :=
  @ite _ (nonzero (g (View.ld x0 r3_0))) (Classical.propDecidable _)
    (View.canon [⟨r3_2, p4 (View.ld x0 r3_0) p2 (View.ld x1 r3_1)⟩, ⟨r3_2, p2⟩])
    (View.canon [⟨r3_2, p2⟩])

/-- What the body leaves at a later head, over what the head before left. -/
def outB3 (g : Vec F S1x1024x64 .f32 → BitVec 1) (p2 : FVec F S1024x768 .f32) (p4 : Vec F S1x1024x64 .f32 → Vec F S1024x768 .f32 → Vec F S64x768 .f32 → FVec F S1024x768 .f32) (x0 : Vec F S1x1024x64 .f32) (x1 : Vec F S64x768 .f32) (xo : Vec F S1024x768 .f32) : Vec F S1024x768 .f32 :=
  @ite _ (nonzero (g (View.ld x0 r3_0))) (Classical.propDecidable _)
    (View.canon [⟨r3_2, p4 (View.ld x0 r3_0) (View.ld xo r3_2) (View.ld x1 r3_1)⟩])
    xo

/-- A store of the whole block, with any before it, covers the block. -/
theorem cover3 (p0 : Vec F S1024x768 .f32) (L : List (View.Piece (Elt F) S1024x768 .f32)) (y : S1024x768.Idx) :
    ∃ pc ∈ (⟨r3_2, p0⟩ :: L : List (View.Piece (Elt F) S1024x768 .f32)), y ∈ pc.1.set := by
  obtain ⟨pc, h, hy⟩ := View.cover_of_tiled ([⟨r3_2, p0⟩] : List (View.Piece (Elt F) S1024x768 .f32)) S1024x768.size (by rfl) y
  exact ⟨pc, List.mem_cons.2 (.inl (List.mem_singleton.1 h)), hy⟩

set_option maxHeartbeats 1000000 in
/-- The body at a first head, its payloads parameters. -/
theorem sound_bodyA3 (g : Vec F S1x1024x64 .f32 → BitVec 1) (p2 : FVec F S1024x768 .f32) (p4 : Vec F S1x1024x64 .f32 → Vec F S1024x768 .f32 → Vec F S64x768 .f32 → FVec F S1024x768 .f32) (c : Dev nD) (E : Set ℕ) (i : grid3.Coords) (arg2 : Memref sig .tc .vmem S1x1024x64 .f32) (harg2 : arg2.IsWhole) (arg3 : Memref sig .tc .vmem S64x768 .f32) (harg3 : arg3.IsWhole) (arg4 : Memref sig .tc .vmem S1024x768 .f32) (harg4 : arg4.IsWhole) (hc0 : cond3_0 i)
    (x0 : Vec F S1x1024x64 .f32) (x1 : Vec F S64x768 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outA3 g p2 p4 x0 x1)) -∗ K ⟨⟩))
      ⊢ wp frame (wpE (defs₀ (F := F)) Variants.none c none) E (body3 g p2 p4 i arg2 harg2 arg3 harg3 arg4 harg4) K := by
  unfold body3
  unfold owns
  iintro ⟨⟨%f0, %hf0, H0⟩, ⟨%f1, %hf1, H1⟩, ⟨%d2, %f2, -, H2⟩, Hk⟩
  subst hf0 hf1
  rcases Classical.em (nonzero (g (View.readAt (Elt F) arg2.view r3_0.toLoadRect f0))) with hn | hn
  · sl_exec (disch := first | sl_exact hc0)
    sl_step
    iapply Hk
    isplitl [H0]
    · iexists f0; isplitr; · ipureintro; rfl
      iexact H0
    isplitl [H1]
    · iexists f1; isplitr; · ipureintro; rfl
      iexact H1
    iexists _; isplitr
    swap; · iexact H2
    ipureintro
    unfold outA3
    refine Eq.trans ?_ (if_pos (show nonzero (g (View.ld (View.read (Elt F) arg2.view f0) r3_0)) from hn)).symm
    refine (View.read_writes_eq_canon _ _ _ (cover3 _ _)).trans ?_
    unfold sound_bodyA3.sl.v17 sound_bodyA3.sl.H2_1
    rw [View.readCov_cons_toLoadRect]
    rfl
  · sl_exec (disch := first | sl_exact hc0)
    sl_step
    iapply Hk
    isplitl [H0]
    · iexists f0; isplitr; · ipureintro; rfl
      iexact H0
    isplitl [H1]
    · iexists f1; isplitr; · ipureintro; rfl
      iexact H1
    iexists _; isplitr
    swap; · iexact H2
    ipureintro
    unfold outA3
    refine Eq.trans ?_ (if_neg (show ¬ nonzero (g (View.ld (View.read (Elt F) arg2.view f0) r3_0)) from hn)).symm
    exact View.read_writes_eq_canon _ _ _ (cover3 _ _)

set_option maxHeartbeats 1000000 in
/-- The body at a later head, its payloads parameters. -/
theorem sound_bodyB3 (g : Vec F S1x1024x64 .f32 → BitVec 1) (p2 : FVec F S1024x768 .f32) (p4 : Vec F S1x1024x64 .f32 → Vec F S1024x768 .f32 → Vec F S64x768 .f32 → FVec F S1024x768 .f32) (c : Dev nD) (E : Set ℕ) (i : grid3.Coords) (arg2 : Memref sig .tc .vmem S1x1024x64 .f32) (harg2 : arg2.IsWhole) (arg3 : Memref sig .tc .vmem S64x768 .f32) (harg3 : arg3.IsWhole) (arg4 : Memref sig .tc .vmem S1024x768 .f32) (harg4 : arg4.IsWhole) (hc0 : ¬ cond3_0 i)
    (x0 : Vec F S1x1024x64 .f32) (x1 : Vec F S64x768 .f32) (xo : Vec F S1024x768 .f32) (K : PUnit → sProp 𝕄) :
    iprop(owns (c : Thread nD τ) arg2 fullShare x0 ∗ owns (c : Thread nD τ) arg3 fullShare x1 ∗ owns (c : Thread nD τ) arg4 fullShare xo
        ∗ (iprop(owns (c : Thread nD τ) arg2 fullShare x0 ∗ owns (c : Thread nD τ) arg3 fullShare x1 ∗ owns (c : Thread nD τ) arg4 fullShare (outB3 g p2 p4 x0 x1 xo)) -∗ K ⟨⟩))
      ⊢ wp frame (wpE (defs₀ (F := F)) Variants.none c none) E (body3 g p2 p4 i arg2 harg2 arg3 harg3 arg4 harg4) K := by
  unfold body3
  unfold owns
  iintro ⟨⟨%f0, %hf0, H0⟩, ⟨%f1, %hf1, H1⟩, ⟨%f2, %hf2, H2⟩, Hk⟩
  subst hf0 hf1 hf2
  rcases Classical.em (nonzero (g (View.readAt (Elt F) arg2.view r3_0.toLoadRect f0))) with hn | hn
  · sl_exec (disch := first | sl_exact hc0)
    sl_step
    iapply Hk
    isplitl [H0]
    · iexists f0; isplitr; · ipureintro; rfl
      iexact H0
    isplitl [H1]
    · iexists f1; isplitr; · ipureintro; rfl
      iexact H1
    iexists _; isplitr
    swap; · iexact H2
    ipureintro
    unfold outB3
    refine Eq.trans ?_ (if_pos (show nonzero (g (View.ld (View.read (Elt F) arg2.view f0) r3_0)) from hn)).symm
    exact View.read_writes_eq_canon _ _ _ (cover3 _ _)
  · sl_exec (disch := first | sl_exact hc0)
    sl_step
    iapply Hk
    isplitl [H0]
    · iexists f0; isplitr; · ipureintro; rfl
      iexact H0
    isplitl [H1]
    · iexists f1; isplitr; · ipureintro; rfl
      iexact H1
    iexists _; isplitr
    swap; · iexact H2
    ipureintro
    unfold outB3
    refine Eq.trans ?_ (if_neg (show ¬ nonzero (g (View.ld (View.read (Elt F) arg2.view f0) r3_0)) from hn)).symm
    rfl

/-- What the printed body leaves at a first head. -/
def out3_A : Vec F S1x1024x64 .f32 → Vec F S64x768 .f32 → Vec F S1024x768 .f32 := outA3 (pays3 (F := F)).1 (pays3 (F := F)).2.1 (pays3 (F := F)).2.2

/-- What the printed body leaves at a later head. -/
def out3_B : Vec F S1x1024x64 .f32 → Vec F S64x768 .f32 → Vec F S1024x768 .f32 → Vec F S1024x768 .f32 := outB3 (pays3 (F := F)).1 (pays3 (F := F)).2.1 (pays3 (F := F)).2.2

/-- The printed body at a first head. -/
theorem sound_kernelA3 (c : Dev nD) (E : Set ℕ) (i : grid3.Coords) (arg2 : Memref sig .tc .vmem S1x1024x64 .f32) (harg2 : arg2.IsWhole) (arg3 : Memref sig .tc .vmem S64x768 .f32) (harg3 : arg3.IsWhole) (arg4 : Memref sig .tc .vmem S1024x768 .f32) (harg4 : arg4.IsWhole) (hc0 : cond3_0 i)
    (x0 : Vec F S1x1024x64 .f32) (x1 : Vec F S64x768 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out3_A x0 x1)) -∗ K ⟨⟩))
      ⊢ wp frame (wpE (defs₀ (F := F)) Variants.none c none) E (cc3__oproj_body i arg2 harg2 arg3 harg3 arg4 harg4) K := by
  rw [body3_eq]
  exact sound_bodyA3 (pays3 (F := F)).1 (pays3 (F := F)).2.1 (pays3 (F := F)).2.2 c E i arg2 harg2 arg3 harg3 arg4 harg4 hc0 x0 x1 K

/-- The printed body at a later head. -/
theorem sound_kernelB3 (c : Dev nD) (E : Set ℕ) (i : grid3.Coords) (arg2 : Memref sig .tc .vmem S1x1024x64 .f32) (harg2 : arg2.IsWhole) (arg3 : Memref sig .tc .vmem S64x768 .f32) (harg3 : arg3.IsWhole) (arg4 : Memref sig .tc .vmem S1024x768 .f32) (harg4 : arg4.IsWhole) (hc0 : ¬ cond3_0 i)
    (x0 : Vec F S1x1024x64 .f32) (x1 : Vec F S64x768 .f32) (xo : Vec F S1024x768 .f32) (K : PUnit → sProp 𝕄) :
    iprop(owns (c : Thread nD τ) arg2 fullShare x0 ∗ owns (c : Thread nD τ) arg3 fullShare x1 ∗ owns (c : Thread nD τ) arg4 fullShare xo
        ∗ (iprop(owns (c : Thread nD τ) arg2 fullShare x0 ∗ owns (c : Thread nD τ) arg3 fullShare x1 ∗ owns (c : Thread nD τ) arg4 fullShare (out3_B x0 x1 xo)) -∗ K ⟨⟩))
      ⊢ wp frame (wpE (defs₀ (F := F)) Variants.none c none) E (cc3__oproj_body i arg2 harg2 arg3 harg3 arg4 harg4) K := by
  rw [body3_eq]
  exact sound_bodyB3 (pays3 (F := F)).1 (pays3 (F := F)).2.1 (pays3 (F := F)).2.2 c E i arg2 harg2 arg3 harg3 arg4 harg4 hc0 x0 x1 xo K

/-! ## What the result holds after each point -/

/-- The accumulation: what the result's staging buffer holds after the body at position `n`. -/
def outsAt3 (c : Dev nD) : (n : ℕ) → n < cfg3.N → Vec F S1024x768 .f32
  | 0, hn => out3_A (iblk3 V c 0 ⟨0, hn⟩) (iblk3 V c 1 ⟨0, hn⟩)
  | n + 1, hn =>
    if (n + 1) % 12 = 0 then
      out3_A (iblk3 V c 0 ⟨n + 1, hn⟩) (iblk3 V c 1 ⟨n + 1, hn⟩)
    else
      out3_B (iblk3 V c 0 ⟨n + 1, hn⟩) (iblk3 V c 1 ⟨n + 1, hn⟩) (outsAt3 c n (Nat.lt_of_succ_lt hn))

/-- `outsAt3` at a first head. -/
theorem outsAt3_A (c : Dev nD) (t : Fin cfg3.N) (h0 : t.val % 12 = 0) :
    outsAt3 V c t.val t.isLt = out3_A (iblk3 V c 0 t) (iblk3 V c 1 t) := by
  obtain ⟨n, hn⟩ := t
  cases n with
  | zero => exact rfl
  | succ n => exact (if_pos h0).trans rfl

/-- `outsAt3` at a later head, over what the point before left. -/
theorem outsAt3_B (c : Dev nD) (t : Fin cfg3.N) (h0 : ¬t.val % 12 = 0) :
    outsAt3 V c t.val t.isLt = out3_B (iblk3 V c 0 t) (iblk3 V c 1 t) (outsAt3 V c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The pipeline's proof data -/

/-- The proof data of pipeline 3 on core `c`: the arrays as the region finds them (`V`); after the body at
    point `t` each input's buffer at its block and the outputs' at `outsAt3`; the invariant the class's
    ; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt)
  Φ _ := Pipeline.ΦA spec3 c
  q _ := fullShare
  owed _ := 0

/-- The proof data's arrays are the region-entry contents, by projecting the definition (`dsimp`): a region record cites
    this for its arrays rather than have Lean unfold `V`, the fold through @main up to the region's entry. -/
theorem A_eq3 (c : Dev nD) (w : Fin cfg3.W) : (dat3 V c).A w = V c (Pipeline.arrRef spec3 w) := by
  dsimp only [dat3]

/-- What the body leaves, window by window (the proof data's `match` reduced by `dsimp`). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt) := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
/-- At a point of case B output 2's current staging buffer holds what the body left at the point before: the point is
    not the first, the buffer was not written back between (`flush3_2`), the window is live and uncut . -/
theorem before3_2_B (c : Dev nD) (t : Fin cfg3.N) (h0 : ¬t.val % 12 = 0) (d) :
    (dat3 V c).before 2 t d = (outsAt3 V c (t.val - 1) (Nat.lt_of_le_of_lt (Nat.sub_le _ _) t.isLt)) := by
  have hN : t.val < 24 := lt_of_lt_of_eq t.isLt (show cfg3.N = 24 from N_3)
  rw [Dat.before_out_kept _ 2 rfl t (by omega) (Bool.eq_false_iff.mpr fun h => by have := (flush3_2 _).mp h; dsimp only at this; omega)
    (fun _ => rfl) (fun _ _ => rfl)]
  dsimp only [dat3]

/-! ## The body obligation, at a generic point -/

/-- What the body is called with at point `t` , -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

set_option maxHeartbeats 800000 in
/-- Any program with the body's two triples takes the body's precondition at point `t` to its postcondition: the inputs'
    memrefs hold their blocks, and at a later head the result's holds what the head before left; the invariant and the
    core's `owes` pass through unread. -/
theorem sound_prog3 (c : Dev nD) (t : Fin cfg3.N) (prog : ∀ (i : grid3.Coords) (arg2 : Memref sig .tc .vmem S1x1024x64 .f32) (harg2 : arg2.IsWhole) (arg3 : Memref sig .tc .vmem S64x768 .f32) (harg3 : arg3.IsWhole) (arg4 : Memref sig .tc .vmem S1024x768 .f32) (harg4 : arg4.IsWhole), Prog (TpuEff nD τ sig (Elt F) Λ₀ .tc) PUnit)
    (hA : ∀ (E : Set ℕ) (i : grid3.Coords) (arg2 : Memref sig .tc .vmem S1x1024x64 .f32) (harg2 : arg2.IsWhole) (arg3 : Memref sig .tc .vmem S64x768 .f32) (harg3 : arg3.IsWhole) (arg4 : Memref sig .tc .vmem S1024x768 .f32) (harg4 : arg4.IsWhole) (hc0 : cond3_0 i)
      (x0 : Vec F S1x1024x64 .f32) (x1 : Vec F S64x768 .f32) (K : PUnit → sProp 𝕄),
      iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out3_A x0 x1)) -∗ K ⟨⟩))
      ⊢ wp frame (wpE (defs₀ (F := F)) Variants.none c none) E (prog i arg2 harg2 arg3 harg3 arg4 harg4) K)
    (hB : ∀ (E : Set ℕ) (i : grid3.Coords) (arg2 : Memref sig .tc .vmem S1x1024x64 .f32) (harg2 : arg2.IsWhole) (arg3 : Memref sig .tc .vmem S64x768 .f32) (harg3 : arg3.IsWhole) (arg4 : Memref sig .tc .vmem S1024x768 .f32) (harg4 : arg4.IsWhole) (hc0 : ¬ cond3_0 i)
      (x0 : Vec F S1x1024x64 .f32) (x1 : Vec F S64x768 .f32) (xo : Vec F S1024x768 .f32) (K : PUnit → sProp 𝕄),
      iprop(owns (c : Thread nD τ) arg2 fullShare x0 ∗ owns (c : Thread nD τ) arg3 fullShare x1 ∗ owns (c : Thread nD τ) arg4 fullShare xo
        ∗ (iprop(owns (c : Thread nD τ) arg2 fullShare x0 ∗ owns (c : Thread nD τ) arg3 fullShare x1 ∗ owns (c : Thread nD τ) arg4 fullShare (out3_B x0 x1 xo)) -∗ K ⟨⟩))
      ⊢ wp frame (wpE (defs₀ (F := F)) Variants.none c none) E (prog i arg2 harg2 arg3 harg3 arg4 harg4) K) :
    bodyPre3 V c t ⊢ wp frame (wpE (defs₀ (F := F)) Variants.none c none) Set.univ (prog (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2))) (fun _ => bodyPost3 V c t) := by
  unfold bodyPre3 bodyPost3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  by_cases h0 : t.val % 12 = 0
  · rw [outsAt3_A V c t h0]
    iintro ⟨HΦ, Ho, ⟨%d0, H0⟩, ⟨%d1, H1⟩, ⟨%d2, H2⟩⟩
    iapply (hA Set.univ (grid3.coords t) _ _ _ _ _ _ ((hcond3_0 t).mpr h0) (iblk3 V c 0 t) (iblk3 V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [outsAt3_B V c t h0]
    simp only [before3_2_B V c t h0]
    iintro ⟨HΦ, Ho, ⟨%d0, H0⟩, ⟨%d1, H1⟩, ⟨%d2, H2⟩⟩
    iapply (hB Set.univ (grid3.coords t) _ _ _ _ _ _ (fun h => h0 ((hcond3_0 t).mp h)) (iblk3 V c 0 t) (iblk3 V c 1 t) _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The body at any point. -/
theorem sound_body3 (c : Dev nD) (t : Fin cfg3.N) :
    bodyPre3 V c t ⊢ wp frame (wpE (defs₀ (F := F)) Variants.none c none) Set.univ (cc3__oproj_body (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2))) (fun _ => bodyPost3 V c t) :=
  sound_prog3 V c t cc3__oproj_body (sound_kernelA3 c) (sound_kernelB3 c)

/-- The body table's row at point `t`'s slots is the body at them. -/
theorem defs₀_row3 (t : Fin cfg3.N) :
    defs₀ (F := F) .tc cfg3.body (cfg3.bodyArgs t (cfg3.slots t)) = cc3__oproj_body (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2)) := by
  unfold defs₀; rw [Defs.onTc_tc]

/-- The library's body obligation, at every point: the body's triple restated . -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Cert.KernelIdeal.Hand

end
-- ==== Proof.KernelIdealWhole.lean ====
/- The whole run: the four calls and the two host reshapes one after another, from the launch to the return. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.KernelIdealPrep
public import proofs.«01_k».proof.Proof.KernelIdealProj
public import proofs.«01_k».proof.Proof.KernelIdealAttn
public import proofs.«01_k».proof.Proof.KernelIdealOproj

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return  -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13, main_arg14]

/-! ## The host stretches: none allocates a buffer, and each lists the references its operations write, in order,
    so that a reference absent from the list keeps its contents across the stretch  -/

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v1]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps4` allocates a buffer. -/
theorem hostOps4_fresh : (hostOps4 : List (HloOp τ sig (Elt F))).Forall fun op => op.fresh = ∅ := by
  simp only [List.Forall]; repeat' constructor
/-- The reference each operation of `hostOps4` writes, in order. -/
abbrev hostOps4_W : List (Ref sig .tc) := [main_v5]
theorem hostOps4_writes : (hostOps4 : List (HloOp τ sig (Elt F))).Forall fun op => op.writes ⊆ (hostOps4_W.map (Proc.devRef (τ := τ) .tc)).toFinset :=
  StableHlo.forall_writes_sub_of_map rfl
/-- `hostOps4` writes none of the argument arrays (checked: each argument against each reference it writes). -/
theorem hostOps4_args : ∀ a ∈ argRefs, a ∉ hostOps4_W := ListAll.forall_mem_of_all_decide (by decide +kernel)

/-! ## The buffer contents at each segment boundary: a fold through @main, and what each item leaves unchanged -/

/-- Core `c`'s buffers at launch (region 0's entry). -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves (the inputs as entered, each output's write-backs
    folded: `Dat.arrAt … N`), every other buffer as entered . -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A reference that is none of region 0's OUTPUT arrays keeps its entry contents across it: an input window's
    array is never written back (`Dat.arrAt_in`, `A_eq0`); any other buffer is left as is. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The same read at the TensorCore's references (region 0's exit contents). -/
abbrev V1 : (c : Dev nD) → (b : Ref sig .tc) → Buf (Elt F) ((c : Thread nD τ).loc b) := fun c b => W1 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After `hostOps1` (region 1's entry). -/
abbrev W2 : Dev nD → Valuation τ sig (Elt F) := fun c => StableHlo.after hostOps1 (W1 m ρ c)
/-- A reference `hostOps1` does not write keeps its contents across it. -/
theorem W2_of (c : Dev nD) (r : Ref sig .tc) (h : r ∉ hostOps1_W) : W2 m ρ c (Proc.devRef .tc r) = W1 m ρ c (Proc.devRef .tc r) :=
  StableHlo.after_of_writes_sub hostOps1 _ hostOps1_writes h
theorem W2_args (c : Dev nD) : ∀ a ∈ argRefs, W2 m ρ c (Proc.devRef .tc a) = m ((c : Thread nD τ).loc a) :=
  fun a ha => (W2_of m ρ c a (hostOps1_args a ha)).trans (W1_args m ρ c a ha)
/-- The same read at the TensorCore's references (what region 1's proof data take). -/
abbrev V2 : (c : Dev nD) → (b : Ref sig .tc) → Buf (Elt F) ((c : Thread nD τ).loc b) := fun c b => W2 m ρ c b
/-- At region 1's exit: its arrays at what the pipeline leaves (the inputs as entered, each output's write-backs
    folded: `Dat.arrAt … N`), every other buffer as entered  (region 2's entry). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, each output's write-backs
    folded: `Dat.arrAt … N`), every other buffer as entered  (region 3's entry). -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- A reference that is none of region 2's OUTPUT arrays keeps its entry contents across it: an input window's
    array is never written back (`Dat.arrAt_in`, `A_eq2`); any other buffer is left as is. -/
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn2 a ha)).trans (W3_args m ρ c a ha)
/-- The same read at the TensorCore's references (region 2's exit contents). -/
abbrev V4 : (c : Dev nD) → (b : Ref sig .tc) → Buf (Elt F) ((c : Thread nD τ).loc b) := fun c b => W4 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- At region 3's exit: its arrays at what the pipeline leaves (the inputs as entered, each output's write-backs
    folded: `Dat.arrAt … N`), every other buffer as entered . -/
def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
/-- A reference that is none of region 3's OUTPUT arrays keeps its entry contents across it: an input window's
    array is never written back (`Dat.arrAt_in`, `A_eq3`); any other buffer is left as is. -/
theorem W5_of (c : Dev nD) (r : Ref sig .tc) (h : ∀ w : Fin cfg3.W, Pipeline.arrRef spec3 w = r → (cfg3.win w).isOut = false) :
    W5 m ρ c (Proc.devRef .tc r) = W4 m ρ c (Proc.devRef .tc r) := by
  by_cases hw : ∃ w : Fin cfg3.W, Pipeline.arrRef spec3 w = r
  · obtain ⟨w, rfl⟩ := hw
    exact (W5_arr m ρ c w).trans (((dat3 (V4 m ρ) c).arrAt_in w (h w rfl) _).trans (A_eq3 (V4 m ρ) c w))
  · exact W5_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn3 a ha)).trans (W4_args m ρ c a ha)
/-- The same read at the TensorCore's references (region 3's exit contents). -/
abbrev V5 : (c : Dev nD) → (b : Ref sig .tc) → Buf (Elt F) ((c : Thread nD τ).loc b) := fun c b => W5 m ρ c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)

/-- After `hostOps4`. -/
abbrev W6 : Dev nD → Valuation τ sig (Elt F) := fun c => StableHlo.after hostOps4 (W5 m ρ c)
/-- A reference `hostOps4` does not write keeps its contents across it. -/
theorem W6_of (c : Dev nD) (r : Ref sig .tc) (h : r ∉ hostOps4_W) : W6 m ρ c (Proc.devRef .tc r) = W5 m ρ c (Proc.devRef .tc r) :=
  StableHlo.after_of_writes_sub hostOps4 _ hostOps4_writes h
theorem W6_args (c : Dev nD) : ∀ a ∈ argRefs, W6 m ρ c (Proc.devRef .tc a) = m ((c : Thread nD τ).loc a) :=
  fun a ha => (W6_of m ρ c a (hostOps4_args a ha)).trans (W5_args m ρ c a ha)

/-! ### The arguments end as launched: no host stretch writes one and no region may change one (a region reads it
    through an input window or bypasses it) -/

theorem W6_main_arg0 (c : Dev nD) : W6 m ρ c (Proc.devRef .tc main_arg0) = m ((c : Thread nD τ).loc main_arg0) :=
  W6_args m ρ c main_arg0 (by decide)
theorem W6_main_arg1 (c : Dev nD) : W6 m ρ c (Proc.devRef .tc main_arg1) = m ((c : Thread nD τ).loc main_arg1) :=
  W6_args m ρ c main_arg1 (by decide)
theorem W6_main_arg2 (c : Dev nD) : W6 m ρ c (Proc.devRef .tc main_arg2) = m ((c : Thread nD τ).loc main_arg2) :=
  W6_args m ρ c main_arg2 (by decide)
theorem W6_main_arg3 (c : Dev nD) : W6 m ρ c (Proc.devRef .tc main_arg3) = m ((c : Thread nD τ).loc main_arg3) :=
  W6_args m ρ c main_arg3 (by decide)
theorem W6_main_arg4 (c : Dev nD) : W6 m ρ c (Proc.devRef .tc main_arg4) = m ((c : Thread nD τ).loc main_arg4) :=
  W6_args m ρ c main_arg4 (by decide)
theorem W6_main_arg5 (c : Dev nD) : W6 m ρ c (Proc.devRef .tc main_arg5) = m ((c : Thread nD τ).loc main_arg5) :=
  W6_args m ρ c main_arg5 (by decide)
theorem W6_main_arg6 (c : Dev nD) : W6 m ρ c (Proc.devRef .tc main_arg6) = m ((c : Thread nD τ).loc main_arg6) :=
  W6_args m ρ c main_arg6 (by decide)
theorem W6_main_arg7 (c : Dev nD) : W6 m ρ c (Proc.devRef .tc main_arg7) = m ((c : Thread nD τ).loc main_arg7) :=
  W6_args m ρ c main_arg7 (by decide)
theorem W6_main_arg8 (c : Dev nD) : W6 m ρ c (Proc.devRef .tc main_arg8) = m ((c : Thread nD τ).loc main_arg8) :=
  W6_args m ρ c main_arg8 (by decide)
theorem W6_main_arg9 (c : Dev nD) : W6 m ρ c (Proc.devRef .tc main_arg9) = m ((c : Thread nD τ).loc main_arg9) :=
  W6_args m ρ c main_arg9 (by decide)
theorem W6_main_arg10 (c : Dev nD) : W6 m ρ c (Proc.devRef .tc main_arg10) = m ((c : Thread nD τ).loc main_arg10) :=
  W6_args m ρ c main_arg10 (by decide)
theorem W6_main_arg11 (c : Dev nD) : W6 m ρ c (Proc.devRef .tc main_arg11) = m ((c : Thread nD τ).loc main_arg11) :=
  W6_args m ρ c main_arg11 (by decide)
theorem W6_main_arg12 (c : Dev nD) : W6 m ρ c (Proc.devRef .tc main_arg12) = m ((c : Thread nD τ).loc main_arg12) :=
  W6_args m ρ c main_arg12 (by decide)
theorem W6_main_arg13 (c : Dev nD) : W6 m ρ c (Proc.devRef .tc main_arg13) = m ((c : Thread nD τ).loc main_arg13) :=
  W6_args m ρ c main_arg13 (by decide)
theorem W6_main_arg14 (c : Dev nD) : W6 m ρ c (Proc.devRef .tc main_arg14) = m ((c : Thread nD τ).loc main_arg14) :=
  W6_args m ρ c main_arg14 (by decide)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 4) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V3 m ρ) c
  | ⟨3, _⟩ => fun c => dat3 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W6`, the generator register at some state. -/
abbrev Tₙ (c : Dev nD) : sProp 𝕄 := iprop(StableHlo.held (c : Thread nD τ) (Pipeline.ucRefs τ sig) (W6 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W0`, left at `W1`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 3 (custom_call 3) over the thread state: entered from every unscoped buffer at `W4`, left at `W5`
    (what the next segment is entered from). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) (A_eq3 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 6 segments in order: a host segment per stretch from its boundary's contents, a region per pallas_call. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .region (reg2 m ρ),
    .region (reg3 m ρ),
    .host (hseg hostOps4 hostOps4_sub hostOps4_fresh (W5 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any memory with zero counters every weakly fair execution of @main on the TensorCores terminates, nothing
    faulting, and every final state has the result as the last valuation gives it, the argument arrays as launched and every
    semaphore counter of the machine at zero: the kit's launch over the segments, the last thread state read against the final
    state, each argument by `W6_<arg>`. -/
theorem result_run : θ_run defs (onTc (τ := τ) (main (F := F))) ⟨m, fun _ => 0, ρ⟩ (fun r => (∀ c : Dev nD,
      r.2.mem ((c.tc : Thread nD τ).loc main_v5) = W6 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨(fun c =>
      ⟨h c _ (mem_uc main_v5 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c)⟩), funext fun g => hz g (.inr (no_unscoped g.2))⟩)

/-- The frame: the argument arrays end as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun _ h => ⟨fun c => (h.1 c).2, h.2⟩) (result_run m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h => h.1) (frame m ρ)

end Cert.KernelIdeal.Hand

end
-- ==== Proof.PrepValue.lean ====
/- The first call's three results at an index: the factors of each head's projection multiplied out. -/
module

public import proofs.«01_k».proof.Proof.KernelIdealPrep
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- The head a column of a `768`-wide matrix belongs to. -/
abbrev headOf (c : Fin 768) : Fin 12 := ⟨c.1 / 64, by omega⟩
/-- The column's place within its head. -/
abbrev laneOf (c : Fin 768) : Fin 64 := ⟨c.1 % 64, by omega⟩

/-- The four factors of one head multiplied out, at column `c` of the wide matrix. -/
def weff (Wu : FVec Ideal S12x768x16 .f32) (Wv : FVec Ideal S12x16x64 .f32) (Uu : FVec Ideal S12x64x16 .f32) (Uv : FVec Ideal S12x16x64 .f32)
    (d c : Fin 768) : EReal :=
  ∑ r : Fin 16, Wu (ix3 (headOf c) d r) *
    ∑ r' : Fin 16, (∑ e : Fin 64, Wv (ix3 (headOf c) r e) * Uu (ix3 (headOf c) e r')) * Uv (ix3 (headOf c) r' (laneOf c))

/-- The two factors of the value projection multiplied out. -/
def veff (Wu : FVec Ideal S12x768x16 .f32) (Wv : FVec Ideal S12x16x64 .f32) (d c : Fin 768) : EReal :=
  ∑ r : Fin 16, Wu (ix3 (headOf c) d r) * Wv (ix3 (headOf c) r (laneOf c))

/-- The stored product of one head, read at an index. -/
theorem pay_four (v0 : FVec Ideal S1x16x64 .f32) (v2 : FVec Ideal S1x64x16 .f32) (v5 : FVec Ideal S1x16x64 .f32) (v8 : FVec Ideal S1x768x16 .f32)
    (x : S768x64.Idx) : k0_pay2 (F := Ideal) v0 v2 v5 v8 x =
      ∑ r : Fin 16, v8 (ix3 0 (x 0) r) * ∑ r' : Fin 16, (∑ e : Fin 64, v0 (ix3 0 r e) * v2 (ix3 0 e r')) * v5 (ix3 0 r' (x 1)) := by
  pointwise [k0_pay2]

/-- The stored product of the value factors of one head, read at an index. -/
theorem pay_two (v8 : FVec Ideal S1x768x16 .f32) (v5 : FVec Ideal S1x16x64 .f32)
    (x : S768x64.Idx) : k0_pay1 (F := Ideal) v8 v5 x = ∑ r : Fin 16, v8 (ix3 0 (x 0) r) * v5 (ix3 0 r (x 1)) := by
  pointwise [k0_pay1]

/-- Row `h` of the stacked factors, read at an index. -/
theorem row_a (h : Fin 12) (x : FVec Ideal S12x16x64 .f32) (inb : ∀ a, (![h.1, 0, 0] : Fin 3 → ℕ) a + S1x16x64.size a ≤ S12x16x64.size a) (r : Fin 16) (e : Fin 64) :
    View.ld (Val := Elt Ideal) (e' := .f32) x (Rect.unit (s := S12x16x64) ![h.1, 0, 0] S1x16x64.size inb) (ix3 0 r e) = x (ix3 h r e) := by
  refine View.ld_unit_apply_of (Val := Elt Ideal) (e := .f32) x _ _ inb _ _ fun a => ?_
  fin_cases a <;> simp

/-- Row `h` of the stacked factors, read at an index. -/
theorem row_b (h : Fin 12) (x : FVec Ideal S12x64x16 .f32) (inb : ∀ a, (![h.1, 0, 0] : Fin 3 → ℕ) a + S1x64x16.size a ≤ S12x64x16.size a) (r : Fin 64) (e : Fin 16) :
    View.ld (Val := Elt Ideal) (e' := .f32) x (Rect.unit (s := S12x64x16) ![h.1, 0, 0] S1x64x16.size inb) (ix3 0 r e) = x (ix3 h r e) := by
  refine View.ld_unit_apply_of (Val := Elt Ideal) (e := .f32) x _ _ inb _ _ fun a => ?_
  fin_cases a <;> simp

/-- Row `h` of the stacked factors, read at an index. -/
theorem row_c (h : Fin 12) (x : FVec Ideal S12x768x16 .f32) (inb : ∀ a, (![h.1, 0, 0] : Fin 3 → ℕ) a + S1x768x16.size a ≤ S12x768x16.size a) (r : Fin 768) (e : Fin 16) :
    View.ld (Val := Elt Ideal) (e' := .f32) x (Rect.unit (s := S12x768x16) ![h.1, 0, 0] S1x768x16.size inb) (ix3 0 r e) = x (ix3 h r e) := by
  refine View.ld_unit_apply_of (Val := Elt Ideal) (e := .f32) x _ _ inb _ _ fun a => ?_
  fin_cases a <;> simp

/-- Every head's stored product agrees with the wide matrix on its own columns. -/
theorem weff_tile (Wu : FVec Ideal S12x768x16 .f32) (Wv : FVec Ideal S12x16x64 .f32) (Uu : FVec Ideal S12x64x16 .f32) (Uv : FVec Ideal S12x16x64 .f32) (y : S768x768.Idx) (h : Fin 12) (i0 i2 i5 i8) :
    View.TileAt (Val := Elt Ideal) (e := .f32) y ![0, 64 * h.1] S768x64.size (k0_pay2 (F := Ideal)
      (View.ld (Val := Elt Ideal) (e' := .f32) Wv (Rect.unit (s := S12x16x64) ![h.1, 0, 0] S1x16x64.size i0))
      (View.ld (Val := Elt Ideal) (e' := .f32) Uu (Rect.unit (s := S12x64x16) ![h.1, 0, 0] S1x64x16.size i2))
      (View.ld (Val := Elt Ideal) (e' := .f32) Uv (Rect.unit (s := S12x16x64) ![h.1, 0, 0] S1x16x64.size i5))
      (View.ld (Val := Elt Ideal) (e' := .f32) Wu (Rect.unit (s := S12x768x16) ![h.1, 0, 0] S1x768x16.size i8))) (weff Wu Wv Uu Uv (y 0) (y 1)) := by
  intro x hx
  have e0 : y 0 = x 0 := Fin.ext (by simpa using hx 0)
  have e1 : (y 1).1 = 64 * h.1 + (x 1).1 := hx 1
  have l1 : (x 1).1 < 64 := (x 1).2
  have eh : headOf (y 1) = h := Fin.ext (by show (y 1).1 / 64 = h.1; omega)
  have el : laneOf (y 1) = x 1 := Fin.ext (by show (y 1).1 % 64 = (x 1).1; omega)
  rw [pay_four]
  unfold weff
  rw [eh, el, e0]
  refine Finset.sum_congr rfl fun r _ => congrArg₂ _ (row_c h Wu i8 _ r) (Finset.sum_congr rfl fun r' _ => congrArg₂ _ (Finset.sum_congr rfl fun e _ => congrArg₂ _ (row_a h Wv i0 r e) (row_b h Uu i2 e r')) (row_a h Uv i5 r' _))

/-- The same for the value factors. -/
theorem veff_tile (Wu : FVec Ideal S12x768x16 .f32) (Wv : FVec Ideal S12x16x64 .f32) (y : S768x768.Idx) (h : Fin 12) (i5 i8) :
    View.TileAt (Val := Elt Ideal) (e := .f32) y ![0, 64 * h.1] S768x64.size (k0_pay1 (F := Ideal)
      (View.ld (Val := Elt Ideal) (e' := .f32) Wu (Rect.unit (s := S12x768x16) ![h.1, 0, 0] S1x768x16.size i8))
      (View.ld (Val := Elt Ideal) (e' := .f32) Wv (Rect.unit (s := S12x16x64) ![h.1, 0, 0] S1x16x64.size i5))) (veff Wu Wv (y 0) (y 1)) := by
  intro x hx
  have e0 : y 0 = x 0 := Fin.ext (by simpa using hx 0)
  have e1 : (y 1).1 = 64 * h.1 + (x 1).1 := hx 1
  have l1 : (x 1).1 < 64 := (x 1).2
  have eh : headOf (y 1) = h := Fin.ext (by show (y 1).1 / 64 = h.1; omega)
  have el : laneOf (y 1) = x 1 := Fin.ext (by show (y 1).1 % 64 = (x 1).1; omega)
  rw [pay_two]
  unfold veff
  rw [eh, el, e0]
  exact Finset.sum_congr rfl fun r _ => congrArg₂ _ (row_c h Wu i8 _ r) (row_a h Wv i5 r _)

/-- What the first call leaves in its first result. -/
theorem out0_10_at (x0 : FVec Ideal S12x768x16 .f32) (x1 : FVec Ideal S12x16x64 .f32) (x2 : FVec Ideal S12x64x16 .f32) (x3 : FVec Ideal S12x16x64 .f32) (x4 : FVec Ideal S12x768x16 .f32) (x5 : FVec Ideal S12x16x64 .f32) (x6 : FVec Ideal S12x64x16 .f32) (x7 : FVec Ideal S12x16x64 .f32) (x8 : FVec Ideal S12x768x16 .f32) (x9 : FVec Ideal S12x16x64 .f32) (y : S768x768.Idx) :
    out0_10 (F := Ideal) x0 x1 x2 x3 x4 x5 x6 x7 x8 x9 y = weff x0 x1 x2 x3 (y 0) (y 1) := by
  unfold out0_10
  refine View.canon_eq_of_allAt _ _ _ (cover0_10 _ _ _ _ _ _ _ _ _ _ _ _ y) ?_
  refine View.allAt_cons_unit _ _ _ _ _ ((weff_tile x0 x1 x2 x3 y 11 _ _ _ _)) ?_
  refine View.allAt_cons_unit _ _ _ _ _ ((weff_tile x0 x1 x2 x3 y 10 _ _ _ _)) ?_
  refine View.allAt_cons_unit _ _ _ _ _ ((weff_tile x0 x1 x2 x3 y 9 _ _ _ _)) ?_
  refine View.allAt_cons_unit _ _ _ _ _ ((weff_tile x0 x1 x2 x3 y 8 _ _ _ _)) ?_
  refine View.allAt_cons_unit _ _ _ _ _ ((weff_tile x0 x1 x2 x3 y 7 _ _ _ _)) ?_
  refine View.allAt_cons_unit _ _ _ _ _ ((weff_tile x0 x1 x2 x3 y 6 _ _ _ _)) ?_
  refine View.allAt_cons_unit _ _ _ _ _ ((weff_tile x0 x1 x2 x3 y 5 _ _ _ _)) ?_
  refine View.allAt_cons_unit _ _ _ _ _ ((weff_tile x0 x1 x2 x3 y 4 _ _ _ _)) ?_
  refine View.allAt_cons_unit _ _ _ _ _ ((weff_tile x0 x1 x2 x3 y 3 _ _ _ _)) ?_
  refine View.allAt_cons_unit _ _ _ _ _ ((weff_tile x0 x1 x2 x3 y 2 _ _ _ _)) ?_
  refine View.allAt_cons_unit _ _ _ _ _ ((weff_tile x0 x1 x2 x3 y 1 _ _ _ _)) ?_
  refine View.allAt_cons_unit _ _ _ _ _ ((weff_tile x0 x1 x2 x3 y 0 _ _ _ _)) ?_
  exact View.allAt_nil _ _

/-- What the first call leaves in its second result. -/
theorem out0_11_at (x0 : FVec Ideal S12x768x16 .f32) (x1 : FVec Ideal S12x16x64 .f32) (x2 : FVec Ideal S12x64x16 .f32) (x3 : FVec Ideal S12x16x64 .f32) (x4 : FVec Ideal S12x768x16 .f32) (x5 : FVec Ideal S12x16x64 .f32) (x6 : FVec Ideal S12x64x16 .f32) (x7 : FVec Ideal S12x16x64 .f32) (x8 : FVec Ideal S12x768x16 .f32) (x9 : FVec Ideal S12x16x64 .f32) (y : S768x768.Idx) :
    out0_11 (F := Ideal) x0 x1 x2 x3 x4 x5 x6 x7 x8 x9 y = weff x4 x5 x6 x7 (y 0) (y 1) := by
  unfold out0_11
  refine View.canon_eq_of_allAt _ _ _ (cover0_11 _ _ _ _ _ _ _ _ _ _ _ _ y) ?_
  refine View.allAt_cons_unit _ _ _ _ _ ((weff_tile x4 x5 x6 x7 y 11 _ _ _ _)) ?_
  refine View.allAt_cons_unit _ _ _ _ _ ((weff_tile x4 x5 x6 x7 y 10 _ _ _ _)) ?_
  refine View.allAt_cons_unit _ _ _ _ _ ((weff_tile x4 x5 x6 x7 y 9 _ _ _ _)) ?_
  refine View.allAt_cons_unit _ _ _ _ _ ((weff_tile x4 x5 x6 x7 y 8 _ _ _ _)) ?_
  refine View.allAt_cons_unit _ _ _ _ _ ((weff_tile x4 x5 x6 x7 y 7 _ _ _ _)) ?_
  refine View.allAt_cons_unit _ _ _ _ _ ((weff_tile x4 x5 x6 x7 y 6 _ _ _ _)) ?_
  refine View.allAt_cons_unit _ _ _ _ _ ((weff_tile x4 x5 x6 x7 y 5 _ _ _ _)) ?_
  refine View.allAt_cons_unit _ _ _ _ _ ((weff_tile x4 x5 x6 x7 y 4 _ _ _ _)) ?_
  refine View.allAt_cons_unit _ _ _ _ _ ((weff_tile x4 x5 x6 x7 y 3 _ _ _ _)) ?_
  refine View.allAt_cons_unit _ _ _ _ _ ((weff_tile x4 x5 x6 x7 y 2 _ _ _ _)) ?_
  refine View.allAt_cons_unit _ _ _ _ _ ((weff_tile x4 x5 x6 x7 y 1 _ _ _ _)) ?_
  refine View.allAt_cons_unit _ _ _ _ _ ((weff_tile x4 x5 x6 x7 y 0 _ _ _ _)) ?_
  exact View.allAt_nil _ _

/-- What the first call leaves in its third result. -/
theorem out0_12_at (x0 : FVec Ideal S12x768x16 .f32) (x1 : FVec Ideal S12x16x64 .f32) (x2 : FVec Ideal S12x64x16 .f32) (x3 : FVec Ideal S12x16x64 .f32) (x4 : FVec Ideal S12x768x16 .f32) (x5 : FVec Ideal S12x16x64 .f32) (x6 : FVec Ideal S12x64x16 .f32) (x7 : FVec Ideal S12x16x64 .f32) (x8 : FVec Ideal S12x768x16 .f32) (x9 : FVec Ideal S12x16x64 .f32) (y : S768x768.Idx) :
    out0_12 (F := Ideal) x0 x1 x2 x3 x4 x5 x6 x7 x8 x9 y = veff x8 x9 (y 0) (y 1) := by
  unfold out0_12
  refine View.canon_eq_of_allAt _ _ _ (cover0_12 _ _ _ _ _ _ _ _ _ _ _ _ y) ?_
  refine View.allAt_cons_unit _ _ _ _ _ ((veff_tile x8 x9 y 11 _ _)) ?_
  refine View.allAt_cons_unit _ _ _ _ _ ((veff_tile x8 x9 y 10 _ _)) ?_
  refine View.allAt_cons_unit _ _ _ _ _ ((veff_tile x8 x9 y 9 _ _)) ?_
  refine View.allAt_cons_unit _ _ _ _ _ ((veff_tile x8 x9 y 8 _ _)) ?_
  refine View.allAt_cons_unit _ _ _ _ _ ((veff_tile x8 x9 y 7 _ _)) ?_
  refine View.allAt_cons_unit _ _ _ _ _ ((veff_tile x8 x9 y 6 _ _)) ?_
  refine View.allAt_cons_unit _ _ _ _ _ ((veff_tile x8 x9 y 5 _ _)) ?_
  refine View.allAt_cons_unit _ _ _ _ _ ((veff_tile x8 x9 y 4 _ _)) ?_
  refine View.allAt_cons_unit _ _ _ _ _ ((veff_tile x8 x9 y 3 _ _)) ?_
  refine View.allAt_cons_unit _ _ _ _ _ ((veff_tile x8 x9 y 2 _ _)) ?_
  refine View.allAt_cons_unit _ _ _ _ _ ((veff_tile x8 x9 y 1 _ _)) ?_
  refine View.allAt_cons_unit _ _ _ _ _ ((veff_tile x8 x9 y 0 _ _)) ?_
  exact View.allAt_nil _ _

set_option maxHeartbeats 4000000 in
/-- The one point's input blocks are the whole arrays. -/
theorem iblk0_whole (V : (c : Dev nD) → (b : Ref sig .tc) → Buf (Elt Ideal) ((c : Thread nD τ).loc b)) (c : Dev nD) (t : Fin cfg0.N) :
    iblk0 V c 0 t = V c main_arg3 ∧ iblk0 V c 1 t = V c main_arg4 ∧ iblk0 V c 2 t = V c main_arg5 ∧ iblk0 V c 3 t = V c main_arg6 ∧ iblk0 V c 4 t = V c main_arg7
    ∧ iblk0 V c 5 t = V c main_arg8 ∧ iblk0 V c 6 t = V c main_arg9 ∧ iblk0 V c 7 t = V c main_arg10 ∧ iblk0 V c 8 t = V c main_arg11 ∧ iblk0 V c 9 t = V c main_arg12 := by
  refine ⟨?_, ?_, ?_, ?_, ?_, ?_, ?_, ?_, ?_, ?_⟩ <;>
    (funext y; blk_ext [iblk0] <;> simp [win0_0, win0_1, win0_2, win0_3, win0_4, win0_5, win0_6, win0_7, win0_8, win0_9, Pipeline.Window.index])

/-- The first call's first result after the run. -/
theorem arr0_10 (V : (c : Dev nD) → (b : Ref sig .tc) → Buf (Elt Ideal) ((c : Thread nD τ).loc b)) (c : Dev nD) :
    (dat0 V c).arrAt 10 cfg0.N = fun y : S768x768.Idx => weff (V c main_arg3) (V c main_arg4) (V c main_arg5) (V c main_arg6) (y 0) (y 1) := by
  refine (dat0 V c).arrAt_eq_of_covers 10 _ (by decide +kernel) fun t hf y => ?_
  blk_simp; rw [after0_10, out0_10_at]
  have hy : (win0_10.blk t).view.emb y = y := by
    funext a
    refine Fin.ext ?_
    blk_simp
    fin_cases a <;> simp [win0_10, Pipeline.Window.index]
  obtain ⟨b0, b1, b2, b3, b4, b5, b6, b7, b8, b9⟩ := iblk0_whole V c t
  rw [hy, b0, b1, b2, b3]

/-- The first call's second result after the run. -/
theorem arr0_11 (V : (c : Dev nD) → (b : Ref sig .tc) → Buf (Elt Ideal) ((c : Thread nD τ).loc b)) (c : Dev nD) :
    (dat0 V c).arrAt 11 cfg0.N = fun y : S768x768.Idx => weff (V c main_arg7) (V c main_arg8) (V c main_arg9) (V c main_arg10) (y 0) (y 1) := by
  refine (dat0 V c).arrAt_eq_of_covers 11 _ (by decide +kernel) fun t hf y => ?_
  blk_simp; rw [after0_11, out0_11_at]
  have hy : (win0_11.blk t).view.emb y = y := by
    funext a
    refine Fin.ext ?_
    blk_simp
    fin_cases a <;> simp [win0_11, Pipeline.Window.index]
  obtain ⟨b0, b1, b2, b3, b4, b5, b6, b7, b8, b9⟩ := iblk0_whole V c t
  rw [hy, b4, b5, b6, b7]

/-- The first call's third result after the run. -/
theorem arr0_12 (V : (c : Dev nD) → (b : Ref sig .tc) → Buf (Elt Ideal) ((c : Thread nD τ).loc b)) (c : Dev nD) :
    (dat0 V c).arrAt 12 cfg0.N = fun y : S768x768.Idx => veff (V c main_arg11) (V c main_arg12) (y 0) (y 1) := by
  refine (dat0 V c).arrAt_eq_of_covers 12 _ (by decide +kernel) fun t hf y => ?_
  blk_simp; rw [after0_12, out0_12_at]
  have hy : (win0_12.blk t).view.emb y = y := by
    funext a
    refine Fin.ext ?_
    blk_simp
    fin_cases a <;> simp [win0_12, Pipeline.Window.index]
  obtain ⟨b0, b1, b2, b3, b4, b5, b6, b7, b8, b9⟩ := iblk0_whole V c t
  rw [hy, b8, b9]

end Cert.KernelIdeal.Hand
-- ==== Proof.Model.lean ====
/- The mathematics of the problem on plain functions, without shapes: the projections in the two orders of
   multiplication, sums of signs as tests of agreement, and the bucket of a hash. -/
module

public import Idealize.ShloMosaic.Lib.Pointwise

@[expose] public section

noncomputable section

namespace Cert.Rows

open Idealize.ShloMosaic
open scoped Classical

/-- A stack of matrices. -/
abbrev T3 (a b c : Nat) := Fin a → Fin b → Fin c → EReal

/-- The projection through the four factors, one after the other. -/
def proj (x : Fin 2048 → Fin 768 → EReal) (Wu : T3 12 768 16) (Wv : T3 12 16 64) (Uu : T3 12 64 16) (Uv : T3 12 16 64) : T3 12 2048 64 := fun h s k =>
  ∑ r : Fin 16, (∑ e : Fin 64, Uu h e r * ∑ r' : Fin 16, (∑ d : Fin 768, Wu h d r' * x s d) * Wv h r' e) * Uv h r k

/-- The projection through the product of the four factors. -/
def kproj (x : Fin 2048 → Fin 768 → EReal) (Wu : T3 12 768 16) (Wv : T3 12 16 64) (Uu : T3 12 64 16) (Uv : T3 12 16 64) : T3 12 2048 64 := fun h s k =>
  ∑ d : Fin 768, x s d * ∑ r : Fin 16, Wu h d r * ∑ r' : Fin 16, (∑ e : Fin 64, Wv h r e * Uu h e r') * Uv h r' k

/-- The value projection through its two factors, one after the other. -/
def vproj (x : Fin 2048 → Fin 768 → EReal) (Wu : T3 12 768 16) (Wv : T3 12 16 64) : T3 12 2048 64 := fun h s k =>
  ∑ r : Fin 16, (∑ d : Fin 768, Wu h d r * x s d) * Wv h r k

/-- The value projection through the product of its two factors. -/
def kvproj (x : Fin 2048 → Fin 768 → EReal) (Wu : T3 12 768 16) (Wv : T3 12 16 64) : T3 12 2048 64 := fun h s k =>
  ∑ d : Fin 768, x s d * ∑ r : Fin 16, Wu h d r * Wv h r k

/-- A sum of reals, read among the extended reals. -/
theorem coe_sum {ι : Type} (s : Finset ι) (f : ι → ℝ) : ((∑ i ∈ s, f i : ℝ) : EReal) = ∑ i ∈ s, (f i : EReal) := by
  induction s using Finset.induction_on with
  | empty => simp
  | insert a s ha ih => rw [Finset.sum_insert ha, Finset.sum_insert ha, EReal.coe_add, ih]

/-- On reals the two orders of multiplication agree. -/
theorem proj_eq (x : Fin 2048 → Fin 768 → ℝ) (Wu : Fin 12 → Fin 768 → Fin 16 → ℝ) (Wv : Fin 12 → Fin 16 → Fin 64 → ℝ) (Uu : Fin 12 → Fin 64 → Fin 16 → ℝ) (Uv : Fin 12 → Fin 16 → Fin 64 → ℝ) :
    ∃ y : Fin 12 → Fin 2048 → Fin 64 → ℝ,
      proj (fun s d => (x s d : EReal)) (fun h d r => (Wu h d r : EReal)) (fun h d r => (Wv h d r : EReal)) (fun h d r => (Uu h d r : EReal)) (fun h d r => (Uv h d r : EReal)) = (fun h s k => (y h s k : EReal))
      ∧ kproj (fun s d => (x s d : EReal)) (fun h d r => (Wu h d r : EReal)) (fun h d r => (Wv h d r : EReal)) (fun h d r => (Uu h d r : EReal)) (fun h d r => (Uv h d r : EReal)) = (fun h s k => (y h s k : EReal)) := by
  refine ⟨fun h s k => ∑ r : Fin 16, (∑ e : Fin 64, Uu h e r * ∑ r' : Fin 16, (∑ d : Fin 768, Wu h d r' * x s d) * Wv h r' e) * Uv h r k, ?_, ?_⟩
  · funext h s k
    simp only [proj, ← EReal.coe_mul, ← coe_sum]
  · funext h s k
    simp only [kproj, ← EReal.coe_mul, ← coe_sum]
    refine congrArg _ ?_
    have key := congrFun (show Matrix.vecMul (x s) (Matrix.of (Wu h) * ((Matrix.of (Wv h) * Matrix.of (Uu h)) * Matrix.of (Uv h)))
        = Matrix.vecMul (Matrix.vecMul (Matrix.vecMul (Matrix.vecMul (x s) (Matrix.of (Wu h))) (Matrix.of (Wv h))) (Matrix.of (Uu h))) (Matrix.of (Uv h)) by
      simp only [Matrix.vecMul_vecMul, Matrix.mul_assoc]) k
    simp only [Matrix.vecMul, dotProduct, Matrix.mul_apply, Matrix.of_apply] at key
    rw [key]
    refine Finset.sum_congr rfl fun r _ => congrArg (· * _) (Finset.sum_congr rfl fun e _ => ?_)
    rw [mul_comm]
    refine congrArg (_ * ·) (Finset.sum_congr rfl fun r' _ => congrArg (· * _) (Finset.sum_congr rfl fun d _ => mul_comm _ _))

/-- On reals the two orders of multiplication agree for the value projection too. -/
theorem vproj_eq (x : Fin 2048 → Fin 768 → ℝ) (Wu : Fin 12 → Fin 768 → Fin 16 → ℝ) (Wv : Fin 12 → Fin 16 → Fin 64 → ℝ) :
    vproj (fun s d => (x s d : EReal)) (fun h d r => (Wu h d r : EReal)) (fun h d r => (Wv h d r : EReal))
      = kvproj (fun s d => (x s d : EReal)) (fun h d r => (Wu h d r : EReal)) (fun h d r => (Wv h d r : EReal)) := by
  funext h s k
  simp only [vproj, kvproj, ← EReal.coe_mul, ← coe_sum]
  refine congrArg _ ?_
  have key := congrFun (show Matrix.vecMul (x s) (Matrix.of (Wu h) * Matrix.of (Wv h))
      = Matrix.vecMul (Matrix.vecMul (x s) (Matrix.of (Wu h))) (Matrix.of (Wv h)) by
    simp only [Matrix.vecMul_vecMul]) k
  simp only [Matrix.vecMul, dotProduct, Matrix.mul_apply, Matrix.of_apply] at key
  rw [key]
  refine Finset.sum_congr rfl fun r _ => congrArg (· * _) (Finset.sum_congr rfl fun d _ => mul_comm _ _)

/-- A sum of signs exceeds a bound just under its length when every sign is positive. -/
theorem sign_sum {n : ℕ} (p : Fin n → Prop) [DecidablePred p] (c : ℝ) (h1 : (n : ℝ) - 2 ≤ c) (h2 : c < n) :
    ((c : ℝ) : EReal) < ∑ x, (if p x then ((1 : ℝ) : EReal) else ((-1 : ℝ) : EReal)) ↔ ∀ x, p x := by
  have e : (∑ x, (if p x then ((1 : ℝ) : EReal) else ((-1 : ℝ) : EReal))) = ((∑ x, (if p x then (1 : ℝ) else -1) : ℝ) : EReal) := by
    rw [coe_sum]; exact Finset.sum_congr rfl fun x _ => by split <;> rfl
  rw [e, EReal.coe_lt_coe_iff]
  constructor
  · intro h x
    by_contra hx
    have : (∑ x, (if p x then (1 : ℝ) else -1)) ≤ (n : ℝ) - 2 := by
      rw [← Finset.add_sum_erase _ _ (Finset.mem_univ x), if_neg hx]
      have : (∑ y ∈ Finset.univ.erase x, (if p y then (1 : ℝ) else -1)) ≤ ∑ y ∈ Finset.univ.erase x, (1 : ℝ) :=
        Finset.sum_le_sum fun y _ => by split <;> norm_num
      have hc : (Finset.univ.erase x).card + 1 = n := by
        rw [Finset.card_erase_add_one (Finset.mem_univ x), Finset.card_univ, Fintype.card_fin]
      have hc' : ((Finset.univ.erase x).card : ℝ) + 1 = n := by exact_mod_cast hc
      simp only [Finset.sum_const, nsmul_eq_mul, mul_one] at this
      linarith
    linarith
  · intro h
    simp only [h, if_true, Finset.sum_const, Finset.card_univ, Fintype.card_fin, nsmul_eq_mul, mul_one]
    exact h2

/-- The product of two signs is the sign of their agreement. -/
theorem sgn_mul (a b : EReal) : ((if 0 < a then ((1 : ℝ) : EReal) else ((-1 : ℝ) : EReal)) * (if 0 < b then ((1 : ℝ) : EReal) else ((-1 : ℝ) : EReal)))
    = if (0 < a ↔ 0 < b) then ((1 : ℝ) : EReal) else ((-1 : ℝ) : EReal) := by
  by_cases ha : 0 < a <;> by_cases hb : 0 < b <;> simp only [ha, hb, if_true, if_false, iff_true, iff_false, not_true, not_false_eq_true, ← EReal.coe_mul] <;> norm_num

/-- The remainder of the floor after division by sixty-four, brought into the range from nought. -/
def bucket (y : EReal) : EReal :=
  if Idealize.ShloMosaic.Ideal.remf (Idealize.ShloMosaic.Ideal.liftRound Int.floor y) ((64 : ℝ) : EReal) < 0
  then Idealize.ShloMosaic.Ideal.remf (Idealize.ShloMosaic.Ideal.liftRound Int.floor y) ((64 : ℝ) : EReal) + ((64 : ℝ) : EReal)
  else Idealize.ShloMosaic.Ideal.remf (Idealize.ShloMosaic.Ideal.liftRound Int.floor y) ((64 : ℝ) : EReal)

/-- The floor of a whole number over sixty-four. -/
theorem floor_div (z : ℤ) : ⌊(z : ℝ) / 64⌋ = z / 64 := by
  rw [Int.floor_eq_iff]
  have h1 := Int.emod_add_mul_ediv z 64
  have h2 := Int.emod_nonneg z (show (64 : ℤ) ≠ 0 by norm_num)
  have h3 := Int.emod_lt_of_pos z (show (0 : ℤ) < 64 by norm_num)
  have h1' : ((z % 64 : ℤ) : ℝ) + 64 * ((z / 64 : ℤ) : ℝ) = z := by exact_mod_cast h1
  have h2' : (0 : ℝ) ≤ ((z % 64 : ℤ) : ℝ) := by exact_mod_cast h2
  have h3' : ((z % 64 : ℤ) : ℝ) < 64 := by exact_mod_cast h3
  constructor
  · rw [le_div_iff₀ (by norm_num)]; linarith
  · rw [div_lt_iff₀ (by norm_num)]; linarith

/-- Of a real, the bucket is one of sixty-four whole numbers. -/
theorem bucket_range (y : ℝ) : ∃ n : Fin 64, bucket (y : EReal) = (((n.1 : ℕ) : ℝ) : EReal) := by
  set z : ℤ := ⌊y⌋ with hz
  have hr : Idealize.ShloMosaic.Ideal.remf (Idealize.ShloMosaic.Ideal.liftRound Int.floor (y : EReal)) ((64 : ℝ) : EReal) = ((Int.tmod z 64 : ℤ) : ℝ) := by
    show (if (64 : ℝ) = 0 then ⊥ else (((z : ℝ) - 64 * ((Idealize.ShloMosaic.Ideal.truncInt ((z : ℝ) / 64) : ℤ) : ℝ) : ℝ) : EReal)) = _
    rw [if_neg (by norm_num)]
    have ht : Idealize.ShloMosaic.Ideal.truncInt ((z : ℝ) / 64) = Int.tdiv z 64 := by
      unfold Idealize.ShloMosaic.Ideal.truncInt
      rcases le_total 0 z with h | h
      · rw [if_pos (by positivity), floor_div, Int.tdiv_eq_ediv_of_nonneg h]
      · rcases eq_or_lt_of_le h with h0 | h0
        · rw [h0]; norm_num
        · rw [if_neg (by
            have : (z : ℝ) < 0 := by exact_mod_cast h0
            intro h'
            have : (z : ℝ) / 64 < 0 := by linarith
            linarith)]
          have e : (z : ℝ) / 64 = -(((-z : ℤ) : ℝ) / 64) := by push_cast; ring
          rw [e, Int.ceil_neg, floor_div, ← Int.tdiv_eq_ediv_of_nonneg (by omega), Int.neg_tdiv, neg_neg]
    rw [ht, Int.tmod_def]
    push_cast
    rfl
  have h1 : Int.tmod z 64 < 64 := Int.tmod_lt_of_pos z (by norm_num)
  have h2 : -64 < Int.tmod z 64 := by
    have := Int.tmod_lt_of_pos (-z) (show (0:ℤ) < 64 by norm_num)
    rw [Int.neg_tmod] at this
    omega
  unfold bucket
  rw [hr]
  by_cases h0 : Int.tmod z 64 < 0
  · rw [if_pos (by exact_mod_cast h0)]
    refine ⟨⟨(Int.tmod z 64 + 64).toNat, by omega⟩, ?_⟩
    rw [← EReal.coe_add]
    congr 1
    have : (((Int.tmod z 64 + 64).toNat : ℕ) : ℤ) = Int.tmod z 64 + 64 := Int.toNat_of_nonneg (by omega)
    have h3 : (((Int.tmod z 64 + 64).toNat : ℕ) : ℝ) = ((Int.tmod z 64 + 64 : ℤ) : ℝ) := by exact_mod_cast this
    rw [h3]; push_cast; rfl
  · rw [if_neg (by
      intro h
      exact h0 (by exact_mod_cast h))]
    refine ⟨⟨(Int.tmod z 64).toNat, by omega⟩, ?_⟩
    congr 1
    have : (((Int.tmod z 64).toNat : ℕ) : ℤ) = Int.tmod z 64 := Int.toNat_of_nonneg (by omega)
    have h3 : (((Int.tmod z 64).toNat : ℕ) : ℝ) = ((Int.tmod z 64 : ℤ) : ℝ) := by exact_mod_cast this
    rw [h3]

/-- A sum of signs among the whole numbers is at most its length, and is above the length less one when all are positive. -/
theorem int_sign_sum (p : Fin 64 → Prop) [DecidablePred p] : (∑ d, (if p d then (1 : ℤ) else -1)) ≤ 64 ∧ (63 < (∑ d, (if p d then (1 : ℤ) else -1)) ↔ ∀ d, p d) := by
  have hle : (∑ d, (if p d then (1 : ℤ) else -1)) ≤ 64 := by
    calc (∑ d, (if p d then (1 : ℤ) else -1)) ≤ ∑ d : Fin 64, (1 : ℤ) := Finset.sum_le_sum fun d _ => by split <;> norm_num
      _ = 64 := by simp
  refine ⟨hle, ⟨fun h x => ?_, fun h => by simp [h]⟩⟩
  by_contra hx
  rw [← Finset.add_sum_erase _ _ (Finset.mem_univ x), if_neg hx] at h
  have hc : (Finset.univ.erase x).card = 63 := by
    rw [Finset.card_erase_of_mem (Finset.mem_univ x), Finset.card_univ, Fintype.card_fin]
  have : (∑ y ∈ Finset.univ.erase x, (if p y then (1 : ℤ) else -1)) ≤ 63 := by
    calc (∑ y ∈ Finset.univ.erase x, (if p y then (1 : ℤ) else -1)) ≤ ∑ y ∈ Finset.univ.erase x, (1 : ℤ) :=
          Finset.sum_le_sum fun y _ => by split <;> norm_num
      _ = 63 := by rw [Finset.sum_const, hc]; rfl
  omega

/-- The hash of one row's vector under one head's plane. -/
def hash (q l : Fin 64 → EReal) : EReal := ∑ d, q d * l d

/-- A quarter. -/
abbrev quarter : EReal := ((1 / 4 : ℝ) : EReal)

/-- A query row's signature: its signs, then its bucket as a row of nought and one. -/
def sigq (q l : Fin 64 → EReal) (k : Fin 128) : BitVec 8 :=
  if k.1 < 64 then (if 0 < q ⟨k.1 % 64, by omega⟩ then 1#8 else 255#8)
  else BitVec.setWidth 8 (BitVec.ofBool (decide (bucket (hash q l * quarter) = (((k.1 % 64 : ℕ) : ℝ) : EReal))))

/-- The first eight signs of the two rows agree. -/
def inserted (q k : Fin 64 → EReal) : Prop := ∀ d : Fin 64, d.1 < 8 → (0 < q d ↔ 0 < k d)

/-- A key row's signature: its signs where the key is inserted, then its bucket. -/
def sigk (q k l : Fin 64 → EReal) (x : Fin 128) : BitVec 8 :=
  if x.1 < 64 then (if inserted q k then (if 0 < k ⟨x.1 % 64, by omega⟩ then 1#8 else 255#8) else 0#8)
  else BitVec.setWidth 8 (BitVec.ofBool (decide (bucket (hash k l * quarter) = (((x.1 % 64 : ℕ) : ℝ) : EReal))))

/-- Query row `i` and key row `j` are a candidate: one bucket, all signs alike, and the key inserted. -/
def cand (qi qj kj l : Fin 64 → EReal) : Prop :=
  bucket (hash qi l * quarter) = bucket (hash kj l * quarter) ∧ (∀ d, 0 < qi d ↔ 0 < kj d) ∧ inserted qj kj

/-- The scalar product of two signatures exceeds sixty-four just at the candidates. -/
theorem score_gt (qi qj kj l : Fin 64 → EReal) (nq nk : Fin 64) (hq : bucket (hash qi l * quarter) = (((nq.1 : ℕ) : ℝ) : EReal))
    (hk : bucket (hash kj l * quarter) = (((nk.1 : ℕ) : ℝ) : EReal)) :
    64 < ∑ x : Fin 128, (sigq qi l x).toInt * (sigk qj kj l x).toInt ↔ cand qi qj kj l := by
  have inj : ∀ a b : ℕ, (((a : ℕ) : ℝ) : EReal) = (((b : ℕ) : ℝ) : EReal) ↔ a = b := fun a b => by
    rw [EReal.coe_eq_coe_iff]; exact Nat.cast_inj
  have hs : (∑ x : Fin 128, (sigq qi l x).toInt * (sigk qj kj l x).toInt)
      = (∑ d : Fin 64, (if 0 < qi d then (1 : ℤ) else -1) * (if inserted qj kj then (if 0 < kj d then 1 else -1) else 0))
        + ∑ d : Fin 64, (if nq = d then (1 : ℤ) else 0) * (if nk = d then 1 else 0) := by
    rw [show (∑ x : Fin 128, (sigq qi l x).toInt * (sigk qj kj l x).toInt) = ∑ x : Fin (64 + 64), (sigq qi l x).toInt * (sigk qj kj l x).toInt from rfl,
      Fin.sum_univ_add]
    congr 1
    · refine Finset.sum_congr rfl fun d _ => ?_
      have e1 : (Fin.castAdd 64 d : Fin (64 + 64)).1 = d.1 := rfl
      have e2 : (⟨d.1 % 64, by omega⟩ : Fin 64) = d := Fin.ext (Nat.mod_eq_of_lt d.2)
      simp only [sigq, sigk, e1, d.2, if_true, e2]
      by_cases h1 : 0 < qi d <;> by_cases h2 : inserted qj kj <;> by_cases h3 : 0 < kj d <;> simp only [h1, h2, h3, if_true, if_false] <;> decide
    · refine Finset.sum_congr rfl fun d _ => ?_
      have e1 : (Fin.natAdd 64 d : Fin (64 + 64)).1 = 64 + d.1 := rfl
      have e2 : ¬ (64 + d.1 < 64) := by omega
      have e3 : (64 + d.1) % 64 = d.1 := by omega
      simp only [sigq, sigk, e1, e2, if_false, e3, hq, hk, inj, Fin.ext_iff]
      by_cases h1 : nq.1 = d.1 <;> by_cases h2 : nk.1 = d.1 <;> simp [h1, h2]
  have hb : (∑ d : Fin 64, (if nq = d then (1 : ℤ) else 0) * (if nk = d then 1 else 0)) = if nq = nk then 1 else 0 := by
    by_cases h : nq = nk
    · subst h; simp
    · rw [if_neg h]
      refine Finset.sum_eq_zero fun d _ => ?_
      by_cases h1 : nq = d
      · rw [if_pos h1, if_neg (fun h2 => h (h1.trans h2.symm)), mul_zero]
      · rw [if_neg h1, zero_mul]
  rw [hs, hb]
  unfold cand
  rw [hq, hk, inj, ← Fin.ext_iff]
  obtain ⟨hle, hgt⟩ := int_sign_sum fun d => (0 < qi d ↔ 0 < kj d)
  by_cases hi : inserted qj kj
  · have hm : (∑ d : Fin 64, (if 0 < qi d then (1 : ℤ) else -1) * (if inserted qj kj then (if 0 < kj d then 1 else -1) else 0))
        = ∑ d, (if (0 < qi d ↔ 0 < kj d) then (1 : ℤ) else -1) := Finset.sum_congr rfl fun d _ => by
      rw [if_pos hi]
      by_cases h1 : 0 < qi d <;> by_cases h3 : 0 < kj d <;> simp [h1, h3]
    rw [hm]
    by_cases hn : nq = nk
    · simp only [hn, hi, true_and, and_true, if_true]
      rw [← hgt]; constructor <;> intro h <;> omega
    · simp only [hn, false_and, if_false, iff_false]; omega
  · simp only [hi, if_false, mul_zero, Finset.sum_const_zero, and_false, iff_false]
    split <;> omega

end Cert.Rows
-- ==== Proof.Consts.lean ====
/- The float constants of the two programs as extended reals. -/
module

public import Idealize.ShloMosaic.Lib.Pointwise

@[expose] public section

noncomputable section

namespace Cert.Rows

open Idealize.ShloMosaic

/-- A quarter. -/
theorem c_quarter : Idealize.ShloMosaic.Ideal.ofBits .f32 1048576000#32 = ((1 / 4 : ℝ) : EReal) := by
  simp [Idealize.ShloMosaic.Ideal.ofBits, Idealize.ShloMosaic.Ideal.ieee, -EReal.coe_mul]; norm_num
/-- Four. -/
theorem c_four : Idealize.ShloMosaic.Ideal.ofBits .f32 1082130432#32 = ((4 : ℝ) : EReal) := by
  simp [Idealize.ShloMosaic.Ideal.ofBits, Idealize.ShloMosaic.Ideal.ieee, -EReal.coe_mul]; norm_num
/-- Sixty-four. -/
theorem c_64 : Idealize.ShloMosaic.Ideal.ofBits .f32 1115684864#32 = ((64 : ℝ) : EReal) := by
  simp [Idealize.ShloMosaic.Ideal.ofBits, Idealize.ShloMosaic.Ideal.ieee, -EReal.coe_mul]; norm_num
/-- Sixty-three and a half. -/
theorem c_63_5 : Idealize.ShloMosaic.Ideal.ofBits .f32 1115553792#32 = ((127 / 2 : ℝ) : EReal) := by
  simp [Idealize.ShloMosaic.Ideal.ofBits, Idealize.ShloMosaic.Ideal.ieee, -EReal.coe_mul]; norm_num
/-- Seven and a half. -/
theorem c_7_5 : Idealize.ShloMosaic.Ideal.ofBits .f32 1089470464#32 = ((15 / 2 : ℝ) : EReal) := by
  simp [Idealize.ShloMosaic.Ideal.ofBits, Idealize.ShloMosaic.Ideal.ieee, -EReal.coe_mul]; norm_num
/-- Eight. -/
theorem c_8 : Idealize.ShloMosaic.Ideal.ofBits .f32 1090519040#32 = ((8 : ℝ) : EReal) := by
  simp [Idealize.ShloMosaic.Ideal.ofBits, Idealize.ShloMosaic.Ideal.ieee, -EReal.coe_mul]; norm_num
/-- An eighth. -/
theorem c_eighth : Idealize.ShloMosaic.Ideal.ofBits .f32 0x3E000000#32 = ((1 / 8 : ℝ) : EReal) := by
  simp [Idealize.ShloMosaic.Ideal.ofBits, Idealize.ShloMosaic.Ideal.ieee, -EReal.coe_mul]; norm_num
/-- A half. -/
theorem c_half : Idealize.ShloMosaic.Ideal.ofBits .f32 1056964608#32 = ((1 / 2 : ℝ) : EReal) := by
  simp [Idealize.ShloMosaic.Ideal.ofBits, Idealize.ShloMosaic.Ideal.ieee, -EReal.coe_mul]; norm_num
/-- Minus one. -/
theorem c_neg1 : Idealize.ShloMosaic.Ideal.ofBits .f32 3212836864#32 = ((-1 : ℝ) : EReal) := by
  simp [Idealize.ShloMosaic.Ideal.ofBits, Idealize.ShloMosaic.Ideal.ieee, -EReal.coe_mul, -EReal.coe_neg]; norm_num
/-- Minus infinity. -/
theorem c_bot : Idealize.ShloMosaic.Ideal.ofBits .f32 4286578688#32 = ⊥ := by
  simp [Idealize.ShloMosaic.Ideal.ofBits, Idealize.ShloMosaic.Ideal.ieee]
/-- The score of a pair that is no candidate. -/
theorem c_e9 : Idealize.ShloMosaic.Ideal.ofBits .f32 3463342888#32 = ((-1000000000 : ℝ) : EReal) := by
  simp [Idealize.ShloMosaic.Ideal.ofBits, Idealize.ShloMosaic.Ideal.ieee, -EReal.coe_mul, -EReal.coe_neg]; norm_num
/-- The bound over which a score counts. -/
theorem c_e8 : Idealize.ShloMosaic.Ideal.ofBits .f32 3435052064#32 = ((-100000000 : ℝ) : EReal) := by
  simp [Idealize.ShloMosaic.Ideal.ofBits, Idealize.ShloMosaic.Ideal.ieee, -EReal.coe_mul, -EReal.coe_neg]; norm_num
/-- The least scaled score. -/
theorem c_e4 : Idealize.ShloMosaic.Ideal.ofBits .f32 3323740160#32 = ((-10000 : ℝ) : EReal) := by
  simp [Idealize.ShloMosaic.Ideal.ofBits, Idealize.ShloMosaic.Ideal.ieee, -EReal.coe_mul, -EReal.coe_neg]; norm_num
/-- The kernel's fill value of a row's maximum is below the least scaled score. -/
theorem c_e30 : Idealize.ShloMosaic.Ideal.ofBits .f32 0xF149F2CA#32 ≤ ((-10000 : ℝ) : EReal) := by
  simp [Idealize.ShloMosaic.Ideal.ofBits, Idealize.ShloMosaic.Ideal.ieee, -EReal.coe_mul, -EReal.coe_neg]; norm_num
/-- The least denominator is positive. -/
theorem c_eps : 0 < Idealize.ShloMosaic.Ideal.ofBits .f32 0x3089705F#32 := by
  simp [Idealize.ShloMosaic.Ideal.ofBits, Idealize.ShloMosaic.Ideal.ieee, -EReal.coe_mul]

end Cert.Rows
-- ==== Proof.ProjValue.lean ====
/- The second call's five results at an index: the projected rows, and the signatures of the hashed attention. -/
module

public import proofs.«01_k».proof.Proof.KernelIdealProj
public import proofs.«01_k».proof.Proof.Model
public import proofs.«01_k».proof.Proof.Consts
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Rows
open scoped Classical

/-- Column `d` of head `h` in a wide matrix. -/
abbrev col (h : Fin 12) (d : Fin 64) : Fin 768 := ⟨64 * h.1 + d.1, by omega⟩

/-- A sum over the wide matrix's columns, head by head. -/
theorem sum_cols (f : Fin 768 → EReal) : ∑ m, f m = ∑ h : Fin 12, ∑ d : Fin 64, f (col h d) := by
  rw [← Fintype.sum_prod_type']
  refine (Fintype.sum_equiv (finProdFinEquiv (m := 12) (n := 64)) (fun p : Fin 12 × Fin 64 => f (col p.1 p.2)) f fun p => ?_).symm
  refine congrArg f (Fin.ext ?_)
  show 64 * p.1.1 + p.2.1 = p.2.1 + 64 * p.1.1
  omega

/-- The quotient by sixty-four as the kernel takes it. -/
theorem quo_eq : ∀ m : Fin 768, Scalar.select
    (IntOp.andi
      (IntOp.cmpi CmpIPredicate.ne
        (IntOp.subi (BitVec.setWidth 32 (IntOp.cmpi CmpIPredicate.sgt (BitVec.ofNat 32 m.1) 0#32))
          (BitVec.setWidth 32 (IntOp.cmpi CmpIPredicate.slt (BitVec.ofNat 32 m.1) 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector (BitVec.ofNat 32 m.1) 64#32) 0#32))
    (IntOp.subi (IntOp.divsi ArithUnit.vector (BitVec.ofNat 32 m.1) 64#32) 1#32)
    (IntOp.divsi ArithUnit.vector (BitVec.ofNat 32 m.1) 64#32) = BitVec.ofNat 32 (m.1 / 64) := by
  decide +kernel

/-- The remainder by sixty-four as the kernel takes it. -/
theorem rem_eq : ∀ m : Fin 768, Scalar.select
    (IntOp.andi
      (IntOp.xori
        (IntOp.cmpi CmpIPredicate.slt (IntOp.remsi ArithUnit.vector (BitVec.ofNat 32 m.1) (Scalar.select (Scalar.cmpi CmpIPredicate.eq 64#32 0#32) 1#32 64#32)) 0#32)
        (Scalar.cmpi CmpIPredicate.slt (Scalar.select (Scalar.cmpi CmpIPredicate.eq 64#32 0#32) 1#32 64#32) 0#32))
      (IntOp.cmpi CmpIPredicate.ne (IntOp.remsi ArithUnit.vector (BitVec.ofNat 32 m.1) (Scalar.select (Scalar.cmpi CmpIPredicate.eq 64#32 0#32) 1#32 64#32)) 0#32))
    (IntOp.addi (IntOp.remsi ArithUnit.vector (BitVec.ofNat 32 m.1) (Scalar.select (Scalar.cmpi CmpIPredicate.eq 64#32 0#32) 1#32 64#32))
      (Scalar.select (Scalar.cmpi CmpIPredicate.eq 64#32 0#32) 1#32 64#32))
    (IntOp.remsi ArithUnit.vector (BitVec.ofNat 32 m.1) (Scalar.select (Scalar.cmpi CmpIPredicate.eq 64#32 0#32) 1#32 64#32)) = BitVec.ofNat 32 (m.1 % 64) := by
  decide +kernel

/-- Two head numbers as words are one word just when they are one number. -/
theorem word_eq : ∀ a b : Fin 12, BitVec.setWidth 32 (IntOp.cmpi CmpIPredicate.eq (BitVec.ofNat 32 a.1) (BitVec.ofNat 32 b.1)) = if a = b then 1#32 else 0#32 := by
  decide +kernel

/-- The same, with a second condition on the place within the head. -/
theorem word_eq8 : ∀ (a b : Fin 12) (c : Fin 64), BitVec.setWidth 32 (IntOp.andi (IntOp.cmpi CmpIPredicate.eq (BitVec.ofNat 32 a.1) (BitVec.ofNat 32 b.1))
    (IntOp.cmpi CmpIPredicate.slt (BitVec.ofNat 32 c.1) 8#32)) = if a = b ∧ c.1 < 8 then 1#32 else 0#32 := by
  decide +kernel

/-- The word one as a float. -/
theorem flt_one : (FloatOps.sitofp (F := Ideal) .f32 1#32 : EReal) = 1 := by
  show (((1#32 : BitVec 32).toInt : ℝ) : EReal) = 1
  norm_num
/-- The word nought as a float. -/
theorem flt_zero : (FloatOps.sitofp (F := Ideal) .f32 0#32 : EReal) = 0 := by
  show (((0#32 : BitVec 32).toInt : ℝ) : EReal) = 0
  norm_num
/-- A place within a head as a float. -/
theorem flt_lane (d : ℕ) (hd : d < 64) : (FloatOps.sitofp (F := Ideal) .f32 (BitVec.ofNat 32 d) : EReal) = ((d : ℝ) : EReal) := by
  show (((BitVec.ofNat 32 d).toInt : ℝ) : EReal) = _
  have : (BitVec.ofNat 32 d).toInt = d := by
    rw [BitVec.toInt_eq_toNat_of_lt (by simp [BitVec.toNat_ofNat]; omega), BitVec.toNat_ofNat]; congr 1; omega
  rw [this]; norm_cast

/-- The block-diagonal matrix of ones. -/
theorem bd_at (m : Fin 768) (h : Fin 12) : (k1_pay8 (F := Ideal) (iota .tc S768x12 32 [0] iota_S768x12_d0_w32) (iota .tc S768x12 32 [1] iota_S768x12_d1_w32) 64#32 k1_pay5 k1_pay6 (Scalar.extui (Scalar.cmpi .sgt 64#32 0#32)) (Scalar.extui (Scalar.cmpi .slt 64#32 0#32)) (ix2 m h) : EReal) = if m.1 / 64 = h.1 then 1 else 0 := by
  pointwise [k1_pay8, k1_pay7, k1_pay6, k1_pay5]
  have e := word_eq ⟨m.1 / 64, by omega⟩ h
  rw [quo_eq m]
  rw [e]
  by_cases hh : m.1 / 64 = h.1
  · rw [if_pos (Fin.ext hh), if_pos hh]; exact flt_one
  · rw [if_neg (fun h' => hh (congrArg Fin.val h')), if_neg hh]; exact flt_zero

/-- Its rows of the first eight places of each head alone. -/
theorem sel_at (m : Fin 768) (h : Fin 12) : (k1_pay9 (F := Ideal) (iota .tc S768x12 32 [0] iota_S768x12_d0_w32) (iota .tc S768x12 32 [1] iota_S768x12_d1_w32) 64#32 k1_pay5 k1_pay6 (Scalar.extui (Scalar.cmpi .sgt 64#32 0#32)) (Scalar.extui (Scalar.cmpi .slt 64#32 0#32)) (ix2 m h) : EReal) = if m.1 / 64 = h.1 ∧ m.1 % 64 < 8 then 1 else 0 := by
  pointwise [k1_pay9, k1_pay7, k1_pay6, k1_pay5]
  have e := word_eq8 ⟨m.1 / 64, by omega⟩ h ⟨m.1 % 64, by omega⟩
  rw [quo_eq m, rem_eq m]
  rw [e]
  by_cases hh : m.1 / 64 = h.1 ∧ m.1 % 64 < 8
  · rw [if_pos ⟨Fin.ext hh.1, hh.2⟩, if_pos hh]; exact flt_one
  · rw [if_neg (fun h' => hh ⟨congrArg Fin.val h'.1, h'.2⟩), if_neg hh]; exact flt_zero

/-- The place within its head of a column. -/
theorem lane_at (m : Fin 768) : k1_pay18 (iota .tc S768x12 32 [0] iota_S768x12_d0_w32) (ix2 0 m) = BitVec.ofNat 32 (m.1 % 64) := by
  pointwise [k1_pay18]
  exact rem_eq m

/-- A product with the block-diagonal matrix is a sum over one head. -/
theorem sum_bd (f : Fin 768 → EReal) (h : Fin 12) : ∑ m : Fin 768, f m * (if m.1 / 64 = h.1 then 1 else 0) = ∑ d : Fin 64, f (col h d) := by
  rw [sum_cols]
  rw [Finset.sum_eq_single h]
  · refine Finset.sum_congr rfl fun d _ => ?_
    rw [if_pos (by show (64 * h.1 + d.1) / 64 = h.1; omega), mul_one]
  · intro h' _ hne
    refine Finset.sum_eq_zero fun d _ => ?_
    rw [if_neg (by
      show ¬ (64 * h'.1 + d.1) / 64 = h.1
      intro e
      exact hne (Fin.ext (by omega))), mul_zero]
  · intro hn; exact absurd (Finset.mem_univ h) hn

/-- A product with the transposed block-diagonal matrix copies a head's entry to its columns. -/
theorem sum_rep (f : Fin 12 → EReal) (m : Fin 768) : ∑ h : Fin 12, f h * (if m.1 / 64 = h.1 then 1 else 0) = f ⟨m.1 / 64, by omega⟩ := by
  rw [Finset.sum_eq_single (⟨m.1 / 64, by omega⟩ : Fin 12)]
  · rw [if_pos rfl, mul_one]
  · intro h' _ hne
    rw [if_neg (fun e => hne (Fin.ext e.symm)), mul_zero]
  · intro hn; exact absurd (Finset.mem_univ _) hn

/-- A count over the first eight places exceeds seven and a half just when all eight hold. -/
theorem count_eight (p : Fin 64 → Prop) [DecidablePred p] : (((15 / 2 : ℝ) : EReal) < ∑ d : Fin 64, (if p d then (1 : EReal) else 0) * (if d.1 < 8 then 1 else 0)) ↔ ∀ d : Fin 64, d.1 < 8 → p d := by
  have e : (∑ d : Fin 64, (if p d then (1 : EReal) else 0) * (if d.1 < 8 then 1 else 0)) = (((Finset.univ.filter fun d : Fin 64 => p d ∧ d.1 < 8).card : ℝ) : EReal) := by
    rw [Finset.card_filter, Nat.cast_sum, coe_sum]
    refine Finset.sum_congr rfl fun d _ => ?_
    by_cases h1 : p d <;> by_cases h2 : d.1 < 8 <;> simp [h1, h2]
  have c8 : (Finset.univ.filter fun d : Fin 64 => d.1 < 8).card = 8 := by decide +kernel
  have hsub : (Finset.univ.filter fun d : Fin 64 => p d ∧ d.1 < 8) ⊆ Finset.univ.filter fun d : Fin 64 => d.1 < 8 :=
    fun d hd => Finset.mem_filter.mpr ⟨Finset.mem_univ _, (Finset.mem_filter.mp hd).2.2⟩
  rw [e, EReal.coe_lt_coe_iff]
  constructor
  · intro h d hd
    have h8 : 8 ≤ (Finset.univ.filter fun d : Fin 64 => p d ∧ d.1 < 8).card := by
      by_contra hc
      have : (Finset.univ.filter fun d : Fin 64 => p d ∧ d.1 < 8).card ≤ 7 := by omega
      have : ((Finset.univ.filter fun d : Fin 64 => p d ∧ d.1 < 8).card : ℝ) ≤ 7 := by exact_mod_cast this
      linarith
    have := Finset.eq_of_subset_of_card_le hsub (by rw [c8]; exact h8)
    have hm : d ∈ Finset.univ.filter fun d : Fin 64 => d.1 < 8 := Finset.mem_filter.mpr ⟨Finset.mem_univ _, hd⟩
    rw [← this] at hm
    exact (Finset.mem_filter.mp hm).2.1
  · intro h
    have : (Finset.univ.filter fun d : Fin 64 => p d ∧ d.1 < 8) = Finset.univ.filter fun d : Fin 64 => d.1 < 8 :=
      Finset.filter_congr fun d _ => ⟨fun h' => h'.2, fun h' => ⟨h d h', h'⟩⟩
    rw [this, c8]; norm_num

/-- One row's projection. -/
def prow (x : FVec Ideal S1x512x768 .f32) (w : FVec Ideal S768x768 .f32) (s : Fin 512) (m : Fin 768) : EReal := ∑ d : Fin 768, x (ix3 0 s d) * w (ix2 d m)

/-- The stored product, read at an index: three payloads of one form. -/
theorem pay2_at (x : FVec Ideal S1x512x768 .f32) (w : FVec Ideal S768x768 .f32) (s : Fin 512) (m : Fin 768) : (k1_pay2 (F := Ideal) x w (ix2 s m) : EReal) = prow x w s m := by
  unfold prow; pointwise [k1_pay2]

/-- The rectangles of the whole blocks. -/
theorem ld_x (x : FVec Ideal S1x512x768 .f32) : View.ld (Val := Elt Ideal) (e' := .f32) x r1_0 = x := View.ld_unit_lit _ _ (by decide)
/-- The rectangles of the whole blocks. -/
theorem ld_w (x : FVec Ideal S768x768 .f32) : View.ld (Val := Elt Ideal) (e' := .f32) x r1_1 = x := View.ld_unit_lit _ _ (by decide)
/-- The rectangles of the whole blocks. -/
theorem ld_l (x : FVec Ideal S1x768 .f32) : View.ld (Val := Elt Ideal) (e' := .f32) x r1_2 = x := View.ld_unit_lit _ _ (by decide)

/-- The queries' wide matrix. -/
theorem q_at (x0 x1 x2 : FVec Ideal S1x512x768 .f32) (x3 x4 x5 : FVec Ideal S768x768 .f32) (x6 : FVec Ideal S1x768 .f32) (s : Fin 512) (m : Fin 768) : (k1_pay92 (F := Ideal) x0 x1 x2 x3 x4 x5 x6 (ix2 s m) : EReal) = prow x0 x3 s m := by
  unfold k1_pay92; rw [ld_x, ld_w]; exact pay2_at _ _ _ _
/-- The keys' wide matrix. -/
theorem k_at (x0 x1 x2 : FVec Ideal S1x512x768 .f32) (x3 x4 x5 : FVec Ideal S768x768 .f32) (x6 : FVec Ideal S1x768 .f32) (s : Fin 512) (m : Fin 768) : (k1_pay93 (F := Ideal) x0 x1 x2 x3 x4 x5 x6 (ix2 s m) : EReal) = prow x1 x4 s m := by
  unfold k1_pay93; rw [ld_x, ld_w]; exact pay2_at _ _ _ _
/-- The values' wide matrix. -/
theorem v_at (x0 x1 x2 : FVec Ideal S1x512x768 .f32) (x3 x4 x5 : FVec Ideal S768x768 .f32) (x6 : FVec Ideal S1x768 .f32) (s : Fin 512) (m : Fin 768) : (k1_pay94 (F := Ideal) x0 x1 x2 x3 x4 x5 x6 (ix2 s m) : EReal) = prow x2 x5 s m := by
  unfold k1_pay94; rw [ld_x, ld_w]; exact pay2_at _ _ _ _

/-- One head of a row of the wide matrix. -/
abbrev hrow (x : FVec Ideal S1x512x768 .f32) (w : FVec Ideal S768x768 .f32) (s : Fin 512) (h : Fin 12) : Fin 64 → EReal := fun d => prow x w s (col h d)
/-- One head of the planes. -/
abbrev lrow (l : FVec Ideal S1x768 .f32) (h : Fin 12) : Fin 64 → EReal := fun d => l (ix2 0 (col h d))

/-- Bringing the remainder into the range from nought, as the kernel spells it. -/
theorem mod_eq (r : EReal) : Scalar.select (IntOp.andi (IntOp.xori (BitVec.ofBool (decide (r < 0))) (BitVec.ofBool (decide ((((64 : ℝ) : EReal)) < 0)))) (BitVec.ofBool (decide (r ≠ 0))))
    (r + ((64 : ℝ) : EReal)) r = if r < 0 then r + ((64 : ℝ) : EReal) else r := by
  have h64 : ¬ (((64 : ℝ) : EReal) < 0) := by
    rw [not_lt]; exact EReal.coe_nonneg.mpr (by norm_num)
  by_cases h : r < 0
  · have : r ≠ 0 := ne_of_lt h
    simp [h, h64, this, Scalar.select, IntOp.andi, IntOp.xori]
  · by_cases h0 : r = 0 <;> simp [h, h64, h0, Scalar.select, IntOp.andi, IntOp.xori]

/-- The queries' buckets. -/
theorem qb_at (v80 : FVec Ideal S512x12 .f32) (s : Fin 512) (h : Fin 12) :
    (k1_pay13 (F := Ideal) v80 (Scalar.ofBits .f32 0x3E800000#32) (ix2 s h) : EReal) = bucket (v80 (ix2 s h) * quarter) := by
  pointwise [k1_pay13]
  rw [c_quarter, c_64]
  exact mod_eq _

/-- The keys' buckets. -/
theorem kb_at (x1 : FVec Ideal S768x12 .f32) (x2 : FVec Ideal S512x768 .f32) (s : Fin 512) (h : Fin 12) :
    (k1_pay14 (F := Ideal) x1 x2 (ix2 s h) : EReal) = bucket ((∑ x, x2 (ix2 s x) * x1 (ix2 x h)) * quarter) := by
  pointwise [k1_pay14]
  rw [c_quarter, c_64]
  exact mod_eq _

/-- The queries' hashes. -/
theorem qh_at (q : FVec Ideal S512x768 .f32) (l : FVec Ideal S1x768 .f32) (s : Fin 512) (h : Fin 12) :
    (k1_pay12 (F := Ideal) q (iota .tc S768x12 32 [0] iota_S768x12_d0_w32) (iota .tc S768x12 32 [1] iota_S768x12_d1_w32) 64#32 k1_pay5 k1_pay6 (Scalar.extui (Scalar.cmpi .sgt 64#32 0#32)) (Scalar.extui (Scalar.cmpi .slt 64#32 0#32)) l (ix2 s h) : EReal) = hash (fun d => q (ix2 s (col h d))) (lrow l h) := by
  pointwise [k1_pay12]
  exact (Finset.sum_congr rfl fun x _ => congrArg (q (ix2 s x) * l (ix2 0 x) * ·) (bd_at x h)).trans (sum_bd (fun x => q (ix2 s x) * l (ix2 0 x)) h)

/-- The keys' hashes, as products to be summed. -/
theorem kh_at (q : FVec Ideal S512x768 .f32) (l : FVec Ideal S1x768 .f32) (s : Fin 512) (h : Fin 12) :
    ∑ x, (k1_pay11 (F := Ideal) q l (ix2 s x) : EReal) * k1_pay8 (F := Ideal) (iota .tc S768x12 32 [0] iota_S768x12_d0_w32) (iota .tc S768x12 32 [1] iota_S768x12_d1_w32) 64#32 k1_pay5 k1_pay6 (Scalar.extui (Scalar.cmpi .sgt 64#32 0#32)) (Scalar.extui (Scalar.cmpi .slt 64#32 0#32)) (ix2 x h) = hash (fun d => q (ix2 s (col h d))) (lrow l h) := by
  have e : ∀ x, (k1_pay11 (F := Ideal) q l (ix2 s x) : EReal) = q (ix2 s x) * l (ix2 0 x) := fun x => by pointwise [k1_pay11]
  exact (Finset.sum_congr rfl fun x _ => congrArg₂ (· * ·) (e x) (bd_at x h)).trans (sum_bd (fun x => q (ix2 s x) * l (ix2 0 x)) h)

/-- The transposed block-diagonal matrix. -/
theorem bdT_at (m : Fin 768) (h : Fin 12) : (k1_pay10 (F := Ideal) (iota .tc S768x12 32 [0] iota_S768x12_d0_w32) (iota .tc S768x12 32 [1] iota_S768x12_d1_w32) 64#32 k1_pay5 k1_pay6 (Scalar.extui (Scalar.cmpi .sgt 64#32 0#32)) (Scalar.extui (Scalar.cmpi .slt 64#32 0#32)) (ix2 h m) : EReal) = if m.1 / 64 = h.1 then 1 else 0 := by
  rw [← bd_at]; pointwise [k1_pay10]

/-- The transposed block-diagonal matrix among the call's values. -/
theorem bd97_at (x0 x1 x2 : FVec Ideal S1x512x768 .f32) (x3 x4 x5 : FVec Ideal S768x768 .f32) (x6 : FVec Ideal S1x768 .f32) (h : Fin 12) (m : Fin 768) : (k1_pay97 (F := Ideal) x0 x1 x2 x3 x4 x5 x6 (ix2 h m) : EReal) = if m.1 / 64 = h.1 then 1 else 0 := bdT_at m h

/-- A head's bucket compared with the column's place. -/
theorem onehot_gen (x1 : FVec Ideal S12x768 .f32) (x2 : FVec Ideal S512x12 .f32) (s : Fin 512) (m : Fin 768)
    (hx : ∀ h : Fin 12, x1 (ix2 h m) = if m.1 / 64 = h.1 then 1 else 0) :
    k1_pay21 (F := Ideal) (iota .tc S768x12 32 [0] iota_S768x12_d0_w32) x1 x2 (ix2 s m)
      = BitVec.ofBool (decide (x2 (ix2 s ⟨m.1 / 64, by omega⟩) = (((m.1 % 64 : ℕ) : ℝ) : EReal))) := by
  pointwise [k1_pay21]
  simp only [hx]
  rw [lane_at, flt_lane _ (by omega), sum_rep (fun h => x2 (ix2 s h))]

/-- A head's entry copied to its columns. -/
theorem rep_gen (x1 : FVec Ideal S12x768 .f32) (x2 : FVec Ideal S512x12 .f32) (s : Fin 512) (m : Fin 768)
    (hx : ∀ h : Fin 12, x1 (ix2 h m) = if m.1 / 64 = h.1 then 1 else 0) :
    (k1_pay17 (F := Ideal) x1 x2 (ix2 s m) : EReal) = x2 (ix2 s ⟨m.1 / 64, by omega⟩) := by
  pointwise [k1_pay17]
  simp only [hx]
  rw [sum_rep (fun h => x2 (ix2 s h))]

/-- A half is exceeded by a truth value just when it is true. -/
theorem half_lt (P : Prop) [Decidable P] : (((1 / 2 : ℝ) : EReal) < FloatOps.sitofp (F := Ideal) .f32 (BitVec.setWidth 32 (BitVec.ofBool (decide P)))) ↔ P := by
  by_cases hP : P
  · simp only [hP, decide_true, iff_true]
    show _ < (FloatOps.sitofp (F := Ideal) .f32 1#32 : EReal)
    rw [flt_one]; exact_mod_cast (by norm_num : (1 / 2 : ℝ) < 1)
  · simp only [hP, decide_false, iff_false]
    show ¬ _ < (FloatOps.sitofp (F := Ideal) .f32 0#32 : EReal)
    rw [flt_zero, not_lt]; exact_mod_cast (by norm_num : (0 : ℝ) ≤ 1 / 2)

/-- A whole number as a signed byte. -/
theorem byte_of (n : ℤ) (h1 : -128 ≤ n) (h2 : n ≤ 127) : FloatOps.fptosi (F := Ideal) (φ := .f32) 8 (((n : ℝ)) : EReal) = BitVec.ofInt 8 n := by
  show BitVec.ofInt 8 (Idealize.ShloMosaic.Ideal.toIntClamped _ _ _) = _
  rw [Idealize.ShloMosaic.Ideal.toIntClamped_coe, Int.floor_intCast, Int.ceil_intCast, ite_self]
  congr 1
  norm_num
  omega

/-- A key's sign where its head is inserted, and nought elsewhere. -/
theorem sign_gen (x1 : FVec Ideal S512x768 .f32) (x2 : FVec Ideal S12x768 .f32) (x3 : FVec Ideal S512x12 .f32) (s : Fin 512) (m : Fin 768)
    (hx : ∀ h : Fin 12, x2 (ix2 h m) = if m.1 / 64 = h.1 then 1 else 0) :
    k1_pay20 (F := Ideal) x1 x2 x3 (k1_pay16 (F := Ideal)) (ix2 s m)
      = if ((15 / 2 : ℝ) : EReal) < x3 (ix2 s ⟨m.1 / 64, by omega⟩) then (if 0 < x1 (ix2 s m) then 1#8 else 255#8) else 0#8 := by
  pointwise [k1_pay20, k1_pay16]
  simp only [hx, c_7_5, c_half, c_neg1]
  rw [sum_rep (fun h => FloatOps.sitofp (F := Ideal) .f32 (BitVec.setWidth 32 (BitVec.ofBool (decide (((15 / 2 : ℝ) : EReal) < x3 (ix2 s h))))))]
  simp only [half_lt]
  have b1 := byte_of 1 (by norm_num) (by norm_num)
  have b2 := byte_of (-1) (by norm_num) (by norm_num)
  have b0 := byte_of 0 (by norm_num) (by norm_num)
  norm_num at b1 b2 b0
  by_cases h1 : ((15 / 2 : ℝ) : EReal) < x3 (ix2 s ⟨m.1 / 64, by omega⟩)
  · rw [if_pos h1]
    simp only [h1, decide_true]
    rw [show (FloatOps.sitofp (F := Ideal) .f32 (BitVec.setWidth 32 (BitVec.ofBool true)) : EReal) = 1 from flt_one, mul_one]
    by_cases h2 : 0 < x1 (ix2 s m)
    · rw [if_pos h2, if_pos h2]; exact b1
    · rw [if_neg h2, if_neg h2]; exact b2
  · rw [if_neg h1]
    simp only [h1, decide_false]
    rw [show (FloatOps.sitofp (F := Ideal) .f32 (BitVec.setWidth 32 (BitVec.ofBool false)) : EReal) = 0 from flt_zero, mul_zero]
    exact b0

/-- The queries' one-hot rows, at a head's column. -/
theorem qone_at (x0 x1 x2 : FVec Ideal S1x512x768 .f32) (x3 x4 x5 : FVec Ideal S768x768 .f32) (x6 : FVec Ideal S1x768 .f32) (s : Fin 512) (h : Fin 12) (m : Fin 768) (hm : m.1 / 64 = h.1) :
    k1_pay103 (F := Ideal) x0 x1 x2 x3 x4 x5 x6 (ix2 s m) = BitVec.setWidth 8 (BitVec.ofBool (decide (bucket (hash (hrow x0 x3 s h) (lrow x6 h) * quarter) = (((m.1 % 64 : ℕ) : ℝ) : EReal)))) := by
  have e : ∀ B : IVec S512x768 1, k1_pay22 B (ix2 s m) = BitVec.setWidth 8 (B (ix2 s m)) := fun B => by pointwise [k1_pay22]
  refine (e _).trans (congrArg (BitVec.setWidth 8) ?_)
  refine (onehot_gen _ _ s m (bd97_at x0 x1 x2 x3 x4 x5 x6 · m)).trans ?_
  rw [show (⟨m.1 / 64, by omega⟩ : Fin 12) = h from Fin.ext hm]
  refine congrArg (fun z => BitVec.ofBool (decide (z = (((m.1 % 64 : ℕ) : ℝ) : EReal)))) ?_
  refine (qb_at _ s h).trans (congrArg (fun z => bucket (z * quarter)) ?_)
  refine (qh_at _ _ s h).trans ?_
  rw [ld_l]
  exact congrArg (fun z => hash z (lrow x6 h)) (funext fun d => q_at x0 x1 x2 x3 x4 x5 x6 s (col h d))

/-- The keys' one-hot rows, at a head's column. -/
theorem kone_at (x0 x1 x2 : FVec Ideal S1x512x768 .f32) (x3 x4 x5 : FVec Ideal S768x768 .f32) (x6 : FVec Ideal S1x768 .f32) (s : Fin 512) (h : Fin 12) (m : Fin 768) (hm : m.1 / 64 = h.1) :
    k1_pay104 (F := Ideal) x0 x1 x2 x3 x4 x5 x6 (ix2 s m) = BitVec.setWidth 8 (BitVec.ofBool (decide (bucket (hash (hrow x1 x4 s h) (lrow x6 h) * quarter) = (((m.1 % 64 : ℕ) : ℝ) : EReal)))) := by
  have e : ∀ (B : FVec Ideal S512x768 .f32) (L : IVec S1x768 32), k1_pay23 (F := Ideal) B L (ix2 s m) = BitVec.setWidth 8 (BitVec.ofBool (decide (B (ix2 s m) = FloatOps.sitofp (F := Ideal) .f32 (L (ix2 0 m))))) := fun B L => by pointwise [k1_pay23]
  refine (e _ _).trans ?_
  rw [show k1_pay99 (F := Ideal) x0 x1 x2 x3 x4 x5 x6 (ix2 0 m) = BitVec.ofNat 32 (m.1 % 64) from lane_at m, flt_lane _ (by omega)]
  refine congrArg (fun z => BitVec.setWidth 8 (BitVec.ofBool (decide (z = (((m.1 % 64 : ℕ) : ℝ) : EReal))))) ?_
  refine (rep_gen _ _ s m (bd97_at x0 x1 x2 x3 x4 x5 x6 · m)).trans ?_
  rw [show (⟨m.1 / 64, by omega⟩ : Fin 12) = h from Fin.ext hm]
  refine (kb_at _ _ s h).trans (congrArg (fun z => bucket (z * quarter)) ?_)
  refine (kh_at _ _ s h).trans ?_
  rw [ld_l]
  exact congrArg (fun z => hash z (lrow x6 h)) (funext fun d => k_at x0 x1 x2 x3 x4 x5 x6 s (col h d))

/-- The queries' signs. -/
theorem qsg_at (x0 x1 x2 : FVec Ideal S1x512x768 .f32) (x3 x4 x5 : FVec Ideal S768x768 .f32) (x6 : FVec Ideal S1x768 .f32) (s : Fin 512) (m : Fin 768) : k1_pay100 (F := Ideal) x0 x1 x2 x3 x4 x5 x6 (ix2 s m) = if 0 < prow x0 x3 s m then 1#8 else 255#8 := by
  rw [← q_at x0 x1 x2 x3 x4 x5 x6]
  unfold k1_pay100
  pointwise [k1_pay19]
  split <;> rfl

/-- How many of the first eight signs agree. -/
theorem agree_at (q k : FVec Ideal S512x768 .f32) (s : Fin 512) (h : Fin 12) : (((15 / 2 : ℝ) : EReal) < (k1_pay15 (F := Ideal) q k (k1_pay9 (F := Ideal) (iota .tc S768x12 32 [0] iota_S768x12_d0_w32) (iota .tc S768x12 32 [1] iota_S768x12_d1_w32) 64#32 k1_pay5 k1_pay6 (Scalar.extui (Scalar.cmpi .sgt 64#32 0#32)) (Scalar.extui (Scalar.cmpi .slt 64#32 0#32))) (ix2 s h) : EReal))
    ↔ inserted (fun d => q (ix2 s (col h d))) (fun d => k (ix2 s (col h d))) := by
  have e : (k1_pay15 (F := Ideal) q k (k1_pay9 (F := Ideal) (iota .tc S768x12 32 [0] iota_S768x12_d0_w32) (iota .tc S768x12 32 [1] iota_S768x12_d1_w32) 64#32 k1_pay5 k1_pay6 (Scalar.extui (Scalar.cmpi .sgt 64#32 0#32)) (Scalar.extui (Scalar.cmpi .slt 64#32 0#32))) (ix2 s h) : EReal)
      = ∑ m : Fin 768, (fun m : Fin 768 => (if (0 < q (ix2 s m) ↔ 0 < k (ix2 s m)) then (1 : EReal) else 0) * (if m.1 % 64 < 8 then 1 else 0)) m * (if m.1 / 64 = h.1 then 1 else 0) := by
    pointwise [k1_pay15]
    refine Finset.sum_congr rfl fun m _ => ?_
    rw [sel_at]
    by_cases h1 : 0 < q (ix2 s m) <;> by_cases h2 : 0 < k (ix2 s m) <;> by_cases h3 : m.1 / 64 = h.1 <;> by_cases h4 : m.1 % 64 < 8 <;>
      simp [h1, h2, h3, h4, IntOp.xori, flt_one, flt_zero]
  rw [e, sum_bd]
  have e2 : ∀ d : Fin 64, (64 * h.1 + d.1) % 64 = d.1 := fun d => by omega
  simp only [e2]
  exact count_eight fun d => (0 < q (ix2 s (col h d)) ↔ 0 < k (ix2 s (col h d)))

/-- The keys' signs where inserted. -/
theorem ksg_at (x0 x1 x2 : FVec Ideal S1x512x768 .f32) (x3 x4 x5 : FVec Ideal S768x768 .f32) (x6 : FVec Ideal S1x768 .f32) (s : Fin 512) (h : Fin 12) (m : Fin 768) (hm : m.1 / 64 = h.1) : k1_pay101 (F := Ideal) x0 x1 x2 x3 x4 x5 x6 (ix2 s m)
    = if inserted (hrow x0 x3 s h) (hrow x1 x4 s h) then (if 0 < prow x1 x4 s m then 1#8 else 255#8) else 0#8 := by
  refine (sign_gen _ _ _ s m (bd97_at x0 x1 x2 x3 x4 x5 x6 · m)).trans ?_
  rw [show (⟨m.1 / 64, by omega⟩ : Fin 12) = h from Fin.ext hm, k_at]
  have hag : _ ↔ _ := agree_at (k1_pay92 (F := Ideal) x0 x1 x2 x3 x4 x5 x6) (k1_pay93 (F := Ideal) x0 x1 x2 x3 x4 x5 x6) s h
  simp only [q_at, k_at] at hag
  exact if_congr hag rfl rfl

/-- A head's slice of a wide matrix agrees with the stack at its head. -/
theorem slice_tile (X : FVec Ideal S512x768 .f32) (p : FVec Ideal S1x512x64 .f32) (n : ℕ) (hn : n < 12) (y : S12x512x64.Idx)
    (hp : ∀ (s : Fin 512) (k : Fin 64) (m : Fin 768), m.1 = 64 * n + k.1 → p (ix3 0 s k) = X (ix2 s m)) :
    View.TileAt (Val := Elt Ideal) (e := .f32) y ![n, 0, 0] S1x512x64.size p (X (ix2 (y 1) (col (y 0) (y 2)))) := by
  intro x hx
  have e0 : (y 0).1 = n + (x 0).1 := hx 0
  have e1 : y 1 = x 1 := Fin.ext (by simpa using hx 1)
  have e2 : y 2 = x 2 := Fin.ext (by simpa using hx 2)
  have l0 : (x 0).1 < 1 := (x 0).2
  have hx' : x = ix3 0 (y 1) (y 2) := by
    funext a; fin_cases a
    · exact Fin.ext (by show (x 0).1 = 0; omega)
    · exact e1.symm
    · exact e2.symm
  rw [hx']
  exact hp _ _ _ (by show 64 * (y 0).1 + (y 2).1 = _; omega)

/-- Two wide matrices' slices side by side agree with the stack at their head. -/
theorem pair_tile (A B : IVec S512x768 8) (p : IVec S1x512x128 8) (n : ℕ) (hn : n < 12) (y : S12x512x128.Idx)
    (hp : ∀ (s : Fin 512) (k : Fin 128) (m : Fin 768), m.1 = 64 * n + k.1 % 64 → p (ix3 0 s k) = if k.1 < 64 then A (ix2 s m) else B (ix2 s m)) :
    View.TileAt (Val := Elt Ideal) (e := .i8) y ![n, 0, 0] S1x512x128.size p
      (if (y 2).1 < 64 then A (ix2 (y 1) (col (y 0) ⟨(y 2).1 % 64, by omega⟩)) else B (ix2 (y 1) (col (y 0) ⟨(y 2).1 % 64, by omega⟩))) := by
  intro x hx
  have e0 : (y 0).1 = n + (x 0).1 := hx 0
  have e1 : y 1 = x 1 := Fin.ext (by simpa using hx 1)
  have e2 : y 2 = x 2 := Fin.ext (by simpa using hx 2)
  have l0 : (x 0).1 < 1 := (x 0).2
  have hx' : x = ix3 0 (y 1) (y 2) := by
    funext a; fin_cases a
    · exact Fin.ext (by show (x 0).1 = 0; omega)
    · exact e1.symm
    · exact e2.symm
  rw [hx']
  exact hp _ _ _ (by show 64 * (y 0).1 + (y 2).1 % 64 = _; omega)

/-- Choosing between two slices, the place named in two ways. -/
theorem pair_close (A B : IVec S512x768 8) (s : Fin 512) (k : Fin 128) (m : Fin 768) (m1 : k.1 < 64 → Fin 768) (m2 : ¬ k.1 < 64 → Fin 768) (h1 : ∀ h, m1 h = m) (h2 : ∀ h, m2 h = m) :
    (if h : k.1 < 64 then A (ix2 s (m1 h)) else B (ix2 s (m2 h))) = if k.1 < 64 then A (ix2 s m) else B (ix2 s m) := by
  by_cases h : k.1 < 64
  · rw [dif_pos h, if_pos h, h1 h]
  · rw [dif_neg h, if_neg h, h2 h]

/-- What the second call leaves of the queries. -/
theorem out1_7_at (x0 x1 x2 : FVec Ideal S1x512x768 .f32) (x3 x4 x5 : FVec Ideal S768x768 .f32) (x6 : FVec Ideal S1x768 .f32) (h : Fin 12) (s : Fin 512) (k : Fin 64) :
    out1_7 (F := Ideal) x0 x1 x2 x3 x4 x5 x6 (ix3 h s k) = prow x0 x3 s (col h k) := by
  rw [← q_at x0 x1 x2 x3 x4 x5 x6]
  unfold out1_7
  refine View.canon_eq_of_allAt _ _ _ (cover1_7 _ _ _ _ _ _ _ _ _ _ _ _ (ix3 h s k)) ?_
  generalize k1_pay92 (F := Ideal) x0 x1 x2 x3 x4 x5 x6 = X
  refine View.allAt_cons_unit _ _ _ _ _ (slice_tile X _ 11 (by decide) (ix3 h s k) fun s k m hm => by pointwise [k1_pay85]; exact congrArg (fun z => X (ix2 s z)) (Fin.ext (by simp [hm]))) ?_
  refine View.allAt_cons_unit _ _ _ _ _ (slice_tile X _ 10 (by decide) (ix3 h s k) fun s k m hm => by pointwise [k1_pay79]; exact congrArg (fun z => X (ix2 s z)) (Fin.ext (by simp [hm]))) ?_
  refine View.allAt_cons_unit _ _ _ _ _ (slice_tile X _ 9 (by decide) (ix3 h s k) fun s k m hm => by pointwise [k1_pay73]; exact congrArg (fun z => X (ix2 s z)) (Fin.ext (by simp [hm]))) ?_
  refine View.allAt_cons_unit _ _ _ _ _ (slice_tile X _ 8 (by decide) (ix3 h s k) fun s k m hm => by pointwise [k1_pay68, k1_pay67]; exact congrArg (fun z => X (ix2 s z)) (Fin.ext (by simp [hm]))) ?_
  refine View.allAt_cons_unit _ _ _ _ _ (slice_tile X _ 7 (by decide) (ix3 h s k) fun s k m hm => by pointwise [k1_pay62]; exact congrArg (fun z => X (ix2 s z)) (Fin.ext (by simp [hm]))) ?_
  refine View.allAt_cons_unit _ _ _ _ _ (slice_tile X _ 6 (by decide) (ix3 h s k) fun s k m hm => by pointwise [k1_pay56]; exact congrArg (fun z => X (ix2 s z)) (Fin.ext (by simp [hm]))) ?_
  refine View.allAt_cons_unit _ _ _ _ _ (slice_tile X _ 5 (by decide) (ix3 h s k) fun s k m hm => by pointwise [k1_pay51]; exact congrArg (fun z => X (ix2 s z)) (Fin.ext (by simp [hm]))) ?_
  refine View.allAt_cons_unit _ _ _ _ _ (slice_tile X _ 4 (by decide) (ix3 h s k) fun s k m hm => by pointwise [k1_pay46]; exact congrArg (fun z => X (ix2 s z)) (Fin.ext (by simp [hm]))) ?_
  refine View.allAt_cons_unit _ _ _ _ _ (slice_tile X _ 3 (by decide) (ix3 h s k) fun s k m hm => by pointwise [k1_pay41]; exact congrArg (fun z => X (ix2 s z)) (Fin.ext (by simp [hm]))) ?_
  refine View.allAt_cons_unit _ _ _ _ _ (slice_tile X _ 2 (by decide) (ix3 h s k) fun s k m hm => by pointwise [k1_pay35]; exact congrArg (fun z => X (ix2 s z)) (Fin.ext (by simp [hm]))) ?_
  refine View.allAt_cons_unit _ _ _ _ _ (slice_tile X _ 1 (by decide) (ix3 h s k) fun s k m hm => by pointwise [k1_pay29]; exact congrArg (fun z => X (ix2 s z)) (Fin.ext (by simp [hm]))) ?_
  refine View.allAt_cons_unit _ _ _ _ _ (slice_tile X _ 0 (by decide) (ix3 h s k) fun s k m hm => by pointwise [k1_pay24]; exact congrArg (fun z => X (ix2 s z)) (Fin.ext (by simp [hm]))) ?_
  exact View.allAt_nil _ _

/-- What the second call leaves of the keys. -/
theorem out1_8_at (x0 x1 x2 : FVec Ideal S1x512x768 .f32) (x3 x4 x5 : FVec Ideal S768x768 .f32) (x6 : FVec Ideal S1x768 .f32) (h : Fin 12) (s : Fin 512) (k : Fin 64) :
    out1_8 (F := Ideal) x0 x1 x2 x3 x4 x5 x6 (ix3 h s k) = prow x1 x4 s (col h k) := by
  rw [← k_at x0 x1 x2 x3 x4 x5 x6]
  unfold out1_8
  refine View.canon_eq_of_allAt _ _ _ (cover1_8 _ _ _ _ _ _ _ _ _ _ _ _ (ix3 h s k)) ?_
  generalize k1_pay93 (F := Ideal) x0 x1 x2 x3 x4 x5 x6 = X
  refine View.allAt_cons_unit _ _ _ _ _ (slice_tile X _ 11 (by decide) (ix3 h s k) fun s k m hm => by pointwise [k1_pay86]; exact congrArg (fun z => X (ix2 s z)) (Fin.ext (by simp [hm]))) ?_
  refine View.allAt_cons_unit _ _ _ _ _ (slice_tile X _ 10 (by decide) (ix3 h s k) fun s k m hm => by pointwise [k1_pay80]; exact congrArg (fun z => X (ix2 s z)) (Fin.ext (by simp [hm]))) ?_
  refine View.allAt_cons_unit _ _ _ _ _ (slice_tile X _ 9 (by decide) (ix3 h s k) fun s k m hm => by pointwise [k1_pay74]; exact congrArg (fun z => X (ix2 s z)) (Fin.ext (by simp [hm]))) ?_
  refine View.allAt_cons_unit _ _ _ _ _ (slice_tile X _ 8 (by decide) (ix3 h s k) fun s k m hm => by pointwise [k1_pay69]; exact congrArg (fun z => X (ix2 s z)) (Fin.ext (by simp [hm]))) ?_
  refine View.allAt_cons_unit _ _ _ _ _ (slice_tile X _ 7 (by decide) (ix3 h s k) fun s k m hm => by pointwise [k1_pay63]; exact congrArg (fun z => X (ix2 s z)) (Fin.ext (by simp [hm]))) ?_
  refine View.allAt_cons_unit _ _ _ _ _ (slice_tile X _ 6 (by decide) (ix3 h s k) fun s k m hm => by pointwise [k1_pay57]; exact congrArg (fun z => X (ix2 s z)) (Fin.ext (by simp [hm]))) ?_
  refine View.allAt_cons_unit _ _ _ _ _ (slice_tile X _ 5 (by decide) (ix3 h s k) fun s k m hm => by pointwise [k1_pay52]; exact congrArg (fun z => X (ix2 s z)) (Fin.ext (by simp [hm]))) ?_
  refine View.allAt_cons_unit _ _ _ _ _ (slice_tile X _ 4 (by decide) (ix3 h s k) fun s k m hm => by pointwise [k1_pay47]; exact congrArg (fun z => X (ix2 s z)) (Fin.ext (by simp [hm]))) ?_
  refine View.allAt_cons_unit _ _ _ _ _ (slice_tile X _ 3 (by decide) (ix3 h s k) fun s k m hm => by pointwise [k1_pay42]; exact congrArg (fun z => X (ix2 s z)) (Fin.ext (by simp [hm]))) ?_
  refine View.allAt_cons_unit _ _ _ _ _ (slice_tile X _ 2 (by decide) (ix3 h s k) fun s k m hm => by pointwise [k1_pay36]; exact congrArg (fun z => X (ix2 s z)) (Fin.ext (by simp [hm]))) ?_
  refine View.allAt_cons_unit _ _ _ _ _ (slice_tile X _ 1 (by decide) (ix3 h s k) fun s k m hm => by pointwise [k1_pay31, k1_pay30]; exact congrArg (fun z => X (ix2 s z)) (Fin.ext (by simp [hm]))) ?_
  refine View.allAt_cons_unit _ _ _ _ _ (slice_tile X _ 0 (by decide) (ix3 h s k) fun s k m hm => by pointwise [k1_pay25]; exact congrArg (fun z => X (ix2 s z)) (Fin.ext (by simp [hm]))) ?_
  exact View.allAt_nil _ _

/-- What the second call leaves of the values. -/
theorem out1_9_at (x0 x1 x2 : FVec Ideal S1x512x768 .f32) (x3 x4 x5 : FVec Ideal S768x768 .f32) (x6 : FVec Ideal S1x768 .f32) (h : Fin 12) (s : Fin 512) (k : Fin 64) :
    out1_9 (F := Ideal) x0 x1 x2 x3 x4 x5 x6 (ix3 h s k) = prow x2 x5 s (col h k) := by
  rw [← v_at x0 x1 x2 x3 x4 x5 x6]
  unfold out1_9
  refine View.canon_eq_of_allAt _ _ _ (cover1_9 _ _ _ _ _ _ _ _ _ _ _ _ (ix3 h s k)) ?_
  generalize k1_pay94 (F := Ideal) x0 x1 x2 x3 x4 x5 x6 = X
  refine View.allAt_cons_unit _ _ _ _ _ (slice_tile X _ 11 (by decide) (ix3 h s k) fun s k m hm => by pointwise [k1_pay87]; exact congrArg (fun z => X (ix2 s z)) (Fin.ext (by simp [hm]))) ?_
  refine View.allAt_cons_unit _ _ _ _ _ (slice_tile X _ 10 (by decide) (ix3 h s k) fun s k m hm => by pointwise [k1_pay81]; exact congrArg (fun z => X (ix2 s z)) (Fin.ext (by simp [hm]))) ?_
  refine View.allAt_cons_unit _ _ _ _ _ (slice_tile X _ 9 (by decide) (ix3 h s k) fun s k m hm => by pointwise [k1_pay76, k1_pay75]; exact congrArg (fun z => X (ix2 s z)) (Fin.ext (by simp [hm]))) ?_
  refine View.allAt_cons_unit _ _ _ _ _ (slice_tile X _ 8 (by decide) (ix3 h s k) fun s k m hm => by pointwise [k1_pay70]; exact congrArg (fun z => X (ix2 s z)) (Fin.ext (by simp [hm]))) ?_
  refine View.allAt_cons_unit _ _ _ _ _ (slice_tile X _ 7 (by decide) (ix3 h s k) fun s k m hm => by pointwise [k1_pay64]; exact congrArg (fun z => X (ix2 s z)) (Fin.ext (by simp [hm]))) ?_
  refine View.allAt_cons_unit _ _ _ _ _ (slice_tile X _ 6 (by decide) (ix3 h s k) fun s k m hm => by pointwise [k1_pay58]; exact congrArg (fun z => X (ix2 s z)) (Fin.ext (by simp [hm]))) ?_
  refine View.allAt_cons_unit _ _ _ _ _ (slice_tile X _ 5 (by decide) (ix3 h s k) fun s k m hm => by pointwise [k1_pay53]; exact congrArg (fun z => X (ix2 s z)) (Fin.ext (by simp [hm]))) ?_
  refine View.allAt_cons_unit _ _ _ _ _ (slice_tile X _ 4 (by decide) (ix3 h s k) fun s k m hm => by pointwise [k1_pay48]; exact congrArg (fun z => X (ix2 s z)) (Fin.ext (by simp [hm]))) ?_
  refine View.allAt_cons_unit _ _ _ _ _ (slice_tile X _ 3 (by decide) (ix3 h s k) fun s k m hm => by pointwise [k1_pay43]; exact congrArg (fun z => X (ix2 s z)) (Fin.ext (by simp [hm]))) ?_
  refine View.allAt_cons_unit _ _ _ _ _ (slice_tile X _ 2 (by decide) (ix3 h s k) fun s k m hm => by pointwise [k1_pay37]; exact congrArg (fun z => X (ix2 s z)) (Fin.ext (by simp [hm]))) ?_
  refine View.allAt_cons_unit _ _ _ _ _ (slice_tile X _ 1 (by decide) (ix3 h s k) fun s k m hm => by pointwise [k1_pay32]; exact congrArg (fun z => X (ix2 s z)) (Fin.ext (by simp [hm]))) ?_
  refine View.allAt_cons_unit _ _ _ _ _ (slice_tile X _ 0 (by decide) (ix3 h s k) fun s k m hm => by pointwise [k1_pay26]; exact congrArg (fun z => X (ix2 s z)) (Fin.ext (by simp [hm]))) ?_
  exact View.allAt_nil _ _

/-- What the second call leaves of the queries' signatures. -/
theorem out1_10_at (x0 x1 x2 : FVec Ideal S1x512x768 .f32) (x3 x4 x5 : FVec Ideal S768x768 .f32) (x6 : FVec Ideal S1x768 .f32) (h : Fin 12) (s : Fin 512) (k : Fin 128) :
    out1_10 (F := Ideal) x0 x1 x2 x3 x4 x5 x6 (ix3 h s k) = sigq (hrow x0 x3 s h) (lrow x6 h) k := by
  have key : out1_10 (F := Ideal) x0 x1 x2 x3 x4 x5 x6 (ix3 h s k) = if k.1 < 64 then k1_pay100 (F := Ideal) x0 x1 x2 x3 x4 x5 x6 (ix2 s (col h ⟨k.1 % 64, by omega⟩)) else k1_pay103 (F := Ideal) x0 x1 x2 x3 x4 x5 x6 (ix2 s (col h ⟨k.1 % 64, by omega⟩)) := by
    unfold out1_10
    refine View.canon_eq_of_allAt _ _ _ (cover1_10 _ _ _ _ _ _ _ _ _ _ _ _ (ix3 h s k)) ?_
    unfold k1_pay103
    generalize k1_pay100 (F := Ideal) x0 x1 x2 x3 x4 x5 x6 = A
    generalize k1_pay102 (F := Ideal) x0 x1 x2 x3 x4 x5 x6 = B
    refine View.allAt_cons_unit _ _ _ _ _ (pair_tile A _ _ 11 (by decide) (ix3 h s k) fun s k m hm => by pointwise [k1_pay88]; exact pair_close A (k1_pay22 B) s k m _ _ (fun h => Fin.ext (by simp only [hm]; omega)) (fun h => Fin.ext (by simp only [hm]; omega))) ?_
    refine View.allAt_cons_unit _ _ _ _ _ (pair_tile A _ _ 10 (by decide) (ix3 h s k) fun s k m hm => by pointwise [k1_pay82]; exact pair_close A (k1_pay22 B) s k m _ _ (fun h => Fin.ext (by simp only [hm]; omega)) (fun h => Fin.ext (by simp only [hm]; omega))) ?_
    refine View.allAt_cons_unit _ _ _ _ _ (pair_tile A _ _ 9 (by decide) (ix3 h s k) fun s k m hm => by pointwise [k1_pay77]; exact pair_close A (k1_pay22 B) s k m _ _ (fun h => Fin.ext (by simp only [hm]; omega)) (fun h => Fin.ext (by simp only [hm]; omega))) ?_
    refine View.allAt_cons_unit _ _ _ _ _ (pair_tile A _ _ 8 (by decide) (ix3 h s k) fun s k m hm => by pointwise [k1_pay71]; exact pair_close A (k1_pay22 B) s k m _ _ (fun h => Fin.ext (by simp only [hm]; omega)) (fun h => Fin.ext (by simp only [hm]; omega))) ?_
    refine View.allAt_cons_unit _ _ _ _ _ (pair_tile A _ _ 7 (by decide) (ix3 h s k) fun s k m hm => by pointwise [k1_pay65]; exact pair_close A (k1_pay22 B) s k m _ _ (fun h => Fin.ext (by simp only [hm]; omega)) (fun h => Fin.ext (by simp only [hm]; omega))) ?_
    refine View.allAt_cons_unit _ _ _ _ _ (pair_tile A _ _ 6 (by decide) (ix3 h s k) fun s k m hm => by pointwise [k1_pay60, k1_pay59]; exact pair_close A (k1_pay22 B) s k m _ _ (fun h => Fin.ext (by simp only [hm]; omega)) (fun h => Fin.ext (by simp only [hm]; omega))) ?_
    refine View.allAt_cons_unit _ _ _ _ _ (pair_tile A _ _ 5 (by decide) (ix3 h s k) fun s k m hm => by pointwise [k1_pay54]; exact pair_close A (k1_pay22 B) s k m _ _ (fun h => Fin.ext (by simp only [hm]; omega)) (fun h => Fin.ext (by simp only [hm]; omega))) ?_
    refine View.allAt_cons_unit _ _ _ _ _ (pair_tile A _ _ 4 (by decide) (ix3 h s k) fun s k m hm => by pointwise [k1_pay49]; exact pair_close A (k1_pay22 B) s k m _ _ (fun h => Fin.ext (by simp only [hm]; omega)) (fun h => Fin.ext (by simp only [hm]; omega))) ?_
    refine View.allAt_cons_unit _ _ _ _ _ (pair_tile A _ _ 3 (by decide) (ix3 h s k) fun s k m hm => by pointwise [k1_pay44]; exact pair_close A (k1_pay22 B) s k m _ _ (fun h => Fin.ext (by simp only [hm]; omega)) (fun h => Fin.ext (by simp only [hm]; omega))) ?_
    refine View.allAt_cons_unit _ _ _ _ _ (pair_tile A _ _ 2 (by decide) (ix3 h s k) fun s k m hm => by pointwise [k1_pay39, k1_pay38]; exact pair_close A (k1_pay22 B) s k m _ _ (fun h => Fin.ext (by simp only [hm]; omega)) (fun h => Fin.ext (by simp only [hm]; omega))) ?_
    refine View.allAt_cons_unit _ _ _ _ _ (pair_tile A _ _ 1 (by decide) (ix3 h s k) fun s k m hm => by pointwise [k1_pay33]; exact pair_close A (k1_pay22 B) s k m _ _ (fun h => Fin.ext (by simp only [hm]; omega)) (fun h => Fin.ext (by simp only [hm]; omega))) ?_
    refine View.allAt_cons_unit _ _ _ _ _ (pair_tile A _ _ 0 (by decide) (ix3 h s k) fun s k m hm => by pointwise [k1_pay27]; exact pair_close A (k1_pay22 B) s k m _ _ (fun h => Fin.ext (by simp only [hm]; omega)) (fun h => Fin.ext (by simp only [hm]; omega))) ?_
    exact View.allAt_nil _ _
  rw [key]
  have hm : (64 * h.1 + k.1 % 64) / 64 = h.1 := by omega
  have hr : (64 * h.1 + k.1 % 64) % 64 = k.1 % 64 := by omega
  rw [qsg_at, qone_at _ _ _ _ _ _ _ _ h _ hm]
  simp only [hr, sigq]

/-- What the second call leaves of the keys' signatures. -/
theorem out1_11_at (x0 x1 x2 : FVec Ideal S1x512x768 .f32) (x3 x4 x5 : FVec Ideal S768x768 .f32) (x6 : FVec Ideal S1x768 .f32) (h : Fin 12) (s : Fin 512) (k : Fin 128) :
    out1_11 (F := Ideal) x0 x1 x2 x3 x4 x5 x6 (ix3 h s k) = sigk (hrow x0 x3 s h) (hrow x1 x4 s h) (lrow x6 h) k := by
  have key : out1_11 (F := Ideal) x0 x1 x2 x3 x4 x5 x6 (ix3 h s k) = if k.1 < 64 then k1_pay101 (F := Ideal) x0 x1 x2 x3 x4 x5 x6 (ix2 s (col h ⟨k.1 % 64, by omega⟩)) else k1_pay104 (F := Ideal) x0 x1 x2 x3 x4 x5 x6 (ix2 s (col h ⟨k.1 % 64, by omega⟩)) := by
    unfold out1_11
    refine View.canon_eq_of_allAt _ _ _ (cover1_11 _ _ _ _ _ _ _ _ _ _ _ _ (ix3 h s k)) ?_
    unfold k1_pay104
    generalize k1_pay101 (F := Ideal) x0 x1 x2 x3 x4 x5 x6 = A
    generalize k1_pay98 (F := Ideal) x0 x1 x2 x3 x4 x5 x6 = B1
    generalize k1_pay99 (F := Ideal) x0 x1 x2 x3 x4 x5 x6 = B2
    refine View.allAt_cons_unit _ _ _ _ _ (pair_tile A _ _ 11 (by decide) (ix3 h s k) fun s k m hm => by pointwise [k1_pay1, k1_pay89]; exact pair_close A (k1_pay23 (F := Ideal) B1 B2) s k m _ _ (fun h => Fin.ext (by simp only [hm]; omega)) (fun h => Fin.ext (by simp only [hm]; omega))) ?_
    refine View.allAt_cons_unit _ _ _ _ _ (pair_tile A _ _ 10 (by decide) (ix3 h s k) fun s k m hm => by pointwise [k1_pay84, k1_pay83]; exact pair_close A (k1_pay23 (F := Ideal) B1 B2) s k m _ _ (fun h => Fin.ext (by simp only [hm]; omega)) (fun h => Fin.ext (by simp only [hm]; omega))) ?_
    refine View.allAt_cons_unit _ _ _ _ _ (pair_tile A _ _ 9 (by decide) (ix3 h s k) fun s k m hm => by pointwise [k1_pay78]; exact pair_close A (k1_pay23 (F := Ideal) B1 B2) s k m _ _ (fun h => Fin.ext (by simp only [hm]; omega)) (fun h => Fin.ext (by simp only [hm]; omega))) ?_
    refine View.allAt_cons_unit _ _ _ _ _ (pair_tile A _ _ 8 (by decide) (ix3 h s k) fun s k m hm => by pointwise [k1_pay72]; exact pair_close A (k1_pay23 (F := Ideal) B1 B2) s k m _ _ (fun h => Fin.ext (by simp only [hm]; omega)) (fun h => Fin.ext (by simp only [hm]; omega))) ?_
    refine View.allAt_cons_unit _ _ _ _ _ (pair_tile A _ _ 7 (by decide) (ix3 h s k) fun s k m hm => by pointwise [k1_pay66]; exact pair_close A (k1_pay23 (F := Ideal) B1 B2) s k m _ _ (fun h => Fin.ext (by simp only [hm]; omega)) (fun h => Fin.ext (by simp only [hm]; omega))) ?_
    refine View.allAt_cons_unit _ _ _ _ _ (pair_tile A _ _ 6 (by decide) (ix3 h s k) fun s k m hm => by pointwise [k1_pay61]; exact pair_close A (k1_pay23 (F := Ideal) B1 B2) s k m _ _ (fun h => Fin.ext (by simp only [hm]; omega)) (fun h => Fin.ext (by simp only [hm]; omega))) ?_
    refine View.allAt_cons_unit _ _ _ _ _ (pair_tile A _ _ 5 (by decide) (ix3 h s k) fun s k m hm => by pointwise [k1_pay55]; exact pair_close A (k1_pay23 (F := Ideal) B1 B2) s k m _ _ (fun h => Fin.ext (by simp only [hm]; omega)) (fun h => Fin.ext (by simp only [hm]; omega))) ?_
    refine View.allAt_cons_unit _ _ _ _ _ (pair_tile A _ _ 4 (by decide) (ix3 h s k) fun s k m hm => by pointwise [k1_pay50]; exact pair_close A (k1_pay23 (F := Ideal) B1 B2) s k m _ _ (fun h => Fin.ext (by simp only [hm]; omega)) (fun h => Fin.ext (by simp only [hm]; omega))) ?_
    refine View.allAt_cons_unit _ _ _ _ _ (pair_tile A _ _ 3 (by decide) (ix3 h s k) fun s k m hm => by pointwise [k1_pay45]; exact pair_close A (k1_pay23 (F := Ideal) B1 B2) s k m _ _ (fun h => Fin.ext (by simp only [hm]; omega)) (fun h => Fin.ext (by simp only [hm]; omega))) ?_
    refine View.allAt_cons_unit _ _ _ _ _ (pair_tile A _ _ 2 (by decide) (ix3 h s k) fun s k m hm => by pointwise [k1_pay40]; exact pair_close A (k1_pay23 (F := Ideal) B1 B2) s k m _ _ (fun h => Fin.ext (by simp only [hm]; omega)) (fun h => Fin.ext (by simp only [hm]; omega))) ?_
    refine View.allAt_cons_unit _ _ _ _ _ (pair_tile A _ _ 1 (by decide) (ix3 h s k) fun s k m hm => by pointwise [k1_pay34]; exact pair_close A (k1_pay23 (F := Ideal) B1 B2) s k m _ _ (fun h => Fin.ext (by simp only [hm]; omega)) (fun h => Fin.ext (by simp only [hm]; omega))) ?_
    refine View.allAt_cons_unit _ _ _ _ _ (pair_tile A _ _ 0 (by decide) (ix3 h s k) fun s k m hm => by pointwise [k1_pay28]; exact pair_close A (k1_pay23 (F := Ideal) B1 B2) s k m _ _ (fun h => Fin.ext (by simp only [hm]; omega)) (fun h => Fin.ext (by simp only [hm]; omega))) ?_
    exact View.allAt_nil _ _
  rw [key]
  have hm : (64 * h.1 + k.1 % 64) / 64 = h.1 := by omega
  have hr : (64 * h.1 + k.1 % 64) % 64 = k.1 % 64 := by omega
  rw [ksg_at _ _ _ _ _ _ _ _ h _ hm, kone_at _ _ _ _ _ _ _ _ h _ hm]
  simp only [hr, sigk]

end Cert.KernelIdeal.Hand
-- ==== Proof.ProjArr.lean ====
/- The second call's five results after the run, as functions of the arrays it reads. -/
module

public import proofs.«01_k».proof.Proof.ProjValue

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Rows

/-- A three-axis index is its coordinates. -/
theorem ex3 {a b c : ℕ} (y : (⟨3, ![a, b, c]⟩ : Shape).Idx) : ∃ (i : Fin a) (j : Fin b) (k : Fin c), y = ix3 i j k :=
  ⟨y 0, y 1, y 2, eq_ix3 y⟩

/-- A two-axis index is its coordinates. -/
theorem ex2 {a b : ℕ} (y : (⟨2, ![a, b]⟩ : Shape).Idx) : ∃ (i : Fin a) (j : Fin b), y = ix2 i j :=
  ⟨y 0, y 1, eq_ix2 y⟩

/-- Row `s` of the whole input against a wide matrix, at a head. -/
def wrow (x : FVec Ideal S1x2048x768 .f32) (w : FVec Ideal S768x768 .f32) (h : Fin 12) (s : Fin 2048) : Fin 64 → EReal :=
  fun d => ∑ e : Fin 768, x (ix3 0 s e) * w (ix2 e (col h d))

/-- Row `s` of the `t`-th block of 512. -/
abbrev rowOf (t : Fin cfg1.N) (s : Fin 512) : Fin 2048 := ⟨512 * t.1 + s.1, by have := t.isLt; have h : cfg1.N = 4 := N_1; omega⟩

/-- The index map of the second call's window 0. -/
theorem idx1_0 : ∀ t : Fin cfg1.N, cc1_transform_0 (grid1.coords t) = ![0, t.1, 0] := by decide +kernel
/-- The index map of the second call's window 1. -/
theorem idx1_1 : ∀ t : Fin cfg1.N, cc1_transform_1 (grid1.coords t) = ![0, t.1, 0] := by decide +kernel
/-- The index map of the second call's window 2. -/
theorem idx1_2 : ∀ t : Fin cfg1.N, cc1_transform_2 (grid1.coords t) = ![0, t.1, 0] := by decide +kernel
/-- The index map of the second call's window 7. -/
theorem idx1_7 : ∀ t : Fin cfg1.N, cc1_transform_7 (grid1.coords t) = ![0, t.1, 0] := by decide +kernel
/-- The index map of the second call's window 8. -/
theorem idx1_8 : ∀ t : Fin cfg1.N, cc1_transform_8 (grid1.coords t) = ![0, t.1, 0] := by decide +kernel
/-- The index map of the second call's window 9. -/
theorem idx1_9 : ∀ t : Fin cfg1.N, cc1_transform_9 (grid1.coords t) = ![0, t.1, 0] := by decide +kernel
/-- The index map of the second call's window 10. -/
theorem idx1_10 : ∀ t : Fin cfg1.N, cc1_transform_10 (grid1.coords t) = ![0, t.1, 0] := by decide +kernel
/-- The index map of the second call's window 11. -/
theorem idx1_11 : ∀ t : Fin cfg1.N, cc1_transform_11 (grid1.coords t) = ![0, t.1, 0] := by decide +kernel
/-- The index map of the second call's window 3. -/
theorem idx1_3 : ∀ t : Fin cfg1.N, cc1_transform_3 (grid1.coords t) = ![0, 0] := by decide +kernel
/-- The index map of the second call's window 4. -/
theorem idx1_4 : ∀ t : Fin cfg1.N, cc1_transform_4 (grid1.coords t) = ![0, 0] := by decide +kernel
/-- The index map of the second call's window 5. -/
theorem idx1_5 : ∀ t : Fin cfg1.N, cc1_transform_5 (grid1.coords t) = ![0, 0] := by decide +kernel
/-- The index map of the second call's window 6. -/
theorem idx1_6 : ∀ t : Fin cfg1.N, cc1_transform_6 (grid1.coords t) = ![0, 0] := by decide +kernel

section
variable (V : (c : Dev nD) → (b : Ref sig .tc) → Buf (Elt Ideal) ((c : Thread nD τ).loc b)) (c : Dev nD) (t : Fin cfg1.N)

set_option maxHeartbeats 4000000 in
/-- The wide matrices and the directions are read whole. -/
theorem iblk1_whole : iblk1 V c 3 t = V c main_v0_0 ∧ iblk1 V c 4 t = V c main_v0_1 ∧ iblk1 V c 5 t = V c main_v0_2 ∧ iblk1 V c 6 t = V c main_v1 := by
  refine ⟨?_, ?_, ?_, ?_⟩ <;>
    (funext y; blk_ext [iblk1] <;> simp [win1_3, win1_4, win1_5, win1_6, idx1_3, idx1_4, idx1_5, idx1_6, Pipeline.Window.index])

set_option maxHeartbeats 4000000 in
/-- A block of the queries at an index. -/
theorem iblk1_0_at (s : Fin 512) (d : Fin 768) : iblk1 V c 0 t (ix3 0 s d) = V c main_arg0 (ix3 0 (rowOf t s) d) := by
  blk_ext [iblk1] <;> simp [win1_0, idx1_0, Pipeline.Window.index, Nat.mul_comm]

set_option maxHeartbeats 4000000 in
/-- A block of the keys at an index. -/
theorem iblk1_1_at (s : Fin 512) (d : Fin 768) : iblk1 V c 1 t (ix3 0 s d) = V c main_arg1 (ix3 0 (rowOf t s) d) := by
  blk_ext [iblk1] <;> simp [win1_1, idx1_1, Pipeline.Window.index, Nat.mul_comm]

set_option maxHeartbeats 4000000 in
/-- A block of the values at an index. -/
theorem iblk1_2_at (s : Fin 512) (d : Fin 768) : iblk1 V c 2 t (ix3 0 s d) = V c main_arg2 (ix3 0 (rowOf t s) d) := by
  blk_ext [iblk1] <;> simp [win1_2, idx1_2, Pipeline.Window.index, Nat.mul_comm]

/-- A block's row against the queries' matrix is the whole input's row. -/
theorem hrow_q (s : Fin 512) (h : Fin 12) : hrow (iblk1 V c 0 t) (iblk1 V c 3 t) s h = wrow (V c main_arg0) (V c main_v0_0) h (rowOf t s) := by
  rw [(iblk1_whole V c t).1]
  exact funext fun d => Finset.sum_congr rfl fun e _ => congrArg (· * _) (iblk1_0_at V c t s e)

/-- A block's row against the keys' matrix is the whole input's row. -/
theorem hrow_k (s : Fin 512) (h : Fin 12) : hrow (iblk1 V c 1 t) (iblk1 V c 4 t) s h = wrow (V c main_arg1) (V c main_v0_1) h (rowOf t s) := by
  rw [(iblk1_whole V c t).2.1]
  exact funext fun d => Finset.sum_congr rfl fun e _ => congrArg (· * _) (iblk1_1_at V c t s e)

/-- A block's row against the values' matrix is the whole input's row. -/
theorem hrow_v (s : Fin 512) (h : Fin 12) : hrow (iblk1 V c 2 t) (iblk1 V c 5 t) s h = wrow (V c main_arg2) (V c main_v0_2) h (rowOf t s) := by
  rw [(iblk1_whole V c t).2.2.1]
  exact funext fun d => Finset.sum_congr rfl fun e _ => congrArg (· * _) (iblk1_2_at V c t s e)

/-- Where an index of a block of the first result lies in the result. -/
theorem emb1_7 (h : Fin 12) (s : Fin 512) (k : Fin 64) : (win1_7.blk t).view.emb (ix3 h s k) = (ix3 h (rowOf t s) k : S12x2048x64.Idx) := by
  funext a
  refine Fin.ext ?_
  blk_simp
  fin_cases a <;> simp [win1_7, idx1_7, Pipeline.Window.index, Nat.mul_comm]

/-- The same of the second result. -/
theorem emb1_8 (h : Fin 12) (s : Fin 512) (k : Fin 64) : (win1_8.blk t).view.emb (ix3 h s k) = (ix3 h (rowOf t s) k : S12x2048x64.Idx) := by
  funext a
  refine Fin.ext ?_
  blk_simp
  fin_cases a <;> simp [win1_8, idx1_8, Pipeline.Window.index, Nat.mul_comm]

/-- The same of the third result. -/
theorem emb1_9 (h : Fin 12) (s : Fin 512) (k : Fin 64) : (win1_9.blk t).view.emb (ix3 h s k) = (ix3 h (rowOf t s) k : S12x2048x64.Idx) := by
  funext a
  refine Fin.ext ?_
  blk_simp
  fin_cases a <;> simp [win1_9, idx1_9, Pipeline.Window.index, Nat.mul_comm]

/-- The same of the fourth result. -/
theorem emb1_10 (h : Fin 12) (s : Fin 512) (k : Fin 128) : (win1_10.blk t).view.emb (ix3 h s k) = (ix3 h (rowOf t s) k : S12x2048x128.Idx) := by
  funext a
  refine Fin.ext ?_
  blk_simp
  fin_cases a <;> simp [win1_10, idx1_10, Pipeline.Window.index, Nat.mul_comm]

/-- The same of the fifth result. -/
theorem emb1_11 (h : Fin 12) (s : Fin 512) (k : Fin 128) : (win1_11.blk t).view.emb (ix3 h s k) = (ix3 h (rowOf t s) k : S12x2048x128.Idx) := by
  funext a
  refine Fin.ext ?_
  blk_simp
  fin_cases a <;> simp [win1_11, idx1_11, Pipeline.Window.index, Nat.mul_comm]
end

section
variable (V : (c : Dev nD) → (b : Ref sig .tc) → Buf (Elt Ideal) ((c : Thread nD τ).loc b)) (c : Dev nD)

/-- The projected queries after the run. -/
theorem arr1_7 : (dat1 V c).arrAt 7 cfg1.N = fun y : S12x2048x64.Idx => wrow (V c main_arg0) (V c main_v0_0) (y 0) (y 1) (y 2) := by
  refine (dat1 V c).arrAt_eq_of_covers 7 _ (by decide +kernel) fun t hf y => ?_
  obtain ⟨h, s, k, rfl⟩ := ex3 (a := 12) (b := 512) (c := 64) y
  blk_simp; rw [after1_7, out1_7_at, emb1_7]
  exact congrFun (hrow_q V c t s h) k

/-- The projected keys after the run. -/
theorem arr1_8 : (dat1 V c).arrAt 8 cfg1.N = fun y : S12x2048x64.Idx => wrow (V c main_arg1) (V c main_v0_1) (y 0) (y 1) (y 2) := by
  refine (dat1 V c).arrAt_eq_of_covers 8 _ (by decide +kernel) fun t hf y => ?_
  obtain ⟨h, s, k, rfl⟩ := ex3 (a := 12) (b := 512) (c := 64) y
  blk_simp; rw [after1_8, out1_8_at, emb1_8]
  exact congrFun (hrow_k V c t s h) k

/-- The projected values after the run. -/
theorem arr1_9 : (dat1 V c).arrAt 9 cfg1.N = fun y : S12x2048x64.Idx => wrow (V c main_arg2) (V c main_v0_2) (y 0) (y 1) (y 2) := by
  refine (dat1 V c).arrAt_eq_of_covers 9 _ (by decide +kernel) fun t hf y => ?_
  obtain ⟨h, s, k, rfl⟩ := ex3 (a := 12) (b := 512) (c := 64) y
  blk_simp; rw [after1_9, out1_9_at, emb1_9]
  exact congrFun (hrow_v V c t s h) k

/-- The queries' signatures after the run. -/
theorem arr1_10 : (dat1 V c).arrAt 10 cfg1.N = fun y : S12x2048x128.Idx => sigq (wrow (V c main_arg0) (V c main_v0_0) (y 0) (y 1)) (lrow (V c main_v1) (y 0)) (y 2) := by
  refine (dat1 V c).arrAt_eq_of_covers 10 _ (by decide +kernel) fun t hf y => ?_
  obtain ⟨h, s, k, rfl⟩ := ex3 (a := 12) (b := 512) (c := 128) y
  blk_simp; rw [after1_10, out1_10_at, emb1_10, hrow_q, (iblk1_whole V c t).2.2.2]
  rfl

/-- The keys' signatures after the run. -/
theorem arr1_11 : (dat1 V c).arrAt 11 cfg1.N = fun y : S12x2048x128.Idx =>
    sigk (wrow (V c main_arg0) (V c main_v0_0) (y 0) (y 1)) (wrow (V c main_arg1) (V c main_v0_1) (y 0) (y 1)) (lrow (V c main_v1) (y 0)) (y 2) := by
  refine (dat1 V c).arrAt_eq_of_covers 11 _ (by decide +kernel) fun t hf y => ?_
  obtain ⟨h, s, k, rfl⟩ := ex3 (a := 12) (b := 512) (c := 128) y
  blk_simp; rw [after1_11, out1_11_at, emb1_11, hrow_q, hrow_k, (iblk1_whole V c t).2.2.2]
  rfl
end

end Cert.KernelIdeal.Hand
-- ==== Proof.SoftRow.lean ====
/- A row of the masked attention, over a candidate test, the scores and the values. -/
module

public import proofs.«01_k».proof.Proof.Model
public import proofs.«01_k».proof.Proof.Consts
public import Idealize.ShloMosaic.Lib.Pointwise

@[expose] public section

set_option maxRecDepth 16384

noncomputable section

namespace Cert.Rows

open Idealize.ShloMosaic
open scoped Classical

/-- One number where a proposition holds, another elsewhere. -/
def pick (p : Prop) (a b : EReal) : EReal := @ite _ p (Classical.propDecidable p) a b

/-- `pick` at any way of deciding. -/
theorem pick_eq (p : Prop) [Decidable p] (a b : EReal) : pick p a b = if p then a else b := by
  unfold pick
  by_cases h : p
  · rw [if_pos h, if_pos h]
  · rw [if_neg h, if_neg h]

/-- `pick` at an equivalent proposition. -/
theorem pick_congr {P Q : Prop} (h : P ↔ Q) (a b : EReal) : pick P a b = pick Q a b := by rw [propext h]

/-- A scaled product, bounded below. -/
def scaled (x : EReal) : EReal := max (x * Ideal.ofBits FTy.f32 1040187392#32) (Ideal.ofBits FTy.f32 3323740160#32)

/-- The exponential at a position of a row, zero off the mask `C` and the bound. -/
def expRow (C : Fin 2048 → Prop) (s : Fin 2048 → EReal) (j : Fin 2048) : EReal :=
  pick (C j ∧ Ideal.ofBits FTy.f32 3435052064#32 < s j)
    (Idealize.ShloMosaic.Ideal.exp (scaled (s j) - Finset.univ.fold max (⊥ : EReal) fun j =>
      pick (C j ∧ Ideal.ofBits FTy.f32 3435052064#32 < s j) (scaled (s j)) (Ideal.ofBits FTy.f32 4048155338#32))) 0

/-- A row of the masked attention: over a candidate test, the scores and the values. -/
def attnRow (C : Fin 2048 → Prop) (s v : Fin 2048 → EReal) : EReal :=
  ∑ j, Idealize.ShloMosaic.Ideal.div (expRow C s j) (max (∑ j, expRow C s j) (Ideal.ofBits FTy.f32 814313567#32)) * v j

/-- A row without candidates is zero. -/
theorem attnRow_none (C : Fin 2048 → Prop) (s v : Fin 2048 → EReal) (h : ∀ j, ¬ C j) : attnRow C s v = 0 := by
  unfold attnRow
  refine Finset.sum_eq_zero fun j _ => ?_
  have hz : ∀ j, expRow C s j = 0 := fun j => by unfold expRow; rw [pick_eq, if_neg fun hc => h j hc.1]
  simp only [hz, Finset.sum_const_zero]
  have he := c_eps
  have h0 : Idealize.ShloMosaic.Ideal.div 0 (max 0 (Ideal.ofBits FTy.f32 814313567#32)) = 0 := by
    rw [max_eq_right he.le]
    unfold Idealize.ShloMosaic.Ideal.div
    rw [if_neg he.ne']
    exact zero_mul _
  rw [h0, zero_mul]

end Cert.Rows
-- ==== Proof.AttnValue.lean ====
/- The third call's result: the masked attention of a head, at a block and after the run. -/
module

public import proofs.«01_k».proof.Proof.KernelIdealAttn
public import proofs.«01_k».proof.Proof.SoftRow
public import Idealize.ShloMosaic.Lib.Pointwise
public import Idealize.ShloMosaic.Lib.IntMxu
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Rows
open scoped Classical

/-- The product of a query's and a key's signature. -/
def score (x0 x1 : IVec S1x2048x128 8) (i j : Fin 2048) : ℤ := ∑ d : Fin 128, (x0 (ix3 0 i d)).toInt * (x1 (ix3 0 j d)).toInt

/-- The product of a query and a key. -/
def simOf (x2 x3 : FVec Ideal S1x2048x64 .f32) (i j : Fin 2048) : EReal := ∑ d : Fin 64, x2 (ix3 0 i d) * x3 (ix3 0 j d)

/-- The score the kernel multiplies out is the signatures' product. -/
theorem score_at (x0 x1 : IVec S1x2048x128 8) (i j : Fin 2048) : (k2_pay1 (F := Ideal) x0 x1 (ix2 i j)).toInt = score x0 x1 i j := by
  unfold k2_pay1
  dsimp only
  rw [matmulI8_toInt _ _ _ _ _ _ rfl ((absDotI8_le_numel _ _ _ _).trans (by decide))]
  unfold dotI8 score
  refine Fintype.sum_equiv (ValueIdx.contrEquiv1 dot_S2048x128_S128x2048_S2048x2048_1_0_0_1_n_n 128 rfl rfl) _ _ fun k => ?_
  have e1 : dot_S2048x128_S128x2048_S2048x2048_1_0_0_1_n_n.lhsIdx (ix2 i j) k = ix2 i (ValueIdx.contrEquiv1 dot_S2048x128_S128x2048_S2048x2048_1_0_0_1_n_n 128 rfl rfl k) := by
    funext a; fin_cases a <;> rfl
  have e2 : dot_S2048x128_S128x2048_S2048x2048_1_0_0_1_n_n.rhsIdx (ix2 i j) k = ix2 (ValueIdx.contrEquiv1 dot_S2048x128_S128x2048_S2048x2048_1_0_0_1_n_n 128 rfl rfl k) j := by
    funext a; fin_cases a <;> rfl
  rw [e1, e2]
  pointwise

/-- The mask's select: on where the score is above 64 and the product above the bound. -/
theorem mask_select (w : BitVec 32) (p : Prop) [Decidable p] (a b : EReal) :
    Scalar.select (IntOp.andi (IntOp.cmpi CmpIPredicate.sgt w 64#32) (BitVec.ofBool (decide p))) a b = pick (64 < w.toInt ∧ p) a b := by
  have h : (64#32).slt w = decide (64 < w.toInt) := by rw [BitVec.slt_eq_decide]; rfl
  unfold IntOp.cmpi
  dsimp only
  rw [h, pick_eq]
  by_cases h1 : 64 < w.toInt <;> by_cases h2 : p <;> simp [h1, h2, Scalar.select, IntOp.andi]

/-- What the attention payload holds at an index. -/
theorem k2_pay4_at (w : IVec S2048x2048 32) (x2 x3 x4 : FVec Ideal S1x2048x64 .f32) (i : Fin 2048) (k : Fin 64) :
    k2_pay4 (F := Ideal) w x2 x3 x4 (ix3 0 i k) = attnRow (fun j => 64 < (w (ix2 i j)).toInt) (simOf x2 x3 i) (fun j => x4 (ix3 0 j k)) := by
  pointwise [k2_pay4]
  simp only [mask_select, c_bot]
  rfl

/-- A maximum of signed words bounds each of them. -/
theorem le_fold_maxsi {ι : Type} (s : Finset ι) (f : ι → BitVec 32) (b : BitVec 32) {x : ι} (hx : x ∈ s) :
    (f x).toInt ≤ (s.fold IntOp.maxsi b f).toInt := by
  have hm : ∀ u v : BitVec 32, u.toInt ≤ (IntOp.maxsi u v).toInt ∧ v.toInt ≤ (IntOp.maxsi u v).toInt := fun u v => by
    unfold IntOp.maxsi
    rw [BitVec.slt_eq_decide]
    by_cases h : v.toInt < u.toInt
    · rw [if_pos (by simpa using h)]; exact ⟨le_rfl, h.le⟩
    · rw [if_neg (by simpa using h)]; exact ⟨not_lt.mp h, le_rfl⟩
  induction s using Finset.induction_on with
  | empty => exact absurd hx (Finset.notMem_empty _)
  | insert a s ha ih =>
    rw [Finset.fold_insert ha]
    rcases Finset.mem_insert.mp hx with rfl | h
    · exact (hm _ _).1
    · exact (ih h).trans (hm _ _).2

/-- Where the call skips a head, no pair scores above 64. -/
theorem above_of (x0 x1 : IVec S1x2048x128 8) (h : ¬ above (extractAt ![0, 0, 0] (k2_pay2 (F := Ideal) x0 x1) inpos_S1x1x1_p0_0_0)) (i j : Fin 2048) :
    ¬ 64 < score x0 x1 i j := by
  intro hs
  apply h
  have he : extractAt ![0, 0, 0] (k2_pay2 (F := Ideal) x0 x1) inpos_S1x1x1_p0_0_0
      = Finset.fold IntOp.maxsi (2147483648#32) (fun x : Fin 2048 × Fin 2048 => k2_pay1 (F := Ideal) x0 x1 (ix2 x.1 x.2)) Finset.univ := by
    pointwise [k2_pay2]
  have hle := le_fold_maxsi Finset.univ (fun x : Fin 2048 × Fin 2048 => k2_pay1 (F := Ideal) x0 x1 (ix2 x.1 x.2)) (2147483648#32) (Finset.mem_univ (i, j))
  rw [← he] at hle
  have h64 : 64 < (extractAt ![0, 0, 0] (k2_pay2 (F := Ideal) x0 x1) inpos_S1x1x1_p0_0_0).toInt := by
    refine lt_of_lt_of_le ?_ hle
    rw [score_at]; exact hs
  generalize extractAt ![0, 0, 0] (k2_pay2 (F := Ideal) x0 x1) inpos_S1x1x1_p0_0_0 = w at h64
  have h' : (64#32).slt w = true := by rw [BitVec.slt_eq_decide]; exact decide_eq_true h64
  unfold above Scalar.cmpi
  unfold IntOp.cmpi
  dsimp only
  rw [h']
  decide

/-- The block the call leaves for a head, at an index. -/
theorem out2_5_at (x0 x1 : IVec S1x2048x128 8) (x2 x3 x4 : FVec Ideal S1x2048x64 .f32) (i : Fin 2048) (k : Fin 64) :
    out2_5 (F := Ideal) x0 x1 x2 x3 x4 (ix3 0 i k) = attnRow (fun j => 64 < score x0 x1 i j) (simOf x2 x3 i) (fun j => x4 (ix3 0 j k)) := by
  have e0 : ∀ x : IVec S1x2048x128 8, View.ld (Val := Elt Ideal) (e' := .i8) x r2_0 = x := fun x => View.ld_unit_lit _ _ (by decide)
  have e1 : ∀ x : FVec Ideal S1x2048x64 .f32, View.ld (Val := Elt Ideal) (e' := .f32) x r2_1 = x := fun x => View.ld_unit_lit _ _ (by decide)
  have e2 : ∀ p : FVec Ideal S1x2048x64 .f32, View.canon (Val := Elt Ideal) (e := .f32) [⟨r2_1, p⟩] = p := fun p => View.canon_cons_unit_lit _ _ _ (by decide)
  rw [out2_5_eq]
  unfold outG2
  rw [e0, e0, e1, e1, e1, e2, e2]
  by_cases h : above (extractAt ![0, 0, 0] (k2_pay2 (F := Ideal) x0 x1) inpos_S1x1x1_p0_0_0)
  · rw [if_pos h]
    rw [k2_pay4_at]
    simp only [score_at]
  · rw [if_neg h, attnRow_none _ _ _ (above_of x0 x1 h i)]
    pointwise [k2_pay3]

/-- The head a grid point of the call works at. -/
abbrev headAt (t : Fin cfg2.N) : Fin 12 := ⟨t.1, by have := t.isLt; have h : cfg2.N = 12 := N_2; omega⟩

/-- The index map of the call's first window. -/
theorem idx2_0 : ∀ t : Fin cfg2.N, cc2_transform_0 (grid2.coords t) = ![t.1, 0, 0] := by decide +kernel
/-- The index map of the call's second window. -/
theorem idx2_1 : ∀ t : Fin cfg2.N, cc2_transform_1 (grid2.coords t) = ![t.1, 0, 0] := by decide +kernel
/-- The index map of the call's third window. -/
theorem idx2_2 : ∀ t : Fin cfg2.N, cc2_transform_2 (grid2.coords t) = ![t.1, 0, 0] := by decide +kernel
/-- The index map of the call's fourth window. -/
theorem idx2_3 : ∀ t : Fin cfg2.N, cc2_transform_3 (grid2.coords t) = ![t.1, 0, 0] := by decide +kernel
/-- The index map of the call's fifth window. -/
theorem idx2_4 : ∀ t : Fin cfg2.N, cc2_transform_4 (grid2.coords t) = ![t.1, 0, 0] := by decide +kernel
/-- The index map of the call's result. -/
theorem idx2_5 : ∀ t : Fin cfg2.N, cc2_transform_5 (grid2.coords t) = ![t.1, 0, 0] := by decide +kernel

section
variable (V : (c : Dev nD) → (b : Ref sig .tc) → Buf (Elt Ideal) ((c : Thread nD τ).loc b)) (c : Dev nD) (t : Fin cfg2.N)

set_option maxHeartbeats 4000000 in
/-- A head's query signatures at an index. -/
theorem iblk2_0_at (s : Fin 2048) (d : Fin 128) : iblk2 V c 0 t (ix3 0 s d) = V c main_v2_3 (ix3 (headAt t) s d) := by
  blk_ext [iblk2] <;> simp [win2_0, idx2_0, Pipeline.Window.index]

set_option maxHeartbeats 4000000 in
/-- A head's key signatures at an index. -/
theorem iblk2_1_at (s : Fin 2048) (d : Fin 128) : iblk2 V c 1 t (ix3 0 s d) = V c main_v2_4 (ix3 (headAt t) s d) := by
  blk_ext [iblk2] <;> simp [win2_1, idx2_1, Pipeline.Window.index]

set_option maxHeartbeats 4000000 in
/-- A head's queries at an index. -/
theorem iblk2_2_at (s : Fin 2048) (d : Fin 64) : iblk2 V c 2 t (ix3 0 s d) = V c main_v2_0 (ix3 (headAt t) s d) := by
  blk_ext [iblk2] <;> simp [win2_2, idx2_2, Pipeline.Window.index]

set_option maxHeartbeats 4000000 in
/-- A head's keys at an index. -/
theorem iblk2_3_at (s : Fin 2048) (d : Fin 64) : iblk2 V c 3 t (ix3 0 s d) = V c main_v2_1 (ix3 (headAt t) s d) := by
  blk_ext [iblk2] <;> simp [win2_3, idx2_3, Pipeline.Window.index]

set_option maxHeartbeats 4000000 in
/-- A head's values at an index. -/
theorem iblk2_4_at (s : Fin 2048) (d : Fin 64) : iblk2 V c 4 t (ix3 0 s d) = V c main_v2_2 (ix3 (headAt t) s d) := by
  blk_ext [iblk2] <;> simp [win2_4, idx2_4, Pipeline.Window.index]

/-- Where an index of a head's block lies in the result. -/
theorem emb2_5 (s : Fin 2048) (k : Fin 64) : (win2_5.blk t).view.emb (ix3 0 s k) = (ix3 (headAt t) s k : S12x2048x64.Idx) := by
  funext a
  refine Fin.ext ?_
  blk_simp
  fin_cases a <;> simp [win2_5, idx2_5, Pipeline.Window.index]
end

/-- The product of a query and a key of a head. -/
def prodOf (q k : FVec Ideal S12x2048x64 .f32) (h : Fin 12) (i j : Fin 2048) : EReal := ∑ x : Fin 64, q (ix3 h i x) * k (ix3 h j x)

/-- The attention's result at an index, from the whole arrays. -/
def attnAt (qs ks : IVec S12x2048x128 8) (q k v : FVec Ideal S12x2048x64 .f32) (h : Fin 12) (i : Fin 2048) (d : Fin 64) : EReal :=
  attnRow (fun j => 64 < ∑ x : Fin 128, (qs (ix3 h i x)).toInt * (ks (ix3 h j x)).toInt)
    (prodOf q k h i) (fun j => v (ix3 h j d))

set_option maxHeartbeats 1000000 in
/-- The attention's result after the run. -/
theorem arr2_5 (V : (c : Dev nD) → (b : Ref sig .tc) → Buf (Elt Ideal) ((c : Thread nD τ).loc b)) (c : Dev nD) :
    (dat2 V c).arrAt 5 cfg2.N = fun y : S12x2048x64.Idx => attnAt (V c main_v2_3) (V c main_v2_4) (V c main_v2_0) (V c main_v2_1) (V c main_v2_2) (y 0) (y 1) (y 2) := by
  refine (dat2 V c).arrAt_eq_of_covers 5 _ (by decide +kernel) fun t hf y => ?_
  obtain ⟨z, s, k, rfl⟩ : ∃ (i : Fin 1) (j : Fin 2048) (k : Fin 64), y = ix3 i j k := ⟨y 0, y 1, y 2, eq_ix3 y⟩
  obtain rfl : z = 0 := Subsingleton.elim _ _
  blk_simp; rw [after2_5, out2_5_at, emb2_5]
  have h1 : ∀ j, score (iblk2 V c 0 t) (iblk2 V c 1 t) s j
      = ∑ x : Fin 128, (V c main_v2_3 (ix3 (headAt t) s x)).toInt * (V c main_v2_4 (ix3 (headAt t) j x)).toInt := fun j =>
    Finset.sum_congr rfl fun x _ => congrArg₂ (fun a b : BitVec 8 => a.toInt * b.toInt) (iblk2_0_at V c t s x) (iblk2_1_at V c t j x)
  have h2 : simOf (iblk2 V c 2 t) (iblk2 V c 3 t) s = prodOf (V c main_v2_0) (V c main_v2_1) (headAt t) s :=
    funext fun j => Finset.sum_congr rfl fun x _ => congrArg₂ (fun a b : EReal => a * b) (iblk2_2_at V c t s x) (iblk2_3_at V c t j x)
  have h3 : (fun j => iblk2 V c 4 t (ix3 0 j k)) = fun j => V c main_v2_2 (ix3 (headAt t) j k) := funext fun j => iblk2_4_at V c t j k
  rw [h2, funext (fun j => congrArg (64 < ·) (h1 j))]
  exact congrArg (attnRow _ _) h3

end Cert.KernelIdeal.Hand
-- ==== Proof.OprojValue.lean ====
/- The fourth call's result: the heads' outputs against the last matrix, summed over the heads. -/
module

public import proofs.«01_k».proof.Proof.KernelIdealOproj
public import proofs.«01_k».proof.Proof.ProjArr

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Rows
open scoped Classical

/-- A block of a head's output against a block of the last matrix. -/
def hprod (x0 : FVec Ideal S1x1024x64 .f32) (x1 : FVec Ideal S64x768 .f32) (s : Fin 1024) (m : Fin 768) : EReal :=
  ∑ d : Fin 64, x0 (ix3 0 s d) * x1 (ix2 d m)

/-- The block without its axis of size one. -/
theorem k3_pay1_at (x0 : FVec Ideal S1x1024x64 .f32) (s : Fin 1024) (d : Fin 64) : k3_pay1 (F := Ideal) x0 (ix2 s d) = x0 (ix3 0 s d) := by
  pointwise [k3_pay1]

/-- What is added for a head. -/
theorem k3_pay4_at (x0 : FVec Ideal S1x1024x64 .f32) (a : FVec Ideal S1024x768 .f32) (x1 : FVec Ideal S64x768 .f32) (s : Fin 1024) (m : Fin 768) :
    k3_pay4 (F := Ideal) x0 a x1 (ix2 s m) = a (ix2 s m) + hprod x0 x1 s m := by
  pointwise [k3_pay4]
  exact congrArg (a (ix2 s m) + ·) (Finset.sum_congr rfl fun d _ => congrArg (· * _) (k3_pay1_at x0 s d))

/-- A maximum bounds each of its members. -/
theorem le_fold_max {ι : Type} (s : Finset ι) (f : ι → EReal) (b : EReal) {x : ι} (hx : x ∈ s) : f x ≤ s.fold max b f :=
  (Finset.le_fold_max _).mpr (.inr ⟨x, hx, le_rfl⟩)

/-- Where a head is skipped its block is zero. -/
theorem zero_of (x0 : FVec Ideal S1x1024x64 .f32) (h : ¬ nonzero ((pays3 (F := Ideal)).1 x0)) (s : Fin 1024) (d : Fin 64) : x0 (ix3 0 s d) = 0 := by
  by_contra hne
  apply h
  rw [pays3_eq]
  dsimp only
  have he : (k3_pay3 (F := Ideal) x0 : EReal) = Finset.fold max (Ideal.ofBits FTy.f32 4286578688#32)
      (fun x : Fin 1024 × Fin 64 => if k3_pay1 (F := Ideal) x0 (ix2 x.1 x.2) ≠ 0 then (1 : EReal) else 0) Finset.univ := by
    pointwise [k3_pay3]
  have h0 : (0 : EReal) < k3_pay3 (F := Ideal) x0 := by
    rw [he]
    refine lt_of_lt_of_le zero_lt_one ?_
    have := le_fold_max Finset.univ (fun x : Fin 1024 × Fin 64 => if k3_pay1 (F := Ideal) x0 (ix2 x.1 x.2) ≠ 0 then (1 : EReal) else 0)
      (Ideal.ofBits FTy.f32 4286578688#32) (Finset.mem_univ (s, d))
    dsimp only at this
    rwa [k3_pay1_at, if_pos hne] at this
  have hc : Scalar.cmpf .ogt (k3_pay3 (F := Ideal) x0) (Scalar.ofBits .f32 0x00000000#32) = 1#1 := by
    have hz : (Scalar.ofBits (F := Ideal) .f32 0x00000000#32 : EReal) = 0 := Ideal.ofBits_zero_f32
    generalize hg : k3_pay3 (F := Ideal) x0 = g at h0
    show BitVec.ofBool (decide ((Scalar.ofBits (F := Ideal) .f32 0x00000000#32 : EReal) < g)) = 1#1
    rw [hz, decide_eq_true h0]
    rfl
  rw [hc]
  unfold nonzero
  decide

/-- The zeros a first head starts from. -/
theorem k3_pay2_at (s : Fin 1024) (m : Fin 768) : (k3_pay2 (F := Ideal) (ix2 s m) : EReal) = 0 := by
  pointwise [k3_pay2]

/-- A skipped head would have added zero. -/
theorem hprod_zero (x0 : FVec Ideal S1x1024x64 .f32) (x1 : FVec Ideal S64x768 .f32) (h : ¬ nonzero ((pays3 (F := Ideal)).1 x0)) (s : Fin 1024) (m : Fin 768) :
    hprod x0 x1 s m = 0 :=
  Finset.sum_eq_zero fun d _ => by rw [zero_of x0 h s d, zero_mul]

/-- What a first head leaves. -/
theorem out3_A_at (x0 : FVec Ideal S1x1024x64 .f32) (x1 : FVec Ideal S64x768 .f32) (s : Fin 1024) (m : Fin 768) :
    out3_A (F := Ideal) x0 x1 (ix2 s m) = hprod x0 x1 s m := by
  have e0 : View.ld (Val := Elt Ideal) (e' := .f32) x0 r3_0 = x0 := View.ld_unit_lit _ _ (by decide)
  have e1 : View.ld (Val := Elt Ideal) (e' := .f32) x1 r3_1 = x1 := View.ld_unit_lit _ _ (by decide)
  have e2 : ∀ (p : FVec Ideal S1024x768 .f32) L, View.canon (Val := Elt Ideal) (e := .f32) (⟨r3_2, p⟩ :: L) = p := fun p L => View.canon_cons_unit_lit _ _ _ (by decide)
  unfold out3_A outA3
  rw [e0, e1, e2, e2]
  by_cases h : nonzero ((pays3 (F := Ideal)).1 x0)
  · rw [if_pos h, pays3_eq]
    dsimp only
    rw [k3_pay4_at, k3_pay2_at, zero_add]
  · rw [if_neg h, hprod_zero x0 x1 h, pays3_eq]
    dsimp only
    exact k3_pay2_at s m

/-- What a later head leaves. -/
theorem out3_B_at (x0 : FVec Ideal S1x1024x64 .f32) (x1 : FVec Ideal S64x768 .f32) (xo : FVec Ideal S1024x768 .f32) (s : Fin 1024) (m : Fin 768) :
    out3_B (F := Ideal) x0 x1 xo (ix2 s m) = xo (ix2 s m) + hprod x0 x1 s m := by
  have e0 : View.ld (Val := Elt Ideal) (e' := .f32) x0 r3_0 = x0 := View.ld_unit_lit _ _ (by decide)
  have e1 : View.ld (Val := Elt Ideal) (e' := .f32) x1 r3_1 = x1 := View.ld_unit_lit _ _ (by decide)
  have e3 : View.ld (Val := Elt Ideal) (e' := .f32) xo r3_2 = xo := View.ld_unit_lit _ _ (by decide)
  have e2 : ∀ (p : FVec Ideal S1024x768 .f32) L, View.canon (Val := Elt Ideal) (e := .f32) (⟨r3_2, p⟩ :: L) = p := fun p L => View.canon_cons_unit_lit _ _ _ (by decide)
  unfold out3_B outB3
  rw [e0, e1, e2, e3]
  by_cases h : nonzero ((pays3 (F := Ideal)).1 x0)
  · rw [if_pos h, pays3_eq]
    dsimp only
    rw [k3_pay4_at]
  · rw [if_neg h, hprod_zero x0 x1 h, add_zero]

/-- The index map of the last call's first window. -/
theorem idx3_0 : ∀ t : Fin cfg3.N, cc3_transform_0 (grid3.coords t) = ![t.1 % 12, t.1 / 12, 0] := by decide +kernel
/-- The index map of the last call's second window. -/
theorem idx3_1 : ∀ t : Fin cfg3.N, cc3_transform_1 (grid3.coords t) = ![t.1 % 12, 0] := by decide +kernel
/-- The index map of the last call's result. -/
theorem idx3_2 : ∀ t : Fin cfg3.N, cc3_transform_2 (grid3.coords t) = ![t.1 / 12, 0] := by decide +kernel

section
variable (V : (c : Dev nD) → (b : Ref sig .tc) → Buf (Elt Ideal) ((c : Thread nD τ).loc b)) (c : Dev nD)

/-- Row `s` of the row block of grid point `n`. -/
abbrev rowAt (n : ℕ) (hn : n < cfg3.N) (s : Fin 1024) : Fin 2048 := ⟨1024 * (n / 12) + s.1, by have h : cfg3.N = 24 := N_3; omega⟩

set_option maxHeartbeats 4000000 in
/-- A head's block at an index. -/
theorem iblk3_0_at (t : Fin cfg3.N) (s : Fin 1024) (d : Fin 64) :
    iblk3 V c 0 t (ix3 0 s d) = V c main_v3 (ix3 ⟨t.1 % 12, Nat.mod_lt _ (by decide)⟩ (rowAt t.1 t.2 s) d) := by
  blk_ext [iblk3] <;> simp [win3_0, idx3_0, Pipeline.Window.index, Nat.mul_comm]

set_option maxHeartbeats 4000000 in
/-- A head's rows of the last matrix at an index. -/
theorem iblk3_1_at (t : Fin cfg3.N) (d : Fin 64) (m : Fin 768) :
    iblk3 V c 1 t (ix2 d m) = V c main_arg14 (ix2 (col ⟨t.1 % 12, Nat.mod_lt _ (by decide)⟩ d) m) := by
  blk_ext [iblk3] <;> simp [win3_1, idx3_1, Pipeline.Window.index, Nat.mul_comm]

/-- Head `h`'s part of a result. -/
def part (ho : FVec Ideal S12x2048x64 .f32) (wo : FVec Ideal S768x768 .f32) (r : Fin 2048) (m : Fin 768) (h : Fin 12) : EReal :=
  ∑ d : Fin 64, ho (ix3 h r d) * wo (ix2 (col h d) m)

/-- A grid point's product is its head's part. -/
theorem hprod_at (t : Fin cfg3.N) (s : Fin 1024) (m : Fin 768) :
    hprod (iblk3 V c 0 t) (iblk3 V c 1 t) s m = part (V c main_v3) (V c main_arg14) (rowAt t.1 t.2 s) m ⟨t.1 % 12, Nat.mod_lt _ (by decide)⟩ :=
  Finset.sum_congr rfl fun d _ => congrArg₂ (· * ·) (iblk3_0_at V c t s d) (iblk3_1_at V c t d m)

/-- After grid point `n` the block holds the parts of the heads up to this one. -/
theorem outsAt3_at (s : Fin 1024) (m : Fin 768) : ∀ (n : ℕ) (hn : n < cfg3.N),
    (outsAt3 V c n hn (ix2 s m) : EReal) = ∑ h ∈ Finset.univ.filter (fun h : Fin 12 => h.1 ≤ n % 12), part (V c main_v3) (V c main_arg14) (rowAt n hn s) m h := by
  intro n
  induction n with
  | zero =>
    intro hn
    rw [outsAt3_A V c ⟨0, hn⟩ rfl, out3_A_at, hprod_at]
    rw [show (Finset.univ.filter fun h : Fin 12 => h.1 ≤ 0 % 12) = {0} by decide, Finset.sum_singleton]
    rfl
  | succ n ih =>
    intro hn
    by_cases h0 : (n + 1) % 12 = 0
    · rw [outsAt3_A V c ⟨n + 1, hn⟩ h0, out3_A_at, hprod_at]
      rw [show (Finset.univ.filter fun h : Fin 12 => h.1 ≤ (n + 1) % 12) = {0} by rw [h0]; decide, Finset.sum_singleton]
      exact congrArg (part _ _ _ _) (Fin.ext h0)
    · rw [outsAt3_B V c ⟨n + 1, hn⟩ h0, out3_B_at, hprod_at]
      have hs : (Finset.univ.filter fun h : Fin 12 => h.1 ≤ (n + 1) % 12)
          = insert ⟨(n + 1) % 12, Nat.mod_lt _ (by decide)⟩ (Finset.univ.filter fun h : Fin 12 => h.1 ≤ n % 12) := by
        ext h
        simp only [Finset.mem_filter, Finset.mem_univ, true_and, Finset.mem_insert, Fin.ext_iff]
        omega
      rw [hs, Finset.sum_insert (by simp only [Finset.mem_filter, Finset.mem_univ, true_and]; omega), add_comm]
      have hr : rowAt (n + 1) hn s = rowAt n (Nat.lt_of_succ_lt hn) s := Fin.ext (by show 1024 * ((n + 1) / 12) + s.1 = 1024 * (n / 12) + s.1; omega)
      refine congrArg₂ (· + ·) rfl ?_
      rw [hr]
      exact ih (Nat.lt_of_succ_lt hn)

/-- The result of the last call after the run. -/
theorem arr3_2 : (dat3 V c).arrAt 2 cfg3.N = fun y : S2048x768.Idx => ∑ h : Fin 12, part (V c main_v3) (V c main_arg14) (y 0) (y 1) h := by
  refine (dat3 V c).arrAt_eq_of_covers 2 _ (by decide +kernel) fun t hf y => ?_
  obtain ⟨s, m, rfl⟩ := ex2 (a := 1024) (b := 768) y
  have hy : (win3_2.blk t).view.emb (ix2 s m) = (ix2 (rowAt t.1 t.2 s) m : S2048x768.Idx) := by
    funext a
    refine Fin.ext ?_
    blk_simp
    fin_cases a <;> simp [win3_2, idx3_2, Pipeline.Window.index, Nat.mul_comm]
  have h11 : t.1 % 12 = 11 := (flush3_2 t).mp hf
  blk_simp; rw [after3_2, hy]
  refine (outsAt3_at V c s m t.1 t.2).trans ?_
  rw [h11, show (Finset.univ.filter fun h : Fin 12 => h.1 ≤ 11) = Finset.univ by decide]
  rfl
end

end Cert.KernelIdeal.Hand
-- ==== Proof.TopRow.lean ====
/- One row of the attention: the softmax over the sixty-four best keys, as the reference takes it, is the softmax over
   all keys masked to the candidates, as the kernel takes it, when there are at most sixty-four candidates. -/
module

public import proofs.«01_k».proof.Proof.Gen.ReferenceIdeal.Run
public import Idealize.ShloMosaic.Lib.Pointwise
public import Idealize.ShloMosaic.Lib.SortFacts

@[expose] public section

noncomputable section

namespace Cert.Rows

open Idealize.ShloMosaic
open scoped Classical

variable {n k : ℕ}

/-- The positions a top-k of row `(h, i)` takes: all different, and no position left out holds more than one taken. -/
theorem topK_row (x : Cert.ReferenceIdeal.S12x2048x2048.Idx → EReal)
    (hs : Cert.ReferenceIdeal.S12x2048x2048.Slices (fun _ => 0) Cert.ReferenceIdeal.S12x2048x64) (h : Fin 12) (i : Fin 2048) :
    ∃ σ : Fin 64 → Fin 2048, Function.Injective σ
      ∧ (∀ j, (∀ k, σ k ≠ j) → ∀ k, x (ix3 h i j) ≤ x (ix3 h i (σ k)))
      ∧ (∀ k, (Host.topK Cert.ReferenceIdeal.S12x2048x64 2 (FloatOps.cmpfTotal (F := Idealize.ShloMosaic.Ideal) (φ := .f32) .gt) x hs).1 (ix3 h i k) = x (ix3 h i (σ k)))
      ∧ ∀ k, (Host.topK Cert.ReferenceIdeal.S12x2048x64 2 (FloatOps.cmpfTotal (F := Idealize.ShloMosaic.Ideal) (φ := .f32) .gt) x hs).2 (ix3 h i k) = BitVec.ofNat 32 (σ k).1 := by
  let B : Fin 2048 → Fin 2048 → Bool := fun a b => FloatOps.cmpfTotal (F := Idealize.ShloMosaic.Ideal) (φ := .f32) .gt (x (ix3 h i a)) (x (ix3 h i b)) == 1#1
  have hB : ∀ a b, B a b = decide (x (ix3 h i b) < x (ix3 h i a)) := by
    intro a b
    show (Idealize.ShloMosaic.Ideal.cmp (CmpDirection.gt.ordered) (x (ix3 h i a)) (x (ix3 h i b)) == 1#1) = _
    simp only [CmpDirection.ordered, Idealize.ShloMosaic.Ideal.cmp]
    by_cases hlt : x (ix3 h i b) < x (ix3 h i a) <;> simp [hlt]
  have hinv := sortedFrom_noInversion B B (by intro a b; rw [hB, hB]; simp; exact le_of_lt) (fun _ _ h => h)
    (by intro a b c; rw [hB, hB, hB]; simp; exact fun h1 h2 => h1.trans h2)
  let up : Fin 64 → Fin 2048 := fun k => ⟨k.1, by omega⟩
  have hal : ∀ (j : Cert.ReferenceIdeal.S12x2048x2048.Idx) (k : Fin 2048), j.along 2 k = ix3 (j 0) (j 1) k := by
    intro j k
    funext a
    fin_cases a <;> rfl
  have hup : ∀ (j : Cert.ReferenceIdeal.S12x2048x2048.Idx) (q : Fin 2048), (j.along 2 q 2).1 = q.1 := fun j q => by rw [hal]; rfl
  let J : Fin 64 → Cert.ReferenceIdeal.S12x2048x2048.Idx := fun k a => ⟨0 + ((ix3 h i k : Cert.ReferenceIdeal.S12x2048x64.Idx) (a.cast hs.1.symm)).1, Nat.lt_of_lt_of_le (Nat.add_lt_add_left ((ix3 h i k : Cert.ReferenceIdeal.S12x2048x64.Idx) _).isLt _) (hs.2 a)⟩
  have hJ : ∀ k : Fin 64, J k = ix3 h i (up k) := by
    intro k
    funext a
    refine Fin.ext ?_
    fin_cases a <;> exact Nat.zero_add _
  have e1 : ∀ k, (Host.topK Cert.ReferenceIdeal.S12x2048x64 2 (FloatOps.cmpfTotal (F := Idealize.ShloMosaic.Ideal) (φ := .f32) .gt) x hs).1 (ix3 h i k)
      = x ((J k).along 2 (sortedFrom (fun a b => FloatOps.cmpfTotal (F := Idealize.ShloMosaic.Ideal) (φ := .f32) .gt (x ((J k).along 2 a)) (x ((J k).along 2 b)) == 1#1) ((J k) 2))) := fun k => rfl
  have e2 : ∀ k, (Host.topK Cert.ReferenceIdeal.S12x2048x64 2 (FloatOps.cmpfTotal (F := Idealize.ShloMosaic.Ideal) (φ := .f32) .gt) x hs).2 (ix3 h i k)
      = BitVec.ofNat 32 ((J k).along 2 (sortedFrom (fun a b => FloatOps.cmpfTotal (F := Idealize.ShloMosaic.Ideal) (φ := .f32) .gt (x ((J k).along 2 a)) (x ((J k).along 2 b)) == 1#1) ((J k) 2)) 2).1 := fun k => rfl
  have hX : ∀ (k : Fin 64) (a : Fin 2048), x ((ix3 h i (up k) : Cert.ReferenceIdeal.S12x2048x2048.Idx).along 2 a) = x (ix3 h i a) := fun k a => congrArg x (hal _ a)
  have hF : ∀ k : Fin 64, (fun a b : Fin 2048 => FloatOps.cmpfTotal (F := Idealize.ShloMosaic.Ideal) (φ := .f32) .gt (x ((ix3 h i (up k) : Cert.ReferenceIdeal.S12x2048x2048.Idx).along 2 a)) (x ((ix3 h i (up k) : Cert.ReferenceIdeal.S12x2048x2048.Idx).along 2 b)) == 1#1) = B := by
    intro k
    funext a b
    rw [hX, hX]
  refine ⟨fun k => sortedFrom B (up k), ?_, ?_, ?_, ?_⟩
  · intro a b hab
    have := congrArg Fin.val (sortedFrom_injective B hab)
    exact Fin.ext this
  · intro j hj k
    obtain ⟨p, rfl⟩ := sortedFrom_surjective B j
    have hp : 64 ≤ p.1 := by
      by_contra hlt
      exact hj ⟨p.1, by omega⟩ (congrArg _ (Fin.ext rfl))
    have := hinv (up k) p (by show k.1 < p.1; omega)
    rw [hB] at this
    simpa using this
  · intro k
    rw [e1, hJ]
    refine (hX k _).trans (congrArg (fun q => x (ix3 h i q)) ?_)
    exact congrFun (congrArg sortedFrom (hF k)) (up k)
  · intro k
    rw [e2, hJ]
    refine congrArg (BitVec.ofNat 32) ((hup _ _).trans ?_)
    exact congrArg Fin.val (congrFun (congrArg sortedFrom (hF k)) (up k))

/-- A sum over all positions of terms that vanish off a set is the sum over the taken positions, when these hold the set. -/
theorem sum_taken {M : Type} [AddCommMonoid M] (σ : Fin k → Fin n) (hσ : Function.Injective σ) (P : Fin n → Prop) (hP : ∀ j, P j → ∃ a, σ a = j)
    (f : Fin n → M) (hf : ∀ j, ¬ P j → f j = 0) : ∑ j, f j = ∑ a, f (σ a) := by
  rw [← Finset.sum_image (s := Finset.univ) (g := σ) (f := f) fun a _ b _ e => hσ e]
  refine (Finset.sum_subset (Finset.subset_univ _) fun j _ hj => hf j fun hp => hj ?_).symm
  obtain ⟨a, rfl⟩ := hP j hp
  exact Finset.mem_image_of_mem _ (Finset.mem_univ _)

/-- The taken positions hold every candidate, when there are no more candidates than taken positions. -/
theorem taken_all (x : Fin n → EReal) (σ : Fin k → Fin n) (hσ : Function.Injective σ) (htop : ∀ j, (∀ a, σ a ≠ j) → ∀ a, x j ≤ x (σ a))
    (L : EReal) (hcard : (Finset.univ.filter fun j => L < x j).card ≤ k) (j : Fin n) (hj : L < x j) : ∃ a, σ a = j := by
  by_contra hne
  have hne' : ∀ a, σ a ≠ j := fun a e => hne ⟨a, e⟩
  have hsub : insert j (Finset.univ.image σ) ⊆ Finset.univ.filter fun j => L < x j := by
    intro p hp
    rcases Finset.mem_insert.mp hp with rfl | hp
    · simpa using hj
    · obtain ⟨a, _, rfl⟩ := Finset.mem_image.mp hp
      simpa using lt_of_lt_of_le hj (htop j hne' a)
  have hc := Finset.card_le_card hsub
  rw [Finset.card_insert_of_notMem (by simpa using hne'), Finset.card_image_of_injective _ hσ, Finset.card_univ, Fintype.card_fin] at hc
  omega

/-- The two softmaxes agree. -/
theorem row_eq (C : Fin n → Prop) (s v : Fin n → EReal) (σ : Fin k → Fin n) (hσ : Function.Injective σ) (j0 : Fin n)
    (L9 L8 L4 M c d eps : EReal) (h98 : L9 ≤ L8) (hdiv : ∀ y, Idealize.ShloMosaic.Ideal.div y d = y * c) (hmono : ∀ y, y ≤ L8 → y * c ≤ L4)
    (hM : M ≤ L4) (heps : 0 < eps)
    (htop : ∀ j, (∀ a, σ a ≠ j) → ∀ a, (if C j then s j else L9) ≤ (if C (σ a) then s (σ a) else L9))
    (hcard : (Finset.univ.filter fun j => C j ∧ L8 < s j).card ≤ k)
    (x : Fin k → EReal) (hx : ∀ a, x a = if C (σ a) then s (σ a) else L9)
    (sc : Fin k → EReal) (hsc : ∀ a, sc a = max (Idealize.ShloMosaic.Ideal.div (x a) d) L4)
    (e : Fin k → EReal) (he : ∀ a, e a = if L8 < x a then Idealize.ShloMosaic.Ideal.exp (sc a - Finset.univ.fold max ⊥ sc) else 0)
    (idx : Fin k → Fin n) (hidx : ∀ a, idx a = if L8 < x a then σ a else j0)
    (sc' : Fin n → EReal) (hsc' : ∀ j, sc' j = max (s j * c) L4)
    (e' : Fin n → EReal) (he' : ∀ j, e' j = if C j ∧ L8 < s j then Idealize.ShloMosaic.Ideal.exp (sc' j - Finset.univ.fold max ⊥ fun j => if C j ∧ L8 < s j then sc' j else M) else 0) :
    ∑ j, Idealize.ShloMosaic.Ideal.div (e' j) (max (∑ j, e' j) eps) * v j
      = ∑ a, Idealize.ShloMosaic.Ideal.div (e a) (max (∑ a, e a) eps) * v (idx a) := by
  have hval : ∀ a, L8 < x a ↔ (C (σ a) ∧ L8 < s (σ a)) := by
    intro a
    rw [hx]
    by_cases hc : C (σ a)
    · simp [hc]
    · simp [hc, h98]
  have hval' : ∀ j, L8 < (if C j then s j else L9) ↔ (C j ∧ L8 < s j) := by
    intro j
    by_cases hc : C j
    · simp [hc]
    · simp [hc, h98]
  have hP : ∀ j, (C j ∧ L8 < s j) → ∃ a, σ a = j := fun j hj =>
    taken_all (fun j => if C j then s j else L9) σ hσ htop L8 (by simpa only [hval'] using hcard) j ((hval' j).mpr hj)
  have hscv : ∀ a, L8 < x a → sc a = sc' (σ a) := by
    intro a ha
    rw [hsc, hsc', hdiv, hx, if_pos ((hval a).mp ha).1]
  have hsci : ∀ a, ¬ L8 < x a → sc a = L4 := by
    intro a ha
    rw [hsc, hdiv]
    exact max_eq_right (hmono _ (not_lt.mp ha))
  have hee : ∀ a, e a = e' (σ a) := by
    intro a
    rw [he, he']
    by_cases ha : L8 < x a
    · rw [if_pos ha, if_pos ((hval a).mp ha), hscv a ha]
      congr 2
      apply le_antisymm
      · refine (Finset.fold_max_le _).mpr ⟨bot_le, fun b _ => ?_⟩
        by_cases hb : L8 < x b
        · refine (Finset.le_fold_max _).mpr (Or.inr ⟨σ b, Finset.mem_univ _, ?_⟩)
          rw [if_pos ((hval b).mp hb), hscv b hb]
        · refine (Finset.le_fold_max _).mpr (Or.inr ⟨σ a, Finset.mem_univ _, ?_⟩)
          rw [if_pos ((hval a).mp ha), hsci b hb, hsc']
          exact le_max_right _ _
      · refine (Finset.fold_max_le _).mpr ⟨bot_le, fun j _ => ?_⟩
        by_cases hj : C j ∧ L8 < s j
        · obtain ⟨b, rfl⟩ := hP j hj
          refine (Finset.le_fold_max _).mpr (Or.inr ⟨b, Finset.mem_univ _, ?_⟩)
          rw [if_pos hj, hscv b ((hval b).mpr hj)]
        · refine (Finset.le_fold_max _).mpr (Or.inr ⟨a, Finset.mem_univ _, ?_⟩)
          rw [if_neg hj, hsc]
          exact hM.trans (le_max_right _ _)
    · rw [if_neg ha, if_neg (fun h => ha ((hval a).mpr h))]
  have hoff : ∀ j, ¬ (C j ∧ L8 < s j) → e' j = 0 := fun j hj => by rw [he', if_neg hj]
  have hden : ∑ j, e' j = ∑ a, e a := by
    rw [sum_taken σ hσ _ hP e' hoff]
    exact Finset.sum_congr rfl fun a _ => (hee a).symm
  rw [hden]
  have hne : max (∑ a, e a) eps ≠ 0 := (lt_of_lt_of_le heps (le_max_right _ _)).ne'
  have hz : ∀ y, Idealize.ShloMosaic.Ideal.div 0 (max (∑ a, e a) eps) * y = 0 := fun y => by
    unfold Idealize.ShloMosaic.Ideal.div
    rw [if_neg hne, zero_mul, zero_mul]
  rw [sum_taken σ hσ _ hP _ fun j hj => by rw [hoff j hj, hz]]
  refine Finset.sum_congr rfl fun a _ => ?_
  by_cases ha : L8 < x a
  · rw [hidx, if_pos ha, hee]
  · rw [← hee, he, if_neg ha, hz, hz]

end Cert.Rows
-- ==== Proof.RefValue.lean ====
/- The reference's parts at an index: the projections, the masked scores, the gathered values. -/
module

public import proofs.«01_k».proof.Proof.Gen.ReferenceIdeal.Run
public import proofs.«01_k».proof.Proof.TopRow
public import proofs.«01_k».proof.Proof.SoftRow
public import Idealize.ShloMosaic.Lib.Pointwise
public import Idealize.ShloMosaic.Lib.ValueIdxCore
public import Idealize.ShloMosaic.Lib.Tactic.CleanTypes

@[expose] public section

set_option maxRecDepth 16384

noncomputable section

namespace Cert.ReferenceIdeal.Value

open Cert.ReferenceIdeal Cert.ReferenceIdeal.Gen
open Idealize.ShloMosaic Idealize.ShloMosaic.TcCoe
open Cert.Rows

/-- A three-axis array as a function of its coordinates. -/
abbrev t3 {a b c : ℕ} (x : FVec Ideal ⟨3, ![a, b, c]⟩ .f32) : T3 a b c := fun i j k => x (ix3 i j k)

/-- An input's rows. -/
abbrev rows (x : FVec Ideal S1x2048x768 .f32) : Fin 2048 → Fin 768 → EReal := fun s d => x (ix3 0 s d)

section
variable (W : Valuation τ sig (Elt Idealize.ShloMosaic.Ideal))

/-- The projected queries. -/
theorem v4_at (h : Fin 12) (s : Fin 2048) (k : Fin 64) :
    (res_main_v4 W (ix3 h s k) : EReal) = proj (rows (W (Proc.devRef .tc main_arg0))) (t3 (W (Proc.devRef .tc main_arg3))) (t3 (W (Proc.devRef .tc main_arg4))) (t3 (W (Proc.devRef .tc main_arg5))) (t3 (W (Proc.devRef .tc main_arg6))) h s k := by
  pointwise [res_main_v4]
  rfl

/-- The projected keys. -/
theorem v9_at (h : Fin 12) (s : Fin 2048) (k : Fin 64) :
    (res_main_v9 W (ix3 h s k) : EReal) = proj (rows (W (Proc.devRef .tc main_arg1))) (t3 (W (Proc.devRef .tc main_arg7))) (t3 (W (Proc.devRef .tc main_arg8))) (t3 (W (Proc.devRef .tc main_arg9))) (t3 (W (Proc.devRef .tc main_arg10))) h s k := by
  pointwise [res_main_v9]
  rfl

/-- The projected values. -/
theorem v12_at (x : FVec Ideal S1x2048x768 .f32) (wu : FVec Ideal S12x768x16 .f32) (wv : FVec Ideal S12x16x64 .f32) (h : Fin 12) (s : Fin 2048) (k : Fin 64) :
    (Host.dotGeneral dot_S12x16x2048_S12x16x64_S12x2048x64_1_1_2_2_0_0 none (Host.dotGeneral dot_S12x768x16_S2048x768_S12x16x2048_1_1_02_0_n_n none wu (shapeCast S2048x768 x shapeCasts_S1x2048x768_S2048x768)) wv (ix3 h s k) : EReal)
      = vproj (rows x) (t3 wu) (t3 wv) h s k := by
  pointwise []
  rfl

/-- A query row of a head. -/
abbrev qrow (h : Fin 12) (s : Fin 2048) : Fin 64 → EReal := fun d => res_main_v4 W (ix3 h s d)

/-- A key row of a head. -/
abbrev krow (h : Fin 12) (s : Fin 2048) : Fin 64 → EReal := fun d => res_main_v9 W (ix3 h s d)

/-- A head's direction. -/
abbrev dir (h : Fin 12) : Fin 64 → EReal := fun d => (W (Proc.devRef .tc main_arg13) : FVec Ideal S12x64 .f32) (ix2 h d)

/-- The signs of the queries. -/
theorem v30_at (h : Fin 12) (s : Fin 2048) (k : Fin 64) : (res_main_v30 W (ix3 h s k) : EReal) = if 0 < qrow W h s k then ((1 : ℝ) : EReal) else ((-1 : ℝ) : EReal) := by
  unfold res_main_v30
  unfold qrow
  generalize res_main_v4 W = q
  pointwise []
  rw [c_neg1]
  rfl

/-- The signs of the keys. -/
theorem v33_at (h : Fin 12) (s : Fin 2048) (k : Fin 64) : (res_main_v33 W (ix3 h s k) : EReal) = if 0 < krow W h s k then ((1 : ℝ) : EReal) else ((-1 : ℝ) : EReal) := by
  unfold res_main_v33
  unfold krow
  generalize res_main_v9 W = q
  pointwise []
  rw [c_neg1]
  rfl

/-- Sixty-four as the host takes it. -/
theorem sixty_four : (FloatOps.sitofp (F := Ideal) .f32 (64#32) : EReal) = ((64 : ℝ) : EReal) := by
  show (((64#32 : BitVec 32).toInt : ℝ) : EReal) = _
  rw [show (64#32 : BitVec 32).toInt = 64 by decide]
  norm_num

/-- The queries' remainder before the sign's correction. -/
theorem call0_at (h : Fin 12) (s : Fin 2048) : (res_main_call0_v2 W (ix2 h s) : EReal)
    = Idealize.ShloMosaic.Ideal.remf (Idealize.ShloMosaic.Ideal.liftRound Int.floor (hash (qrow W h s) (dir W h) * quarter)) ((64 : ℝ) : EReal) := by
  pointwise [res_main_call0_v2, res_main_call0_v0, id]
  rw [sixty_four, c_four, Idealize.ShloMosaic.Ideal.div_coe (by norm_num)]
  rfl

/-- The keys' remainder before the sign's correction. -/
theorem call1_at (h : Fin 12) (s : Fin 2048) : (res_main_call1_v2 W (ix2 h s) : EReal)
    = Idealize.ShloMosaic.Ideal.remf (Idealize.ShloMosaic.Ideal.liftRound Int.floor (hash (krow W h s) (dir W h) * quarter)) ((64 : ℝ) : EReal) := by
  pointwise [res_main_call1_v2, res_main_call1_v0, id]
  rw [sixty_four, c_four, Idealize.ShloMosaic.Ideal.div_coe (by norm_num)]
  rfl
end

/-- The sign's correction of a remainder. -/
theorem fix_select (c w : EReal) (hw : w = ((64 : ℝ) : EReal)) [Decidable (c < 0)] [Decidable (w < 0)] [Decidable (c ≠ 0)] :
    Scalar.select (IntOp.andi (IntOp.cmpi CmpIPredicate.ne (BitVec.ofBool (decide (c < 0))) (BitVec.ofBool (decide (w < 0)))) (BitVec.ofBool (decide (c ≠ 0)))) (c + w) c
      = pick (c < 0) (c + ((64 : ℝ) : EReal)) c := by
  have hn : ¬ w < 0 := by rw [hw]; exact not_lt.mpr (by exact_mod_cast (by norm_num : (0 : ℝ) ≤ 64))
  by_cases h : c < 0
  · have h' : c ≠ 0 := h.ne
    rw [decide_eq_true h, decide_eq_false hn, decide_eq_true h', pick_eq, if_pos h, hw]
    rfl
  · rw [decide_eq_false h, decide_eq_false hn, pick_eq, if_neg h]
    cases decide (c ≠ 0) <;> rfl

/-- Three tests in one select. -/
theorem select3 (P Q R : Prop) [Decidable P] [Decidable Q] [Decidable R] (a b : EReal) :
    Scalar.select (IntOp.andi (BitVec.ofBool (decide P)) (IntOp.andi (IntOp.cmpi CmpIPredicate.ne (BitVec.ofBool (decide Q)) 0#1) (IntOp.cmpi CmpIPredicate.ne (BitVec.ofBool (decide R)) 0#1))) a b
      = pick (P ∧ Q ∧ R) a b := by
  rw [pick_eq]
  by_cases h1 : P <;> by_cases h2 : Q <;> by_cases h3 : R <;> simp [h1, h2, h3, Scalar.select, IntOp.andi, IntOp.cmpi]

/-- A row-wise gather from each head at an index. -/
theorem gather_at (v : FVec Ideal S12x2048x64 .f32) (ix : IVec S12x2048x64x1 32) (h : Fin 12) (i : Fin 2048) (a k : Fin 64) :
    Host.gather gather_S12x2048x64_S12x2048x64x1_S12x2048x64x64_3_1_0_0_1_3_1164 v ix (ix4 h i a k)
      = v (ix3 h ⟨min (ix (ix4 h i a 0)).toInt.toNat 2047, by omega⟩ k) := by
  unfold Host.gather
  congr 1
  funext x
  refine Fin.ext ?_
  show gather_S12x2048x64_S12x2048x64x1_S12x2048x64x64_3_1_0_0_1_3_1164.start (ix4 h i a k) ix x
    + gather_S12x2048x64_S12x2048x64x1_S12x2048x64x64_3_1_0_0_1_3_1164.batchCoord (ix4 h i a k) x
    + gather_S12x2048x64_S12x2048x64x1_S12x2048x64x64_3_1_0_0_1_3_1164.offCoord (ix4 h i a k) x = _
  have hx : x = 0 ∨ x = 1 ∨ x = 2 := by
    match x with
    | ⟨0, _⟩ => exact Or.inl rfl
    | ⟨1, _⟩ => exact Or.inr (Or.inl rfl)
    | ⟨2, _⟩ => exact Or.inr (Or.inr rfl)
  rcases hx with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 3) ∈ gather_S12x2048x64_S12x2048x64x1_S12x2048x64x64_3_1_0_0_1_3_1164.operandBatchingDims from List.mem_singleton.mpr rfl)]
    exact Nat.zero_add _
  · rw [GatherDims.batchCoord_eq_zero _ _ _ (fun h => by simp [gather_S12x2048x64_S12x2048x64x1_S12x2048x64x64_3_1_0_0_1_3_1164] at h),
      GatherDims.offCoord_eq_zero _ _ _ (fun h => ((GatherDims.mem_sKept _ _).mp h).1 (List.mem_singleton.mpr rfl))]
    unfold GatherDims.start
    rw [dif_pos (show (1 : Fin 3) ∈ gather_S12x2048x64_S12x2048x64x1_S12x2048x64x64_3_1_0_0_1_3_1164.startIndexMap from List.mem_singleton.mpr rfl)]
    have hsi : gather_S12x2048x64_S12x2048x64x1_S12x2048x64x64_3_1_0_0_1_3_1164.siIdx (ix4 h i a k) ⟨List.idxOf (1 : Fin 3) gather_S12x2048x64_S12x2048x64x1_S12x2048x64x64_3_1_0_0_1_3_1164.startIndexMap,
        List.idxOf_lt_length_iff.2 (List.mem_singleton.mpr rfl)⟩ = ix4 h i a 0 := by
      funext b; refine Fin.ext ?_
      match b with
      | ⟨0, _⟩ => rfl
      | ⟨1, _⟩ => rfl
      | ⟨2, _⟩ => rfl
      | ⟨3, _⟩ => rfl
    rw [hsi]
    rfl
  · rw [GatherDims.batchCoord_eq_zero _ _ _ (fun h => by simp [gather_S12x2048x64_S12x2048x64x1_S12x2048x64x64_3_1_0_0_1_3_1164] at h)]
    unfold GatherDims.start
    rw [dif_neg (show (2 : Fin 3) ∉ gather_S12x2048x64_S12x2048x64x1_S12x2048x64x64_3_1_0_0_1_3_1164.startIndexMap from fun h => by simp [gather_S12x2048x64_S12x2048x64x1_S12x2048x64x64_3_1_0_0_1_3_1164] at h)]
    unfold GatherDims.offCoord
    rw [dif_pos (show (2 : Fin 3) ∈ gather_S12x2048x64_S12x2048x64x1_S12x2048x64x64_3_1_0_0_1_3_1164.sKept from by decide)]
    exact Nat.zero_add _

/-- The gather along a diagonal at an index. -/
theorem diag_gather (x : IVec S12x2048x2048 1) (ix : IVec S2048x2 32) (h : Fin 12) (j : Fin 2048) :
    Host.gather gather_S12x2048x2048_S2048x2_S12x2048_0_12_n_n_12_1_1211 x ix (ix2 h j)
      = x (ix3 h ⟨min (ix (ix2 j 0)).toInt.toNat 2047, by omega⟩ ⟨min (ix (ix2 j 1)).toInt.toNat 2047, by omega⟩) := by
  unfold Host.gather
  congr 1
  funext y
  refine Fin.ext ?_
  show gather_S12x2048x2048_S2048x2_S12x2048_0_12_n_n_12_1_1211.start (ix2 h j) ix y
    + gather_S12x2048x2048_S2048x2_S12x2048_0_12_n_n_12_1_1211.batchCoord (ix2 h j) y
    + gather_S12x2048x2048_S2048x2_S12x2048_0_12_n_n_12_1_1211.offCoord (ix2 h j) y = _
  rw [GatherDims.batchCoord_eq_zero _ _ _ (fun h => by simp [gather_S12x2048x2048_S2048x2_S12x2048_0_12_n_n_12_1_1211] at h)]
  have hy : y = 0 ∨ y = 1 ∨ y = 2 := by
    match y with
    | ⟨0, _⟩ => exact Or.inl rfl
    | ⟨1, _⟩ => exact Or.inr (Or.inl rfl)
    | ⟨2, _⟩ => exact Or.inr (Or.inr rfl)
  rcases hy with rfl | rfl | rfl
  · unfold GatherDims.start
    rw [dif_neg (show (0 : Fin 3) ∉ gather_S12x2048x2048_S2048x2_S12x2048_0_12_n_n_12_1_1211.startIndexMap from fun h => by simp [gather_S12x2048x2048_S2048x2_S12x2048_0_12_n_n_12_1_1211] at h)]
    unfold GatherDims.offCoord
    rw [dif_pos (show (0 : Fin 3) ∈ gather_S12x2048x2048_S2048x2_S12x2048_0_12_n_n_12_1_1211.sKept from by decide)]
    exact Nat.zero_add _
  · rw [GatherDims.offCoord_eq_zero _ _ _ (fun h => ((GatherDims.mem_sKept _ _).mp h).1 (by decide))]
    unfold GatherDims.start
    rw [dif_pos (show (1 : Fin 3) ∈ gather_S12x2048x2048_S2048x2_S12x2048_0_12_n_n_12_1_1211.startIndexMap from by decide)]
    have hsi : gather_S12x2048x2048_S2048x2_S12x2048_0_12_n_n_12_1_1211.siIdx (ix2 h j) ⟨List.idxOf (1 : Fin 3) gather_S12x2048x2048_S2048x2_S12x2048_0_12_n_n_12_1_1211.startIndexMap,
        List.idxOf_lt_length_iff.2 (by decide)⟩ = ix2 j 0 := by
      funext b; refine Fin.ext ?_
      match b with
      | ⟨0, _⟩ => rfl
      | ⟨1, _⟩ => rfl
    rw [hsi]
    rfl
  · rw [GatherDims.offCoord_eq_zero _ _ _ (fun h => ((GatherDims.mem_sKept _ _).mp h).1 (by decide))]
    unfold GatherDims.start
    rw [dif_pos (show (2 : Fin 3) ∈ gather_S12x2048x2048_S2048x2_S12x2048_0_12_n_n_12_1_1211.startIndexMap from by decide)]
    have hsi : gather_S12x2048x2048_S2048x2_S12x2048_0_12_n_n_12_1_1211.siIdx (ix2 h j) ⟨List.idxOf (2 : Fin 3) gather_S12x2048x2048_S2048x2_S12x2048_0_12_n_n_12_1_1211.startIndexMap,
        List.idxOf_lt_length_iff.2 (by decide)⟩ = ix2 j 1 := by
      funext b; refine Fin.ext ?_
      match b with
      | ⟨0, _⟩ => rfl
      | ⟨1, _⟩ => rfl
    rw [hsi]
    rfl

/-- An index in range read back from the word it is spelt by. -/
theorem word_at : ∀ n : Fin 2048, (Scalar.select (IntOp.cmpi CmpIPredicate.slt (BitVec.ofNat 32 n.1) 0#32) (IntOp.addi (BitVec.ofNat 32 n.1) 2048#32) (BitVec.ofNat 32 n.1)).toInt.toNat = n.1 := by
  decide +kernel

/-- The same, as a word. -/
theorem wrap_at : ∀ n : Fin 2048, Scalar.select (IntOp.cmpi CmpIPredicate.slt (BitVec.ofNat 32 n.1) 0#32) (IntOp.addi (BitVec.ofNat 32 n.1) 2048#32) (BitVec.ofNat 32 n.1) = BitVec.ofNat 32 n.1 := by
  decide +kernel

/-- An index read back from its word. -/
theorem nat_at : ∀ n : Fin 2048, (BitVec.ofNat 32 n.1).toInt.toNat = n.1 := by
  decide +kernel

/-- An index passes the test of its range. -/
theorem range_at : ∀ n : Fin 2048, IntOp.andi (IntOp.cmpi .sge (BitVec.ofNat 32 n.1) 0#32) (IntOp.cmpi .sle (BitVec.ofNat 32 n.1) 2047#32) = 1#1 := by
  decide +kernel

/-- The rows' and columns' numbers of the diagonal, wrapped as the host wraps an index. -/
abbrev diagCol : IVec S2048x1 32 :=
  broadcastInDim S2048x1 ![0] bcast_S2048_S2048x1_0 (select (cmpi .slt (iotaInDim S2048 32 0) (broadcastInDim S2048 ![] bcast_S_S2048 (constantI S_ 32 0#32))) (addi (iotaInDim S2048 32 0) (broadcastInDim S2048 ![] bcast_S_S2048 (constantI S_ 32 2048#32))) (iotaInDim S2048 32 0))

/-- Both columns side by side. -/
abbrev diagIdx : IVec S2048x2 32 :=
  concatenate S2048x2 1 [⟨S2048x1, diagCol⟩, ⟨S2048x1, diagCol⟩] concatenates_S2048x1_S2048x1_S2048x2_d1

/-- The diagonal's indices. -/
theorem diagIdx_at (j : Fin 2048) (b : Fin 2) : (diagIdx (ix2 j b)).toInt.toNat = j.1 := by
  have hb : b = 0 ∨ b = 1 := by omega
  rcases hb with rfl | rfl
  · refine Eq.trans (congrArg (fun w : BitVec 32 => w.toInt.toNat) ?_) (word_at j)
    pointwise [diagIdx, diagCol]
  · refine Eq.trans (congrArg (fun w : BitVec 32 => w.toInt.toNat) ?_) (word_at j)
    pointwise [diagIdx, diagCol]

/-- The diagonal of every head's matrix at an index. -/
theorem diag_at (x : IVec S12x2048x2048 1) (h : Fin 12) (j : Fin 2048) :
    Host.gather gather_S12x2048x2048_S2048x2_S12x2048_0_12_n_n_12_1_1211 x diagIdx (ix2 h j) = x (ix3 h j j) := by
  rw [diag_gather]
  have e : ∀ b : Fin 2, (⟨min (diagIdx (ix2 j b)).toInt.toNat 2047, by omega⟩ : Fin 2048) = j := fun b => Fin.ext (by
    show min (diagIdx (ix2 j b)).toInt.toNat 2047 = j.1
    rw [diagIdx_at]; omega)
  rw [e 0, e 1]

/-- Which keys are inserted: those whose first eight signs are those of the query of the same number. -/
theorem ins_at (qs ks : FVec Ideal S12x2048x64 .f32) (q k : Fin 2048 → Fin 64 → EReal) (h : Fin 12)
    (hq : ∀ j d, (qs (ix3 h j d) : EReal) = if 0 < q j d then ((1 : ℝ) : EReal) else ((-1 : ℝ) : EReal))
    (hk : ∀ j d, (ks (ix3 h j d) : EReal) = if 0 < k j d then ((1 : ℝ) : EReal) else ((-1 : ℝ) : EReal)) (j : Fin 2048) :
    Host.gather gather_S12x2048x2048_S2048x2_S12x2048_0_12_n_n_12_1_1211 (cmpf .ogt (Host.dotGeneral dot_S12x2048x8_S12x2048x8_S12x2048x2048_2_2_1_1_0_0 none
        (extractStridedSlice S12x2048x8 ![0, 0, 0] qs slices_S12x2048x64_S12x2048x8_0_0_0) (extractStridedSlice S12x2048x8 ![0, 0, 0] ks slices_S12x2048x64_S12x2048x8_0_0_0))
        (broadcastInDim S12x2048x2048 ![] bcast_S_S12x2048x2048 (constant S_ .f32 0x40F00000#32))) diagIdx (ix2 h j)
      = BitVec.ofBool (@decide (∀ d : Fin 64, d.1 < 8 → (0 < q j d ↔ 0 < k j d)) (Classical.propDecidable _)) := by
  rw [diag_at]
  pointwise []
  simp only [hq, hk, sgn_mul, c_7_5]
  refine congrArg BitVec.ofBool (decide_eq_decide.mpr ((sign_sum _ _ (by norm_num) (by norm_num)).trans ?_))
  exact ⟨fun hh d hd => hh ⟨d.1, hd⟩, fun hh x => hh ⟨x.1, by omega⟩ x.2⟩

section
variable (W : Valuation τ sig (Elt Idealize.ShloMosaic.Ideal))

/-- The masked scores: the scores at the candidates, a large negative number elsewhere. -/
theorem v54_at (h : Fin 12) (s j : Fin 2048) :
    (res_main_v54 W (ix3 h s j) : EReal) = pick (cand (qrow W h s) (qrow W h j) (krow W h j) (dir W h)) (∑ x, qrow W h s x * krow W h j x) (Ideal.ofBits FTy.f32 3463342888#32) := by
  have h30 := v30_at W
  have h33 := v33_at W
  have h0 := call0_at W
  have h1 := call1_at W
  have hc0 : (res_main_call0_v0 W ix0 : EReal) = ((64 : ℝ) : EReal) := sixty_four
  have hc1 : (res_main_call1_v0 W ix0 : EReal) = ((64 : ℝ) : EReal) := sixty_four
  have hi := ins_at (res_main_v30 W) (res_main_v33 W) (qrow W h) (krow W h) h (v30_at W h) (v33_at W h)
  simp only [diagIdx, diagCol] at hi
  unfold res_main_v54 res_main_call4_v0 res_main_call4_v1
  unfold qrow krow at *
  generalize res_main_v4 W = q at *
  generalize res_main_v9 W = k at *
  generalize res_main_v30 W = qs at *
  generalize res_main_v33 W = ks at *
  generalize res_main_call0_v2 W = m0 at *
  generalize res_main_call1_v2 W = m1 at *
  generalize res_main_call0_v0 W = c0 at *
  generalize res_main_call1_v0 W = c1 at *
  generalize Host.gather gather_S12x2048x2048_S2048x2_S12x2048_0_12_n_n_12_1_1211 _ _ = g at *
  pointwise [id]
  simp only [h30, h33, sgn_mul, c_63_5]
  rw [hi, select3, fix_select _ _ hc0, fix_select _ _ hc1, h0, h1]
  refine pick_congr ?_ _ _
  unfold cand
  refine and_congr (iff_of_eq ?_) (and_congr (sign_sum _ _ (by norm_num) (by norm_num)) Iff.rfl)
  simp only [pick_eq]
  rfl

/-- A word's test against the range of the rows. -/
abbrev inRange (w : BitVec 32) : BitVec 1 := IntOp.andi (IntOp.cmpi .sge w 0#32) (IntOp.cmpi .sle w 2047#32)

/-- The reference's value at a head, row and lane: the weighted sum of the gathered values. -/
def refHead (v : FVec Ideal S12x2048x64 .f32) (h : Fin 12) (s : Fin 2048) (d : Fin 64) : EReal :=
  ∑ a : Fin 64, Idealize.ShloMosaic.Ideal.div (res_main_v66 W (ix3 h s a)) (max (∑ a : Fin 64, res_main_v66 W (ix3 h s a)) (Ideal.ofBits FTy.f32 814313567#32))
    * Scalar.select (inRange (res_main_call8_v4 W (ix4 h s a 0))) (v (ix3 h ⟨min (res_main_call8_v4 W (ix4 h s a 0)).toInt.toNat 2047, by omega⟩ d)) (Ideal.ofBits FTy.f32 2143289344#32)

/-- The weights' quotient at an index. -/
theorem div_at (e : FVec Ideal S12x2048x64 .f32) (h : Fin 12) (i : Fin 2048) (a : Fin 64) :
    (Host.divf e (broadcastInDim S12x2048x64 ![0, 1, 2] bcast_S12x2048x1_S12x2048x64_0_1_2 (maximumf (broadcastInDim S12x2048x1 ![0, 1] bcast_S12x2048_S12x2048x1_0_1 (Host.reduceAdd e (constant S_ .f32 0x00000000#32) reducesTo_S12x2048x64_S12x2048_d2 h_S_)) (broadcastInDim S12x2048x1 ![] bcast_S_S12x2048x1 (constant S_ .f32 0x3089705F#32)))) (ix3 h i a) : EReal)
      = Idealize.ShloMosaic.Ideal.div (e (ix3 h i a)) (max (∑ a : Fin 64, e (ix3 h i a)) (Ideal.ofBits FTy.f32 814313567#32)) := by
  pointwise []

/-- The values that the weights meet: the gathered ones, tested for their range. -/
abbrev taken (v : FVec Ideal S12x2048x64 .f32) (w : IVec S12x2048x64x1 32) : FVec Ideal S12x2048x64x64 .f32 :=
  select (broadcastInDim S12x2048x64x64 ![0, 1, 2] bcast_S12x2048x64_S12x2048x64x64_0_1_2 (Host.reduce IntOp.andi (andi (cmpi .sge w (broadcastInDim S12x2048x64x1 ![] bcast_S_S12x2048x64x1 (constantI S_ 32 0#32))) (cmpi .sle w (broadcastInDim S12x2048x64x1 ![0, 1, 2, 3] bcast_S1x1x1x1_S12x2048x64x1_0_1_2_3 (broadcastInDim S1x1x1x1 ![3] bcast_S1_S1x1x1x1_3 (constantI S1 32 2047#32))))) (constantI S_ 1 1#1) reducesTo_S12x2048x64x1_S12x2048x64_d3 h_S_))
    (Host.gather gather_S12x2048x64_S12x2048x64x1_S12x2048x64x64_3_1_0_0_1_3_1164 (shapeCast _ (broadcastInDim S12x1x2048x64 ![0, 2, 3] bcast_S12x2048x64_S12x1x2048x64_0_2_3 v) shapeCasts_S12x1x2048x64_S12x2048x64) w)
    (broadcastInDim S12x2048x64x64 ![] bcast_S_S12x2048x64x64 (constant S_ .f32 0x7FC00000#32))

/-- The taken values at an index. -/
theorem taken_at (v : FVec Ideal S12x2048x64 .f32) (w : IVec S12x2048x64x1 32) (h : Fin 12) (i : Fin 2048) (a d : Fin 64) :
    (taken v w (ix4 h i a d) : EReal) = Scalar.select (inRange (w (ix4 h i a 0))) (v (ix3 h ⟨min (w (ix4 h i a 0)).toInt.toNat 2047, by omega⟩ d)) (Ideal.ofBits FTy.f32 2143289344#32) := by
  have hv : ∀ s k, shapeCast S12x2048x64 (broadcastInDim S12x1x2048x64 ![0, 2, 3] bcast_S12x2048x64_S12x1x2048x64_0_2_3 v) shapeCasts_S12x1x2048x64_S12x2048x64 (ix3 h s k) = v (ix3 h s k) := fun s k => by
    pointwise []
  have hg := fun k => (gather_at (shapeCast S12x2048x64 (broadcastInDim S12x1x2048x64 ![0, 2, 3] bcast_S12x2048x64_S12x1x2048x64_0_2_3 v) shapeCasts_S12x1x2048x64_S12x2048x64) w h i a k).trans (hv _ _)
  unfold taken
  generalize Host.gather gather_S12x2048x64_S12x2048x64x1_S12x2048x64x64_3_1_0_0_1_3_1164 _ w = g at *
  pointwise []
  rw [hg, Finset.univ_unique, Finset.fold_singleton]
  refine congrArg (fun b => Scalar.select b _ _) ?_
  generalize w (ix4 h i a 0) = u
  exact BitVec.and_allOnes

/-- The heads' weighted sums, put side by side, against the last matrix. -/
theorem fin_at (p : FVec Ideal S12x2048x64 .f32) (g : FVec Ideal S12x2048x64x64 .f32) (wo : FVec Ideal S768x768 .f32) (s : Fin 2048) (c : Fin 768) :
    (broadcastInDim S1x2048x768 ![1, 2] bcast_S2048x768_S1x2048x768_1_2 (Host.dotGeneral dot_S2048x768_S768x768_S2048x768_1_0_0_1_n_n none (shapeCast S2048x768 (transpose S2048x12x64 [1, 0, 2] (Host.dotGeneral dot_S12x2048x64_S12x2048x64x64_S12x2048x64_2_2_n_3_01_01 none p g) transposes_S12x2048x64_S2048x12x64_1_0_2) shapeCasts_S2048x12x64_S2048x768) wo) (ix3 0 s c) : EReal)
      = ∑ x : Fin 768, (∑ a : Fin 64, @HMul.hMul EReal EReal EReal instHMul (p (ix3 ⟨x.1 / 64, by omega⟩ s a)) (g (ix4 ⟨x.1 / 64, by omega⟩ s a ⟨x.1 % 64, by omega⟩))) * wo (ix2 x c) := by
  pointwise []

/-- The reference's result from the arguments, over the projected values. -/
def res81 (v : FVec Ideal S12x2048x64 .f32) : FVec Ideal S1x2048x768 .f32 :=
  broadcastInDim S1x2048x768 ![1, 2] bcast_S2048x768_S1x2048x768_1_2 (Host.dotGeneral (φ₁ := .f32) (φ₂ := .f32) dot_S2048x768_S768x768_S2048x768_1_0_0_1_n_n none (shapeCast _ (transpose S2048x12x64 [1, 0, 2] (Host.dotGeneral dot_S12x2048x64_S12x2048x64x64_S12x2048x64_2_2_n_3_01_01 none (Host.divf (res_main_v66 W : FVec Ideal S12x2048x64 .f32) (broadcastInDim S12x2048x64 ![0, 1, 2] bcast_S12x2048x1_S12x2048x64_0_1_2 (maximumf (broadcastInDim S12x2048x1 ![0, 1] bcast_S12x2048_S12x2048x1_0_1 (Host.reduceAdd (res_main_v66 W : FVec Ideal S12x2048x64 .f32) (constant S_ .f32 0x00000000#32) reducesTo_S12x2048x64_S12x2048_d2 h_S_)) (broadcastInDim S12x2048x1 ![] bcast_S_S12x2048x1 (constant S_ .f32 0x3089705F#32))))) (taken v (res_main_call8_v4 W))) transposes_S12x2048x64_S2048x12x64_1_0_2) shapeCasts_S2048x12x64_S2048x768) (W (Proc.devRef .tc main_arg14) : FVec Ideal S768x768 .f32))

/-- The reference's result at an index. -/
theorem res81_at (v : FVec Ideal S12x2048x64 .f32) (s : Fin 2048) (c : Fin 768) :
    res81 W v (ix3 0 s c) = ∑ x : Fin 768, refHead W v ⟨x.1 / 64, by omega⟩ s ⟨x.1 % 64, by omega⟩ * (W (Proc.devRef .tc main_arg14) : FVec Ideal S768x768 .f32) (ix2 x c) := by
  unfold res81 refHead
  refine (fin_at _ _ _ s c).trans ?_
  refine Finset.sum_congr rfl fun x _ => congrArg (· * _) (Finset.sum_congr rfl fun a _ => ?_)
  rw [div_at, taken_at]

/-- A head's row of the reference is the masked attention's, where no more than sixty-four keys take part. -/
theorem refHead_eq (v : FVec Ideal S12x2048x64 .f32) (h : Fin 12) (i : Fin 2048) (d : Fin 64) (C : Fin 2048 → Prop) (s : Fin 2048 → EReal)
    (hx : ∀ j, (res_main_v54 W (ix3 h i j) : EReal) = pick (C j) (s j) (Ideal.ofBits FTy.f32 3463342888#32))
    (hcard : (@Finset.filter _ (fun j => C j ∧ Ideal.ofBits FTy.f32 3435052064#32 < s j) (Classical.decPred _) Finset.univ).card ≤ 64) :
    refHead W v h i d = attnRow C s (fun j => v (ix3 h j d)) := by
  classical
  obtain ⟨σ, hσ, htop, hval, hidx⟩ := topK_row (res_main_v54 W) sliceFits_S12x2048x2048_S12x2048x64 h i
  unfold refHead attnRow
  have hv : ∀ a, (res_main_values W (ix3 h i a) : EReal) = pick (C (σ a)) (s (σ a)) (Ideal.ofBits FTy.f32 3463342888#32) := fun a => (hval a).trans (hx _)
  have h54 : ∀ a, res_main_v56 W (ix3 h i a) = BitVec.ofBool (decide (Ideal.ofBits FTy.f32 3435052064#32 < (res_main_values W (ix3 h i a) : EReal))) := fun a => by
    unfold res_main_v56
    generalize res_main_values W = x
    pointwise []
  have h58 : ∀ a, (res_main_v60 W (ix3 h i a) : EReal) = max (Idealize.ShloMosaic.Ideal.div (res_main_values W (ix3 h i a)) (Ideal.ofBits FTy.f32 1090519040#32)) (Ideal.ofBits FTy.f32 3323740160#32) := fun a => by
    unfold res_main_v60
    generalize res_main_values W = x
    pointwise []
  have h64 : ∀ a, (res_main_v66 W (ix3 h i a) : EReal) = Scalar.select (res_main_v56 W (ix3 h i a))
      (Idealize.ShloMosaic.Ideal.exp (@HSub.hSub EReal EReal EReal instHSub (res_main_v60 W (ix3 h i a)) (Finset.univ.fold max (⊥ : EReal) fun a => (res_main_v60 W (ix3 h i a) : EReal)))) (0 : EReal) := fun a => by
    unfold res_main_v66
    generalize res_main_v56 W = x
    generalize res_main_v60 W = y
    clean_types
    pointwise [id]
    rw [c_bot]
  have h75 : ∀ a, res_main_v75 W (ix4 h i a 0) = Scalar.select (res_main_v56 W (ix3 h i a)) (BitVec.ofNat 32 (σ a).1) 0#32 := fun a => by
    have hi := hidx a
    unfold res_main_v75
    generalize res_main_v56 W = x
    generalize (Host.topK S12x2048x64 2 (FloatOps.cmpfTotal (F := Idealize.ShloMosaic.Ideal) (φ := .f32) .gt) (res_main_v54 W) sliceFits_S12x2048x2048_S12x2048x64).2 = y at *
    pointwise [id]
    rw [hi]
  have h8 : ∀ a, res_main_call8_v4 W (ix4 h i a 0) = Scalar.select (IntOp.cmpi CmpIPredicate.slt (res_main_v75 W (ix4 h i a 0)) 0#32) (IntOp.addi (res_main_v75 W (ix4 h i a 0)) 2048#32) (res_main_v75 W (ix4 h i a 0)) := fun a => by
    unfold res_main_call8_v4
    generalize res_main_v75 W = y
    pointwise []
  have hsel : ∀ {α : Type} (p : Prop) [Decidable p] (x y : α), Scalar.select (BitVec.ofBool (decide p)) x y = if p then x else y := fun p _ x y => by
    by_cases hp : p <;> simp [hp, Scalar.select]
  have hw : ∀ a, res_main_call8_v4 W (ix4 h i a 0) = BitVec.ofNat 32 (if Ideal.ofBits FTy.f32 3435052064#32 < (res_main_values W (ix3 h i a) : EReal) then σ a else (0 : Fin 2048)).1 := fun a => by
    have e : res_main_v75 W (ix4 h i a 0) = BitVec.ofNat 32 (if Ideal.ofBits FTy.f32 3435052064#32 < (res_main_values W (ix3 h i a) : EReal) then σ a else (0 : Fin 2048)).1 := by
      rw [h75, h54, hsel]
      split <;> rfl
    rw [h8, e, wrap_at]
  refine Eq.symm ((row_eq C s (fun j => v (ix3 h j d)) σ hσ (0 : Fin 2048) (Ideal.ofBits FTy.f32 3463342888#32) (Ideal.ofBits FTy.f32 3435052064#32)
    (Ideal.ofBits FTy.f32 3323740160#32) (Ideal.ofBits FTy.f32 4048155338#32) (Ideal.ofBits FTy.f32 1040187392#32) (Ideal.ofBits FTy.f32 1090519040#32) (Ideal.ofBits FTy.f32 814313567#32)
    ?_ ?_ ?_ ?_ c_eps ?_ ?_ (fun a => (res_main_values W (ix3 h i a) : EReal)) ?_ (fun a => (res_main_v60 W (ix3 h i a) : EReal)) h58 (fun a => (res_main_v66 W (ix3 h i a) : EReal)) ?_
    (fun a => if Ideal.ofBits FTy.f32 3435052064#32 < (res_main_values W (ix3 h i a) : EReal) then σ a else 0) (fun _ => rfl) (fun j => scaled (s j)) (fun _ => rfl) (expRow C s) ?_).trans ?_)
  · rw [c_e9, c_e8]; exact EReal.coe_le_coe_iff.mpr (by norm_num)
  · intro y; rw [c_8, c_eighth, Idealize.ShloMosaic.Ideal.div_coe (by norm_num)]
  · intro y hy
    rw [c_e8] at hy
    rw [c_eighth, c_e4]
    refine (mul_le_mul_of_nonneg_right hy (by exact_mod_cast (by norm_num : (0 : ℝ) ≤ 1 / 8))).trans ?_
    rw [← EReal.coe_mul]
    exact EReal.coe_le_coe_iff.mpr (by norm_num)
  · rw [c_e4]; exact c_e30
  · intro j hj a
    have := htop j hj a
    rw [hx, hx, pick_eq, pick_eq] at this
    exact this
  · convert hcard
  · intro a; rw [hv, pick_eq]
  · intro a; rw [h64, h54, hsel]
  · intro j; unfold expRow; simp only [pick_eq]
  · refine Finset.sum_congr rfl fun a _ => congrArg (@HMul.hMul EReal EReal EReal instHMul _) ?_
    have e1 : inRange (res_main_call8_v4 W (ix4 h i a 0)) = 1#1 := by rw [hw]; exact range_at _
    rw [e1]
    refine congrArg v (congrArg (fun r => ix3 h r d) (Fin.ext ?_))
    show _ = min (res_main_call8_v4 W (ix4 h i a 0)).toInt.toNat 2047
    rw [hw, nat_at]
    omega
end

end Cert.ReferenceIdeal.Value
-- ==== Proof.HeadEq.lean ====
/- The kernel's arithmetic and the reference's agree on real inputs with few candidates: the projections, one head's row of the
   attention, and the last product. -/
module

public import proofs.«01_k».proof.Proof.PrepValue
public import proofs.«01_k».proof.Proof.ProjArr
public import proofs.«01_k».proof.Proof.AttnValue
public import proofs.«01_k».proof.Proof.OprojValue
public import proofs.«01_k».proof.Proof.RefValue

@[expose] public section

set_option maxRecDepth 16384

noncomputable section

namespace Cert.Agree

open Idealize.ShloMosaic Idealize.ShloMosaic.TcCoe
open Cert.Rows Cert.ReferenceIdeal.Value Cert.KernelIdeal.Hand
open Cert.KernelIdeal (S1x2048x768 S12x768x16 S12x16x64 S12x64x16 S12x2048x64 S12x2048x128 S768x768 S2048x768)

/-- A column's head. -/
theorem headOf_col (h : Fin 12) (d : Fin 64) : headOf (col h d) = h := Fin.ext (by show (64 * h.1 + d.1) / 64 = h.1; omega)

/-- A column's lane. -/
theorem laneOf_col (h : Fin 12) (d : Fin 64) : laneOf (col h d) = d := Fin.ext (by show (64 * h.1 + d.1) % 64 = d.1; omega)

/-- The projection through the multiplied-out factors. -/
theorem wrow_weff (x : FVec Ideal S1x2048x768 .f32) (wu : FVec Ideal S12x768x16 .f32) (wv : FVec Ideal S12x16x64 .f32) (uu : FVec Ideal S12x64x16 .f32) (uv : FVec Ideal S12x16x64 .f32) (h : Fin 12) (s : Fin 2048) :
    wrow x (fun y : S768x768.Idx => weff wu wv uu uv (y 0) (y 1)) h s = kproj (rows x) (t3 wu) (t3 wv) (t3 uu) (t3 uv) h s := by
  funext d
  show (∑ e : Fin 768, x (ix3 0 s e) * weff wu wv uu uv e (col h d)) = _
  unfold weff
  rw [headOf_col, laneOf_col]
  rfl

/-- The value projection through the multiplied-out factors. -/
theorem wrow_veff (x : FVec Ideal S1x2048x768 .f32) (wu : FVec Ideal S12x768x16 .f32) (wv : FVec Ideal S12x16x64 .f32) (h : Fin 12) (s : Fin 2048) :
    wrow x (fun y : S768x768.Idx => veff wu wv (y 0) (y 1)) h s = kvproj (rows x) (t3 wu) (t3 wv) h s := by
  funext d
  show (∑ e : Fin 768, x (ix3 0 s e) * veff wu wv e (col h d)) = _
  unfold veff
  rw [headOf_col, laneOf_col]
  rfl

/-- An array of real numbers. -/
abbrev IsReal {s : Shape} (x : FVec Ideal s .f32) : Prop := ∀ i : s.Idx, ∃ r : ℝ, (x i : EReal) = (r : EReal)

/-- On real arrays the two spellings of the projection agree, and give real numbers. -/
theorem proj_real (x : FVec Ideal S1x2048x768 .f32) (wu : FVec Ideal S12x768x16 .f32) (wv : FVec Ideal S12x16x64 .f32) (uu : FVec Ideal S12x64x16 .f32) (uv : FVec Ideal S12x16x64 .f32)
    (hx : IsReal x) (hwu : IsReal wu) (hwv : IsReal wv) (huu : IsReal uu) (huv : IsReal uv) :
    ∃ y : Fin 12 → Fin 2048 → Fin 64 → ℝ,
      proj (rows x) (t3 wu) (t3 wv) (t3 uu) (t3 uv) = (fun h s k => (y h s k : EReal)) ∧ kproj (rows x) (t3 wu) (t3 wv) (t3 uu) (t3 uv) = (fun h s k => (y h s k : EReal)) := by
  choose x' hx using hx
  choose wu' hwu using hwu
  choose wv' hwv using hwv
  choose uu' huu using huu
  choose uv' huv using huv
  obtain ⟨y, h1, h2⟩ := proj_eq (fun s d => x' (ix3 0 s d)) (fun h d r => wu' (ix3 h d r)) (fun h d r => wv' (ix3 h d r)) (fun h d r => uu' (ix3 h d r)) (fun h d r => uv' (ix3 h d r))
  have e1 : rows x = fun s d => ((x' (ix3 0 s d) : ℝ) : EReal) := funext fun s => funext fun d => hx _
  have e2 : t3 wu = fun h d r => ((wu' (ix3 h d r) : ℝ) : EReal) := funext fun h => funext fun d => funext fun r => hwu _
  have e3 : t3 wv = fun h d r => ((wv' (ix3 h d r) : ℝ) : EReal) := funext fun h => funext fun d => funext fun r => hwv _
  have e4 : t3 uu = fun h d r => ((uu' (ix3 h d r) : ℝ) : EReal) := funext fun h => funext fun d => funext fun r => huu _
  have e5 : t3 uv = fun h d r => ((uv' (ix3 h d r) : ℝ) : EReal) := funext fun h => funext fun d => funext fun r => huv _
  rw [e1, e2, e3, e4, e5]
  exact ⟨y, h1, h2⟩

/-- On real arrays the two spellings of the value projection agree. -/
theorem vproj_real (x : FVec Ideal S1x2048x768 .f32) (wu : FVec Ideal S12x768x16 .f32) (wv : FVec Ideal S12x16x64 .f32)
    (hx : IsReal x) (hwu : IsReal wu) (hwv : IsReal wv) : kvproj (rows x) (t3 wu) (t3 wv) = vproj (rows x) (t3 wu) (t3 wv) := by
  choose x' hx using hx
  choose wu' hwu using hwu
  choose wv' hwv using hwv
  have e1 : rows x = fun s d => ((x' (ix3 0 s d) : ℝ) : EReal) := funext fun s => funext fun d => hx _
  have e2 : t3 wu = fun h d r => ((wu' (ix3 h d r) : ℝ) : EReal) := funext fun h => funext fun d => funext fun r => hwu _
  have e3 : t3 wv = fun h d r => ((wv' (ix3 h d r) : ℝ) : EReal) := funext fun h => funext fun d => funext fun r => hwv _
  rw [e1, e2, e3]
  exact (vproj_eq _ _ _).symm

/-- The hash of real rows is real. -/
theorem hash_real (q l : Fin 64 → ℝ) : ∃ n : Fin 64, bucket (Rows.hash (fun d => (q d : EReal)) (fun d => (l d : EReal)) * quarter) = (((n.1 : ℕ) : ℝ) : EReal) := by
  obtain ⟨n, hn⟩ := bucket_range ((∑ d, q d * l d) * (1 / 4))
  refine ⟨n, ?_⟩
  rw [← hn, EReal.coe_mul, coe_sum]
  simp only [EReal.coe_mul]
  rfl

section
variable (W : Valuation Cert.ReferenceIdeal.τ Cert.ReferenceIdeal.sig (Elt Idealize.ShloMosaic.Ideal))

/-- One head's row of the attention is the reference's. -/
theorem head_eq (qs ks : IVec S12x2048x128 8) (q k v vr : FVec Ideal S12x2048x64 .f32)
    (hq : ∀ h s, (fun d => q (ix3 h s d)) = qrow W h s) (hk : ∀ h s, (fun d => k (ix3 h s d)) = krow W h s) (hv : ∀ h s d, (v (ix3 h s d) : EReal) = vr (ix3 h s d))
    (hqs : ∀ h s x, qs (ix3 h s x) = sigq (qrow W h s) (dir W h) x) (hks : ∀ h s x, ks (ix3 h s x) = sigk (qrow W h s) (krow W h s) (dir W h) x)
    (hbq : ∀ h s, ∃ n : Fin 64, bucket (Rows.hash (qrow W h s) (dir W h) * quarter) = (((n.1 : ℕ) : ℝ) : EReal))
    (hbk : ∀ h s, ∃ n : Fin 64, bucket (Rows.hash (krow W h s) (dir W h) * quarter) = (((n.1 : ℕ) : ℝ) : EReal))
    (h : Fin 12) (i : Fin 2048) (d : Fin 64)
    (hcard : (@Finset.filter _ (fun j : Fin 2048 => cand (qrow W h i) (qrow W h j) (krow W h j) (dir W h)
        ∧ Ideal.ofBits FTy.f32 3435052064#32 < ∑ x : Fin 64, qrow W h i x * krow W h j x) (Classical.decPred _) Finset.univ).card ≤ 64) :
    attnAt qs ks q k v h i d = refHead W vr h i d := by
  unfold attnAt
  rw [refHead_eq W vr h i d (fun j => cand (qrow W h i) (qrow W h j) (krow W h j) (dir W h)) (fun j => ∑ x : Fin 64, qrow W h i x * krow W h j x) (v54_at W h i) hcard]
  have e1 : (fun j : Fin 2048 => 64 < ∑ x : Fin 128, (qs (ix3 h i x)).toInt * (ks (ix3 h j x)).toInt) = fun j => cand (qrow W h i) (qrow W h j) (krow W h j) (dir W h) := by
    funext j
    obtain ⟨nq, hnq⟩ := hbq h i
    obtain ⟨nk, hnk⟩ := hbk h j
    simp only [hqs, hks]
    exact propext (score_gt _ _ _ _ nq nk hnq hnk)
  have e2 : prodOf q k h i = fun j => ∑ x : Fin 64, qrow W h i x * krow W h j x := by
    funext j
    refine Finset.sum_congr rfl fun x _ => ?_
    rw [← hq, ← hk]
  have e3 : (fun j => (v (ix3 h j d) : EReal)) = fun j => vr (ix3 h j d) := funext fun j => hv h j d
  rw [e1, e2]
  exact congrArg (attnRow _ _) e3

/-- The last product, head by head, is the reference's. -/
theorem out_eq (ho : FVec Ideal S12x2048x64 .f32) (wo : FVec Ideal S768x768 .f32) (vr : FVec Ideal S12x2048x64 .f32) (hwo : wo = W (Proc.devRef .tc Cert.ReferenceIdeal.main_arg14))
    (hho : ∀ h i d, (ho (ix3 h i d) : EReal) = refHead W vr h i d) (s : Fin 2048) (c : Fin 768) :
    (∑ h : Fin 12, part ho wo s c h) = res81 W vr (ix3 0 s c) := by
  rw [res81_at, sum_cols]
  refine Finset.sum_congr rfl fun h _ => Finset.sum_congr rfl fun d _ => ?_
  subst hwo
  have e1 : (⟨(col h d).1 / 64, by omega⟩ : Fin 12) = h := headOf_col h d
  have e2 : (⟨(col h d).1 % 64, by omega⟩ : Fin 64) = d := laneOf_col h d
  rw [e1, e2, ← hho]
end

end Cert.Agree

end
-- ==== Proof.PreValue.lean ====
/- The precondition read back: its inputs are real numbers, and no row of any head has more than sixty-four candidates. -/
module

public import proofs.«01_k».proof.Pre_few_candidates
public import proofs.«01_k».proof.Proof.RefValue
public import Idealize.ShloMosaic.Lib.ReduceAll

@[expose] public section

set_option maxRecDepth 16384

noncomputable section

namespace Cert.Pre_few_candidates.Hand

open Cert.Pre_few_candidates
open Idealize.ShloMosaic Idealize.ShloMosaic.TcCoe
open Cert.Rows Cert.ReferenceIdeal.Value

variable [Facts]

/-- The word of infinity. -/
theorem c_top : Idealize.ShloMosaic.Ideal.ofBits .f32 2139095040#32 = ⊤ := by
  simp [Idealize.ShloMosaic.Ideal.ofBits, Idealize.ShloMosaic.Ideal.ieee]
/-- An array all of whose magnitudes lie below infinity is real. -/
theorem real_of_all {s : Shape} {axes : List (Fin s.rank)} (x : FVec Ideal s .f32) (b : S_.BroadcastsInDim s (![] : Fin 0 → Fin s.rank)) (h : s.ReducesTo axes S_) (hu : 0 < S_.numel)
    (e : Host.reduce IntOp.andi (cmpf .olt (Host.absf x) (broadcastInDim s ![] b (constant S_ .f32 0x7F800000#32))) (constantI S_ 1 1#1) h hu ix0 = 1#1) (i : s.Idx) :
    ∃ r : ℝ, (x i : EReal) = (r : EReal) := by
  haveI : Subsingleton S_.Idx := ⟨fun a b => funext fun k => k.elim0⟩
  have h1 := Host.reduce_andi_all _ _ h hu ix0 e i
  have h2 : BitVec.ofBool (decide (max (x i : EReal) (-(x i : EReal)) < Ideal.ofBits FTy.f32 2139095040#32)) = 1#1 := h1
  rw [c_top] at h2
  have h3 : max (x i : EReal) (-(x i : EReal)) < ⊤ := by
    by_contra hn
    rw [decide_eq_false hn] at h2
    exact absurd h2 (by decide)
  refine ⟨(x i : EReal).toReal, (EReal.coe_toReal ?_ ?_).symm⟩
  · exact fun ht => absurd h3 (by rw [ht]; simp)
  · exact fun ht => absurd h3 (by rw [ht]; simp)

/-- The remainder of an array by sixty-four at an index. -/
theorem rem_at (x : FVec Ideal S12x2048 .f32) (h : Fin 12) (s : Fin 2048) :
    (fn_remainder x (constantI S_ 32 64#32) (ix2 h s) : EReal)
      = pick (Idealize.ShloMosaic.Ideal.remf (x (ix2 h s)) ((64 : ℝ) : EReal) < 0) (Idealize.ShloMosaic.Ideal.remf (x (ix2 h s)) ((64 : ℝ) : EReal) + ((64 : ℝ) : EReal)) (Idealize.ShloMosaic.Ideal.remf (x (ix2 h s)) ((64 : ℝ) : EReal)) := by
  pointwise [fn_remainder, id]
  rw [sixty_four, fix_select _ _ rfl]

/-- Three tests and a fourth in one word. -/
theorem test4 (P Q R T : Prop) [Decidable P] [Decidable Q] [Decidable R] [Decidable T] (a b : EReal) :
    Scalar.select (IntOp.andi (IntOp.andi (BitVec.ofBool (decide P)) (IntOp.andi (IntOp.cmpi CmpIPredicate.ne (BitVec.ofBool (decide Q)) 0#1) (IntOp.cmpi CmpIPredicate.ne (BitVec.ofBool (decide R)) 0#1))) (BitVec.ofBool (decide T))) a b
      = pick ((P ∧ Q ∧ R) ∧ T) a b := by
  rw [pick_eq]
  by_cases h1 : P <;> by_cases h2 : Q <;> by_cases h3 : R <;> by_cases h4 : T <;> simp [h1, h2, h3, h4, Scalar.select, IntOp.andi, IntOp.cmpi]

/-- The floor of a quarter of the hash. -/
theorem hash_at (q : FVec Ideal S12x2048x64 .f32) (l : FVec Ideal S12x64 .f32) (h : Fin 12) (s : Fin 2048) :
    (Host.floor (Host.divf (Host.dotGeneral dot_S12x2048x64_S12x64_S12x2048_2_1_1_n_0_0 none q l) (broadcastInDim S12x2048 ![] Facts.bcast_S_S12x2048 (constant S_ .f32 0x40800000#32))) (ix2 h s) : EReal)
      = Idealize.ShloMosaic.Ideal.liftRound Int.floor (Rows.hash (fun d => q (ix3 h s d)) (fun d => l (ix2 h d)) * quarter) := by
  pointwise []
  rw [c_four, Idealize.ShloMosaic.Ideal.div_coe (by norm_num)]
  rfl

/-- The product of two signs. -/
theorem sgn_mul' (a b : EReal) : ((if 0 < a then (1 : EReal) else Ideal.ofBits FTy.f32 3212836864#32) * (if 0 < b then (1 : EReal) else Ideal.ofBits FTy.f32 3212836864#32))
    = if (0 < a ↔ 0 < b) then ((1 : ℝ) : EReal) else ((-1 : ℝ) : EReal) := by
  rw [c_neg1]
  exact sgn_mul a b

/-- The diagonal of every head's matrix at an index. -/
theorem diagonal_at (x : IVec S12x2048x2048 1) (h : Fin 12) (j : Fin 2048) : fn_diagonal (F := Ideal) x (ix2 h j) = x (ix3 h j j) :=
  diag_at x h j

/-- A sum of ones that is no more than sixty-four counts no more than sixty-four. -/
theorem card_le (P : Fin 2048 → Prop) (h : (∑ j, pick (P j) (1 : EReal) 0) ≤ ((64 : ℝ) : EReal)) :
    (@Finset.filter _ P (Classical.decPred _) Finset.univ).card ≤ 64 := by
  classical
  have e : (∑ j, pick (P j) (1 : EReal) 0) = (((Finset.univ.filter P).card : ℝ) : EReal) := by
    rw [← Finset.sum_boole, coe_sum]
    refine Finset.sum_congr rfl fun j _ => ?_
    rw [pick_eq]
    split <;> rfl
  rw [e, EReal.coe_le_coe_iff] at h
  have h' : (Finset.univ.filter P).card ≤ 64 := by exact_mod_cast h
  convert h'

/-- The count of the candidates, with the finiteness of the inputs. -/
theorem count_at (f : IVec S_ 1) (q k : FVec Ideal S12x2048x64 .f32) (l : FVec Ideal S12x64 .f32) (h : Fin 12) (s : Fin 2048) :
    fn_part5 f q k (Host.dotGeneral dot_S12x2048x64_S12x2048x64_S12x2048x2048_2_2_1_1_0_0 none q k)
      (fn_remainder (Host.floor (Host.divf (Host.dotGeneral dot_S12x2048x64_S12x64_S12x2048_2_1_1_n_0_0 none q l) (broadcastInDim S12x2048 ![] Facts.bcast_S_S12x2048 (constant S_ .f32 0x40800000#32)))) (constantI S_ 32 64#32))
      (Host.dotGeneral dot_S12x2048x64_S12x64_S12x2048_2_1_1_n_0_0 none k l) (broadcastInDim S12x2048 ![] Facts.bcast_S_S12x2048 (constant S_ .f32 0x40800000#32)) (ix2 h s)
    = IntOp.andi (f ix0) (BitVec.ofBool (decide ((∑ j : Fin 2048, pick (cand (fun d => q (ix3 h s d)) (fun d => q (ix3 h j d)) (fun d => k (ix3 h j d)) (fun d => l (ix2 h d))
        ∧ Ideal.ofBits FTy.f32 3435052064#32 < ∑ x : Fin 64, @HMul.hMul EReal EReal EReal instHMul (q (ix3 h s x)) (k (ix3 h j x))) (1 : EReal) 0) ≤ ((64 : ℝ) : EReal)))) := by
  unfold fn_part5 fn_part6 fn_part7
  dsimp only
  have h0 := rem_at (Host.floor (Host.divf (Host.dotGeneral dot_S12x2048x64_S12x64_S12x2048_2_1_1_n_0_0 none q l) (broadcastInDim S12x2048 ![] Facts.bcast_S_S12x2048 (constant S_ .f32 0x40800000#32))))
  have h1 := rem_at (Host.floor (Host.divf (Host.dotGeneral dot_S12x2048x64_S12x64_S12x2048_2_1_1_n_0_0 none k l) (broadcastInDim S12x2048 ![] Facts.bcast_S_S12x2048 (constant S_ .f32 0x40800000#32))))
  have f0 := hash_at q l
  have f1 := hash_at k l
  generalize (Host.floor (Host.divf (Host.dotGeneral dot_S12x2048x64_S12x64_S12x2048_2_1_1_n_0_0 none q l) (broadcastInDim S12x2048 ![] Facts.bcast_S_S12x2048 (constant S_ .f32 0x40800000#32)))) = y0 at *
  generalize (Host.floor (Host.divf (Host.dotGeneral dot_S12x2048x64_S12x64_S12x2048_2_1_1_n_0_0 none k l) (broadcastInDim S12x2048 ![] Facts.bcast_S_S12x2048 (constant S_ .f32 0x40800000#32)))) = y1 at *
  generalize fn_remainder y0 (constantI S_ 32 64#32) = m0 at *
  generalize fn_remainder y1 (constantI S_ 32 64#32) = m1 at *
  generalize hD : fn_diagonal (F := Ideal) _ = D
  have hi : ∀ j, D (ix2 h j) = BitVec.ofBool (@decide (∀ d : Fin 64, d.1 < 8 → (0 < (q (ix3 h j d) : EReal) ↔ 0 < (k (ix3 h j d) : EReal))) (Classical.propDecidable _)) := by
    intro j
    rw [← hD, diagonal_at]
    pointwise [fn_where, id]
    simp only [sgn_mul', c_7_5]
    refine congrArg BitVec.ofBool (decide_eq_decide.mpr ((sign_sum _ _ (by norm_num) (by norm_num)).trans ?_))
    exact ⟨fun hh d hd => hh ⟨d.1, hd⟩, fun hh x => hh ⟨x.1, by omega⟩ x.2⟩
  clear hD
  pointwise [fn_where, fn_where_0, id]
  rw [c_64]
  refine congrArg (fun e : EReal => IntOp.andi (f ix0) (BitVec.ofBool (decide (e ≤ ((64 : ℝ) : EReal))))) (Finset.sum_congr rfl fun j _ => ?_)
  simp only [sgn_mul', c_63_5]
  rw [hi, test4, h0, h1, f0, f1]
  refine pick_congr (and_congr ?_ Iff.rfl) _ _
  unfold cand
  refine and_congr (iff_of_eq ?_) (and_congr (sign_sum _ _ (by norm_num) (by norm_num)) Iff.rfl)
  simp only [pick_eq]
  rfl

/-- The projections of the precondition at an index. -/
theorem proj_at (x : FVec Ideal S1x2048x768 .f32) (wu : FVec Ideal S12x768x16 .f32) (wv : FVec Ideal S12x16x64 .f32) (uu : FVec Ideal S12x64x16 .f32) (uv : FVec Ideal S12x16x64 .f32)
    (h : Fin 12) (s : Fin 2048) (k : Fin 64) :
    (Host.dotGeneral dot_S12x16x2048_S12x16x64_S12x2048x64_1_1_2_2_0_0 none (Host.dotGeneral dot_S12x64x16_S12x2048x64_S12x16x2048_1_2_2_1_0_0 none uu
      (Host.dotGeneral dot_S12x16x2048_S12x16x64_S12x2048x64_1_1_2_2_0_0 none (Host.dotGeneral dot_S12x768x16_S2048x768_S12x16x2048_1_1_02_0_n_n none wu (shapeCast S2048x768 x Facts.shapeCasts_S1x2048x768_S2048x768)) wv)) uv (ix3 h s k) : EReal)
      = proj (rows x) (t3 wu) (t3 wv) (t3 uu) (t3 uv) h s k := by
  pointwise []
  rfl

/-- The bound on the count, over other names for the projections. -/
theorem card_swap (q k : FVec Ideal S12x2048x64 .f32) (l : Fin 12 → Fin 64 → EReal) (Q K : T3 12 2048 64)
    (hq : ∀ h s d, (q (ix3 h s d) : EReal) = Q h s d) (hk : ∀ h s d, (k (ix3 h s d) : EReal) = K h s d) (h : Fin 12) (s : Fin 2048)
    (hle : (@Finset.filter _ (fun j : Fin 2048 => cand (fun d => q (ix3 h s d)) (fun d => q (ix3 h j d)) (fun d => k (ix3 h j d)) (l h)
        ∧ Ideal.ofBits FTy.f32 3435052064#32 < ∑ x : Fin 64, @HMul.hMul EReal EReal EReal instHMul (q (ix3 h s x)) (k (ix3 h j x))) (Classical.decPred _) Finset.univ).card ≤ 64) :
    (@Finset.filter _ (fun j : Fin 2048 => cand (Q h s) (Q h j) (K h j) (l h)
        ∧ Ideal.ofBits FTy.f32 3435052064#32 < ∑ x : Fin 64, Q h s x * K h j x) (Classical.decPred _) Finset.univ).card ≤ 64 := by
  obtain rfl : Q = fun h s d => (q (ix3 h s d) : EReal) := funext fun h => funext fun s => funext fun d => (hq h s d).symm
  obtain rfl : K = fun h s d => (k (ix3 h s d) : EReal) := funext fun h => funext fun s => funext fun d => (hk h s d).symm
  exact hle

/-- A finite array as real numbers. -/
abbrev Real3 {s : Shape} (x : FVec Ideal s .f32) : Prop := ∀ i : s.Idx, ∃ r : ℝ, (x i : EReal) = (r : EReal)

/-- What the precondition gives. -/
theorem read (a0 a1 a2 : FVec Ideal S1x2048x768 .f32) (a3 : FVec Ideal S12x768x16 .f32) (a4 : FVec Ideal S12x16x64 .f32) (a5 : FVec Ideal S12x64x16 .f32) (a6 : FVec Ideal S12x16x64 .f32)
    (a7 : FVec Ideal S12x768x16 .f32) (a8 : FVec Ideal S12x16x64 .f32) (a9 : FVec Ideal S12x64x16 .f32) (a10 : FVec Ideal S12x16x64 .f32) (a11 : FVec Ideal S12x768x16 .f32) (a12 : FVec Ideal S12x16x64 .f32)
    (a13 : FVec Ideal S12x64 .f32) (a14 : FVec Ideal S768x768 .f32)
    (e : fn (F := Ideal) a0 a1 a2 a3 a4 a5 a6 a7 a8 a9 a10 a11 a12 a13 a14 = fun _ => 1#1) :
    (Real3 a0 ∧ Real3 a1 ∧ Real3 a2 ∧ Real3 a3 ∧ Real3 a4 ∧ Real3 a5 ∧ Real3 a6 ∧ Real3 a7 ∧ Real3 a8 ∧ Real3 a9 ∧ Real3 a10 ∧ Real3 a11 ∧ Real3 a12 ∧ Real3 a13)
    ∧ ∀ (h : Fin 12) (s : Fin 2048), (@Finset.filter _ (fun j =>
        cand (proj (rows a0) (t3 a3) (t3 a4) (t3 a5) (t3 a6) h s) (proj (rows a0) (t3 a3) (t3 a4) (t3 a5) (t3 a6) h j) (proj (rows a1) (t3 a7) (t3 a8) (t3 a9) (t3 a10) h j) (fun d => a13 (ix2 h d))
        ∧ Ideal.ofBits FTy.f32 3435052064#32 < ∑ x : Fin 64, proj (rows a0) (t3 a3) (t3 a4) (t3 a5) (t3 a6) h s x * proj (rows a1) (t3 a7) (t3 a8) (t3 a9) (t3 a10) h j x) (Classical.decPred _) Finset.univ).card ≤ 64 := by
  have hall : ∀ (h : Fin 12) (s : Fin 2048), fn (F := Ideal) a0 a1 a2 a3 a4 a5 a6 a7 a8 a9 a10 a11 a12 a13 a14 (ix2 h s) = 1#1 := fun h s => congrFun e (ix2 h s)
  unfold fn fn_part1 fn_part2 fn_part3 fn_part4 at hall
  dsimp only at hall
  have hboth := fun h s => IntOp.andi_eq_one.1 ((count_at _ _ _ _ h s).symm.trans (hall h s))
  refine ⟨?_, fun h s => ?_⟩
  · have hf := (hboth 0 0).1
    obtain ⟨hf, h13⟩ := IntOp.andi_eq_one.1 hf
    obtain ⟨hf, h12⟩ := IntOp.andi_eq_one.1 hf
    obtain ⟨hf, h11⟩ := IntOp.andi_eq_one.1 hf
    obtain ⟨hf, h10⟩ := IntOp.andi_eq_one.1 hf
    obtain ⟨hf, h9⟩ := IntOp.andi_eq_one.1 hf
    obtain ⟨hf, h8⟩ := IntOp.andi_eq_one.1 hf
    obtain ⟨hf, h7⟩ := IntOp.andi_eq_one.1 hf
    obtain ⟨hf, h6⟩ := IntOp.andi_eq_one.1 hf
    obtain ⟨hf, h5⟩ := IntOp.andi_eq_one.1 hf
    obtain ⟨hf, h4⟩ := IntOp.andi_eq_one.1 hf
    obtain ⟨hf, h3⟩ := IntOp.andi_eq_one.1 hf
    obtain ⟨hf, h2⟩ := IntOp.andi_eq_one.1 hf
    obtain ⟨hf, h1⟩ := IntOp.andi_eq_one.1 hf
    obtain ⟨-, h0⟩ := IntOp.andi_eq_one.1 hf
    exact ⟨real_of_all _ _ _ _ h0, real_of_all _ _ _ _ h1, real_of_all _ _ _ _ h2, real_of_all _ _ _ _ h3, real_of_all _ _ _ _ h4, real_of_all _ _ _ _ h5, real_of_all _ _ _ _ h6,
      real_of_all _ _ _ _ h7, real_of_all _ _ _ _ h8, real_of_all _ _ _ _ h9, real_of_all _ _ _ _ h10, real_of_all _ _ _ _ h11, real_of_all _ _ _ _ h12, real_of_all _ _ _ _ h13⟩
  · have hc := (hboth h s).2
    have hle := card_le _ (of_decide_eq_true (by
      by_contra hn
      rw [Bool.not_eq_true] at hn
      rw [hn] at hc
      exact absurd hc (by decide)))
    exact card_swap _ _ (fun h d => a13 (ix2 h d)) _ _ (proj_at a0 a3 a4 a5 a6) (proj_at a1 a7 a8 a9 a10) h s hle

end Cert.Pre_few_candidates.Hand

end
-- ==== Proof.Final.lean ====
/- The kernel's result is the reference's: the four calls' arrays put one after the other, against the reference's term. -/
module

public import proofs.«01_k».proof.Proof.HeadEq
public import proofs.«01_k».proof.Proof.PreValue
public import proofs.«01_k».proof.Proof.KernelIdealWhole

@[expose] public section

set_option maxRecDepth 16384

noncomputable section

namespace Cert.KernelIdeal.Hand

open Cert.KernelIdeal Cert.KernelIdeal.Gen
open Idealize.ShloMosaic Idealize.ShloMosaic.TcCoe Idealize.SL.Sem
open Cert.Rows Cert.Agree

variable (m : (ℓ : Loc nD τ sig) → Buf (Elt Idealize.ShloMosaic.Ideal) ℓ) (ρ : Dev nD → PrngReg) (c : Dev nD)

/-- The queries' matrix after the first call. -/
theorem V2_v0_0 : V2 m ρ c main_v0_0 = fun y : S768x768.Idx => weff (m ((c : Thread nD τ).loc main_arg3)) (m ((c : Thread nD τ).loc main_arg4)) (m ((c : Thread nD τ).loc main_arg5)) (m ((c : Thread nD τ).loc main_arg6)) (y 0) (y 1) :=
  (W2_of m ρ c main_v0_0 (by decide)).trans ((W1_arr m ρ c 10).trans (arr0_10 _ c))

/-- The keys' matrix after the first call. -/
theorem V2_v0_1 : V2 m ρ c main_v0_1 = fun y : S768x768.Idx => weff (m ((c : Thread nD τ).loc main_arg7)) (m ((c : Thread nD τ).loc main_arg8)) (m ((c : Thread nD τ).loc main_arg9)) (m ((c : Thread nD τ).loc main_arg10)) (y 0) (y 1) :=
  (W2_of m ρ c main_v0_1 (by decide)).trans ((W1_arr m ρ c 11).trans (arr0_11 _ c))

/-- The values' matrix after the first call. -/
theorem V2_v0_2 : V2 m ρ c main_v0_2 = fun y : S768x768.Idx => veff (m ((c : Thread nD τ).loc main_arg11)) (m ((c : Thread nD τ).loc main_arg12)) (y 0) (y 1) :=
  (W2_of m ρ c main_v0_2 (by decide)).trans ((W1_arr m ρ c 12).trans (arr0_12 _ c))

/-- The directions laid out in one row. -/
theorem V2_v1 : V2 m ρ c main_v1 = shapeCast S1x768 (m ((c : Thread nD τ).loc main_arg13)) shapeCasts_S12x64_S1x768 := by
  have h : V2 m ρ c main_v1 = shapeCast S1x768 (W1 m ρ c (Proc.devRef .tc main_arg13)) shapeCasts_S12x64_S1x768 := rfl
  rw [h, W1_args m ρ c main_arg13 (by decide)]

/-- A head's direction from the row. -/
theorem lrow_v1 (l : FVec Ideal S12x64 .f32) (h : Fin 12) : lrow (shapeCast S1x768 l shapeCasts_S12x64_S1x768) h = fun d => (l (ix2 h d) : EReal) := by
  funext d
  unfold lrow
  pointwise []
  exact congrArg l (congrArg₂ ix2 (headOf_col h d) (laneOf_col h d))

/-- The result is the last call's array with an axis of size one put before it. -/
theorem W6_v5 (s : Fin 2048) (e : Fin 768) : (W6 m ρ c (Proc.devRef .tc main_v5) : FVec Ideal S1x2048x768 .f32) (ix3 0 s e)
    = ∑ h : Fin 12, part (V4 m ρ c main_v3) (m ((c : Thread nD τ).loc main_arg14)) s e h := by
  have h : W6 m ρ c (Proc.devRef .tc main_v5) = shapeCast S1x2048x768 (W5 m ρ c (Proc.devRef .tc main_v4)) shapeCasts_S2048x768_S1x2048x768 := rfl
  have h4 : W5 m ρ c (Proc.devRef .tc main_v4) = fun y : S2048x768.Idx => ∑ h : Fin 12, part (V4 m ρ c main_v3) (V4 m ρ c main_arg14) (y 0) (y 1) h :=
    (W5_arr m ρ c 2).trans (arr3_2 _ c)
  have h14 : V4 m ρ c main_arg14 = m ((c : Thread nD τ).loc main_arg14) := W4_args m ρ c main_arg14 (by decide)
  rw [h, h4, h14]
  generalize (V4 m ρ c main_v3) = ho
  generalize m ((c : Thread nD τ).loc main_arg14) = wo
  pointwise []

/-- The queries after the second call. -/
theorem V3_q (h : Fin 12) (s : Fin 2048) : (fun d => (V3 m ρ c main_v2_0 : FVec Ideal S12x2048x64 .f32) (ix3 h s d)) = wrow (m ((c : Thread nD τ).loc main_arg0)) (V2 m ρ c main_v0_0) h s := by
  have e : V3 m ρ c main_v2_0 = _ := (W3_arr m ρ c 7).trans (arr1_7 (V2 m ρ) c)
  have e0 : V2 m ρ c main_arg0 = m ((c : Thread nD τ).loc main_arg0) := W2_args m ρ c main_arg0 (by decide)
  rw [e, e0]
  rfl

/-- The keys after the second call. -/
theorem V3_k (h : Fin 12) (s : Fin 2048) : (fun d => (V3 m ρ c main_v2_1 : FVec Ideal S12x2048x64 .f32) (ix3 h s d)) = wrow (m ((c : Thread nD τ).loc main_arg1)) (V2 m ρ c main_v0_1) h s := by
  have e : V3 m ρ c main_v2_1 = _ := (W3_arr m ρ c 8).trans (arr1_8 (V2 m ρ) c)
  have e0 : V2 m ρ c main_arg1 = m ((c : Thread nD τ).loc main_arg1) := W2_args m ρ c main_arg1 (by decide)
  rw [e, e0]
  rfl

/-- The values after the second call. -/
theorem V3_v (h : Fin 12) (s : Fin 2048) : (fun d => (V3 m ρ c main_v2_2 : FVec Ideal S12x2048x64 .f32) (ix3 h s d)) = wrow (m ((c : Thread nD τ).loc main_arg2)) (V2 m ρ c main_v0_2) h s := by
  have e : V3 m ρ c main_v2_2 = _ := (W3_arr m ρ c 9).trans (arr1_9 (V2 m ρ) c)
  have e0 : V2 m ρ c main_arg2 = m ((c : Thread nD τ).loc main_arg2) := W2_args m ρ c main_arg2 (by decide)
  rw [e, e0]
  rfl

/-- The queries' signatures after the second call. -/
theorem V3_qs (h : Fin 12) (s : Fin 2048) (x : Fin 128) : (V3 m ρ c main_v2_3 : IVec S12x2048x128 8) (ix3 h s x)
    = sigq (wrow (m ((c : Thread nD τ).loc main_arg0)) (V2 m ρ c main_v0_0) h s) (fun d => (m ((c : Thread nD τ).loc main_arg13) : FVec Ideal S12x64 .f32) (ix2 h d)) x := by
  have e : V3 m ρ c main_v2_3 = _ := (W3_arr m ρ c 10).trans (arr1_10 (V2 m ρ) c)
  have e0 : V2 m ρ c main_arg0 = m ((c : Thread nD τ).loc main_arg0) := W2_args m ρ c main_arg0 (by decide)
  rw [e, e0, V2_v1]
  exact congrArg (fun l => sigq _ l x) (lrow_v1 _ h)

/-- The keys' signatures after the second call. -/
theorem V3_ks (h : Fin 12) (s : Fin 2048) (x : Fin 128) : (V3 m ρ c main_v2_4 : IVec S12x2048x128 8) (ix3 h s x)
    = sigk (wrow (m ((c : Thread nD τ).loc main_arg0)) (V2 m ρ c main_v0_0) h s) (wrow (m ((c : Thread nD τ).loc main_arg1)) (V2 m ρ c main_v0_1) h s)
        (fun d => (m ((c : Thread nD τ).loc main_arg13) : FVec Ideal S12x64 .f32) (ix2 h d)) x := by
  have e : V3 m ρ c main_v2_4 = _ := (W3_arr m ρ c 11).trans (arr1_11 (V2 m ρ) c)
  have e0 : V2 m ρ c main_arg0 = m ((c : Thread nD τ).loc main_arg0) := W2_args m ρ c main_arg0 (by decide)
  have e1 : V2 m ρ c main_arg1 = m ((c : Thread nD τ).loc main_arg1) := W2_args m ρ c main_arg1 (by decide)
  rw [e, e0, e1, V2_v1]
  exact congrArg (fun l => sigk _ _ l x) (lrow_v1 _ h)

/-- The attention's array after the third call. -/
theorem V4_v3 (h : Fin 12) (i : Fin 2048) (d : Fin 64) : ((V4 m ρ c main_v3 : FVec Ideal S12x2048x64 .f32) (ix3 h i d) : EReal)
    = attnAt (V3 m ρ c main_v2_3) (V3 m ρ c main_v2_4) (V3 m ρ c main_v2_0) (V3 m ρ c main_v2_1) (V3 m ρ c main_v2_2) h i d := by
  have e : V4 m ρ c main_v3 = _ := (W4_arr m ρ c 5).trans (arr2_5 (V3 m ρ) c)
  rw [e]
  rfl

open Cert.ReferenceIdeal.Value in
/-- Where the precondition holds, the kernel's result is the reference's. -/
theorem result_eq [Cert.Pre_few_candidates.Facts] (W : Valuation Cert.ReferenceIdeal.τ Cert.ReferenceIdeal.sig (Elt Idealize.ShloMosaic.Ideal))
    (h0 : W (Proc.devRef .tc Cert.ReferenceIdeal.main_arg0) = m ((c : Thread nD τ).loc main_arg0))
    (h1 : W (Proc.devRef .tc Cert.ReferenceIdeal.main_arg1) = m ((c : Thread nD τ).loc main_arg1))
    (h2 : W (Proc.devRef .tc Cert.ReferenceIdeal.main_arg2) = m ((c : Thread nD τ).loc main_arg2))
    (h3 : W (Proc.devRef .tc Cert.ReferenceIdeal.main_arg3) = m ((c : Thread nD τ).loc main_arg3))
    (h4 : W (Proc.devRef .tc Cert.ReferenceIdeal.main_arg4) = m ((c : Thread nD τ).loc main_arg4))
    (h5 : W (Proc.devRef .tc Cert.ReferenceIdeal.main_arg5) = m ((c : Thread nD τ).loc main_arg5))
    (h6 : W (Proc.devRef .tc Cert.ReferenceIdeal.main_arg6) = m ((c : Thread nD τ).loc main_arg6))
    (h7 : W (Proc.devRef .tc Cert.ReferenceIdeal.main_arg7) = m ((c : Thread nD τ).loc main_arg7))
    (h8 : W (Proc.devRef .tc Cert.ReferenceIdeal.main_arg8) = m ((c : Thread nD τ).loc main_arg8))
    (h9 : W (Proc.devRef .tc Cert.ReferenceIdeal.main_arg9) = m ((c : Thread nD τ).loc main_arg9))
    (h10 : W (Proc.devRef .tc Cert.ReferenceIdeal.main_arg10) = m ((c : Thread nD τ).loc main_arg10))
    (h11 : W (Proc.devRef .tc Cert.ReferenceIdeal.main_arg11) = m ((c : Thread nD τ).loc main_arg11))
    (h12 : W (Proc.devRef .tc Cert.ReferenceIdeal.main_arg12) = m ((c : Thread nD τ).loc main_arg12))
    (h13 : W (Proc.devRef .tc Cert.ReferenceIdeal.main_arg13) = m ((c : Thread nD τ).loc main_arg13))
    (h14 : W (Proc.devRef .tc Cert.ReferenceIdeal.main_arg14) = m ((c : Thread nD τ).loc main_arg14))
    (hpre : Cert.Pre_few_candidates.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) = fun _ => 1#1)
    (vr : FVec Ideal S12x2048x64 .f32) (hvr : ∀ h s d, (vr (ix3 h s d) : EReal) = vproj (rows (W (Proc.devRef .tc Cert.ReferenceIdeal.main_arg2))) (t3 (W (Proc.devRef .tc Cert.ReferenceIdeal.main_arg11))) (t3 (W (Proc.devRef .tc Cert.ReferenceIdeal.main_arg12))) h s d) :
    (W6 m ρ c (Proc.devRef .tc main_v5) : FVec Ideal S1x2048x768 .f32) = res81 W vr := by
  obtain ⟨⟨f0, f1, f2, f3, f4, f5, f6, f7, f8, f9, f10, f11, f12, f13⟩, hcard⟩ := Cert.Pre_few_candidates.Hand.read _ _ _ _ _ _ _ _ _ _ _ _ _ _ _ hpre
  obtain ⟨yq, hq1, hq2⟩ := proj_real _ _ _ _ _ f0 f3 f4 f5 f6
  obtain ⟨yk, hk1, hk2⟩ := proj_real _ _ _ _ _ f1 f7 f8 f9 f10
  have hvk := vproj_real _ _ _ f2 f11 f12
  choose l hl using f13
  have hdir : ∀ h, dir W h = fun d => ((l (ix2 h d) : ℝ) : EReal) := fun h => by
    unfold dir
    rw [h13]
    exact funext fun d => hl _
  have hdir' : ∀ h, (fun d => (m ((c : Thread nD τ).loc main_arg13) : FVec Ideal S12x64 .f32) (ix2 h d)) = dir W h := fun h => by
    unfold dir
    rw [h13]
  have hqr : ∀ h s, qrow W h s = proj (rows (m ((c : Thread nD τ).loc main_arg0))) (t3 (m ((c : Thread nD τ).loc main_arg3))) (t3 (m ((c : Thread nD τ).loc main_arg4))) (t3 (m ((c : Thread nD τ).loc main_arg5))) (t3 (m ((c : Thread nD τ).loc main_arg6))) h s := fun h s => by
    funext d
    unfold qrow
    rw [v4_at, h0, h3, h4, h5, h6]
  have hkr : ∀ h s, krow W h s = proj (rows (m ((c : Thread nD τ).loc main_arg1))) (t3 (m ((c : Thread nD τ).loc main_arg7))) (t3 (m ((c : Thread nD τ).loc main_arg8))) (t3 (m ((c : Thread nD τ).loc main_arg9))) (t3 (m ((c : Thread nD τ).loc main_arg10))) h s := fun h s => by
    funext d
    unfold krow
    rw [v9_at, h1, h7, h8, h9, h10]
  have hwq : ∀ h s, wrow (m ((c : Thread nD τ).loc main_arg0)) (V2 m ρ c main_v0_0) h s = qrow W h s := fun h s => by
    rw [V2_v0_0, wrow_weff, hqr, hq1, hq2]
  have hwk : ∀ h s, wrow (m ((c : Thread nD τ).loc main_arg1)) (V2 m ρ c main_v0_1) h s = krow W h s := fun h s => by
    rw [V2_v0_1, wrow_weff, hkr, hk1, hk2]
  have hwv : ∀ h s, wrow (m ((c : Thread nD τ).loc main_arg2)) (V2 m ρ c main_v0_2) h s = fun d => (vr (ix3 h s d) : EReal) := fun h s => by
    rw [V2_v0_2, wrow_veff, hvk]
    funext d
    rw [hvr, h2, h11, h12]
  funext y
  obtain ⟨z, s, e, rfl⟩ : ∃ (i : Fin 1) (j : Fin 2048) (k : Fin 768), y = ix3 i j k := ⟨y 0, y 1, y 2, eq_ix3 y⟩
  obtain rfl : z = 0 := Subsingleton.elim _ _
  rw [W6_v5]
  refine out_eq W _ _ vr h14.symm (fun h i d => ?_) s e
  rw [V4_v3]
  refine head_eq W _ _ _ _ _ vr (fun h s => (V3_q m ρ c h s).trans (hwq h s)) (fun h s => (V3_k m ρ c h s).trans (hwk h s)) (fun h s d => congrFun ((V3_v m ρ c h s).trans (hwv h s)) d)
    (fun h s x => by rw [V3_qs, hwq, hdir']) (fun h s x => by rw [V3_ks, hwq, hwk, hdir'])
    (fun h s => by rw [hqr, hq1, hdir]; exact hash_real _ _) (fun h s => by rw [hkr, hk1, hdir]; exact hash_real _ _) h i d ?_
  refine (congrArg (fun P : Fin 2048 → Prop => (@Finset.filter _ P (Classical.decPred _) Finset.univ).card) (funext fun j => ?_)).trans_le (hcard h i)
  rw [hqr h i, hqr h j, hkr h j, ← hdir' h]

end Cert.KernelIdeal.Hand

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_few_candidates
public import proofs.«01_k».proof.Proof.KernelWhole
public import proofs.«01_k».proof.Proof.KernelIdealWhole
public import proofs.«01_k».proof.Proof.Final
public import Idealize.ShloMosaic.Adequacy
public import Idealize.ShloMosaic.Init
public import Idealize.ShloMosaic.Lib.Claim

@[expose] public section

noncomputable section

namespace Cert.Proof

open Idealize.ShloMosaic Idealize.SL.Sem

/-- The reference's frame. -/
theorem frame_r : Cert.quiescent_ReferenceIdeal (hReferenceIdeal := Cert.ReferenceIdeal.Gen.facts) := by
  intro m g _
  exact (θ_run Cert.ReferenceIdeal.defs _ _).mono (fun r h => ⟨fun c => (h c).2, sem_eq_zero_of_no_sems (by decide) r.2⟩)
    (Cert.ReferenceIdeal.Value.run m g)

/-- The kernel's result and the reference's are equal wherever the precondition holds. -/
theorem same_result : Cert.algebraic_KernelIdeal_ReferenceIdeal_pre_few_candidates (hKernelIdeal := Cert.KernelIdeal.Gen.facts)
    (hReferenceIdeal := Cert.ReferenceIdeal.Gen.facts) (hPre_few_candidates := Cert.Pre_few_candidates.Gen.facts) := by
  intro m g m' g' hpre hagree
  refine ⟨fun c => Cert.KernelIdeal.Hand.W6 m g c (Proc.devRef .tc Cert.KernelIdeal.main_v5), (θ_run Cert.KernelIdeal.defs _ _).mono (fun r h => h.1) (Cert.KernelIdeal.Hand.result_run m g), ?_⟩
  refine (θ_run Cert.ReferenceIdeal.defs _ _).mono (fun r h c => ⟨(h c).1.trans ?_, (h c).2⟩) (Cert.ReferenceIdeal.Value.run m' g')
  obtain ⟨h0, h1, h2, h3, h4, h5, h6, h7, h8, h9, h10, h11, h12, h13, h14⟩ := hagree c
  haveI := Cert.Pre_few_candidates.Gen.facts
  refine Eq.symm ((Cert.KernelIdeal.Hand.result_eq m g c (StableHlo.launchContents m' c) h0 h1 h2 h3 h4 h5 h6 h7 h8 h9 h10 h11 h12 h13 h14 (hpre c)
    _ (Cert.ReferenceIdeal.Value.v12_at _ _ _)).trans ?_)
  rfl

/-- Every claim. -/
theorem claim : Cert.Claim := ⟨Cert.Kernel.Gen.facts, Cert.KernelIdeal.Gen.facts, Cert.ReferenceIdeal.Gen.facts, Cert.Pre_few_candidates.Gen.facts,
  fun m ρ _ => Cert.Kernel.Hand.frame m ρ, fun m ρ _ => Cert.KernelIdeal.Hand.frame m ρ, fun m ρ _ => Cert.KernelIdeal.Hand.frame m ρ, frame_r, fun m ρ _ => frame_r m ρ trivial, trivial, same_result⟩

end Cert.Proof

end
